-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Kernel11Ideal_rms_finite [hPre_rms_finite : Cert.Pre_rms_finite.Facts] (m : (ℓ : Loc Cert.Kernel11Ideal.nD Cert.Kernel11Ideal.τ Cert.Kernel11Ideal.sig) → Buf (Elt Ideal) ℓ) : Prop :=
  ∀ c : Dev Cert.Kernel11Ideal.nD,
    (Cert.Pre_rms_finite.fn (F := Ideal) (m ((c.tc : Thread Cert.Kernel11Ideal.nD Cert.Kernel11Ideal.τ).loc Cert.Kernel11Ideal.main_arg0)) (m ((c.tc : Thread Cert.Kernel11Ideal.nD Cert.Kernel11Ideal.τ).loc Cert.Kernel11Ideal.main_arg1)) (m ((c.tc : Thread Cert.Kernel11Ideal.nD Cert.Kernel11Ideal.τ).loc Cert.Kernel11Ideal.main_arg2)) (m ((c.tc : Thread Cert.Kernel11Ideal.nD Cert.Kernel11Ideal.τ).loc Cert.Kernel11Ideal.main_arg3))) = (fun _ => 1#1)

def Pre_Reference11Ideal (m : (ℓ : Loc Cert.Reference11Ideal.nD Cert.Reference11Ideal.τ Cert.Reference11Ideal.sig) → Buf (Elt Ideal) ℓ) : Prop :=
  True

def Pre_Reference11Ideal_rms_finite [hPre_rms_finite : Cert.Pre_rms_finite.Facts] (m : (ℓ : Loc Cert.Reference11Ideal.nD Cert.Reference11Ideal.τ Cert.Reference11Ideal.sig) → Buf (Elt Ideal) ℓ) : Prop :=
  ∀ c : Dev Cert.Reference11Ideal.nD,
    (Cert.Pre_rms_finite.fn (F := Ideal) (m ((c.tc : Thread Cert.Reference11Ideal.nD Cert.Reference11Ideal.τ).loc Cert.Reference11Ideal.main_arg0)) (m ((c.tc : Thread Cert.Reference11Ideal.nD Cert.Reference11Ideal.τ).loc Cert.Reference11Ideal.main_arg1)) (m ((c.tc : Thread Cert.Reference11Ideal.nD Cert.Reference11Ideal.τ).loc Cert.Reference11Ideal.main_arg2)) (m ((c.tc : Thread Cert.Reference11Ideal.nD Cert.Reference11Ideal.τ).loc Cert.Reference11Ideal.main_arg3))) = (fun _ => 1#1)

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Kernel12Ideal_ln_finite [hPre_ln_finite : Cert.Pre_ln_finite.Facts] (m : (ℓ : Loc Cert.Kernel12Ideal.nD Cert.Kernel12Ideal.τ Cert.Kernel12Ideal.sig) → Buf (Elt Ideal) ℓ) : Prop :=
  ∀ c : Dev Cert.Kernel12Ideal.nD,
    (Cert.Pre_ln_finite.fn (F := Ideal) (m ((c.tc : Thread Cert.Kernel12Ideal.nD Cert.Kernel12Ideal.τ).loc Cert.Kernel12Ideal.main_arg0)) (m ((c.tc : Thread Cert.Kernel12Ideal.nD Cert.Kernel12Ideal.τ).loc Cert.Kernel12Ideal.main_arg1)) (m ((c.tc : Thread Cert.Kernel12Ideal.nD Cert.Kernel12Ideal.τ).loc Cert.Kernel12Ideal.main_arg2)) (m ((c.tc : Thread Cert.Kernel12Ideal.nD Cert.Kernel12Ideal.τ).loc Cert.Kernel12Ideal.main_arg3))) = (fun _ => 1#1)

def Pre_Reference12Ideal (m : (ℓ : Loc Cert.Reference12Ideal.nD Cert.Reference12Ideal.τ Cert.Reference12Ideal.sig) → Buf (Elt Ideal) ℓ) : Prop :=
  True

def Pre_Reference12Ideal_ln_finite [hPre_ln_finite : Cert.Pre_ln_finite.Facts] (m : (ℓ : Loc Cert.Reference12Ideal.nD Cert.Reference12Ideal.τ Cert.Reference12Ideal.sig) → Buf (Elt Ideal) ℓ) : Prop :=
  ∀ c : Dev Cert.Reference12Ideal.nD,
    (Cert.Pre_ln_finite.fn (F := Ideal) (m ((c.tc : Thread Cert.Reference12Ideal.nD Cert.Reference12Ideal.τ).loc Cert.Reference12Ideal.main_arg0)) (m ((c.tc : Thread Cert.Reference12Ideal.nD Cert.Reference12Ideal.τ).loc Cert.Reference12Ideal.main_arg1)) (m ((c.tc : Thread Cert.Reference12Ideal.nD Cert.Reference12Ideal.τ).loc Cert.Reference12Ideal.main_arg2)) (m ((c.tc : Thread Cert.Reference12Ideal.nD Cert.Reference12Ideal.τ).loc Cert.Reference12Ideal.main_arg3))) = (fun _ => 1#1)

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Kernel13Ideal_loss_finite [hPre_loss_finite : Cert.Pre_loss_finite.Facts] (m : (ℓ : Loc Cert.Kernel13Ideal.nD Cert.Kernel13Ideal.τ Cert.Kernel13Ideal.sig) → Buf (Elt Ideal) ℓ) : Prop :=
  ∀ c : Dev Cert.Kernel13Ideal.nD,
    (Cert.Pre_loss_finite.fn (F := Ideal) (m ((c.tc : Thread Cert.Kernel13Ideal.nD Cert.Kernel13Ideal.τ).loc Cert.Kernel13Ideal.main_arg0)) (m ((c.tc : Thread Cert.Kernel13Ideal.nD Cert.Kernel13Ideal.τ).loc Cert.Kernel13Ideal.main_arg1)) (m ((c.tc : Thread Cert.Kernel13Ideal.nD Cert.Kernel13Ideal.τ).loc Cert.Kernel13Ideal.main_arg2))) = (fun _ => 1#1)

def Pre_Reference13Ideal (m : (ℓ : Loc Cert.Reference13Ideal.nD Cert.Reference13Ideal.τ Cert.Reference13Ideal.sig) → Buf (Elt Ideal) ℓ) : Prop :=
  True

def Pre_Reference13Ideal_loss_finite [hPre_loss_finite : Cert.Pre_loss_finite.Facts] (m : (ℓ : Loc Cert.Reference13Ideal.nD Cert.Reference13Ideal.τ Cert.Reference13Ideal.sig) → Buf (Elt Ideal) ℓ) : Prop :=
  ∀ c : Dev Cert.Reference13Ideal.nD,
    (Cert.Pre_loss_finite.fn (F := Ideal) (m ((c.tc : Thread Cert.Reference13Ideal.nD Cert.Reference13Ideal.τ).loc Cert.Reference13Ideal.main_arg0)) (m ((c.tc : Thread Cert.Reference13Ideal.nD Cert.Reference13Ideal.τ).loc Cert.Reference13Ideal.main_arg1)) (m ((c.tc : Thread Cert.Reference13Ideal.nD Cert.Reference13Ideal.τ).loc Cert.Reference13Ideal.main_arg2))) = (fun _ => 1#1)

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel19 (m : (ℓ : Loc Cert.Kernel19.nD Cert.Kernel19.τ Cert.Kernel19.sig) → Buf (Elt Bits) ℓ) : Prop :=
  True

def Pre_Kernel19Ideal (m : (ℓ : Loc Cert.Kernel19Ideal.nD Cert.Kernel19Ideal.τ Cert.Kernel19Ideal.sig) → Buf (Elt Ideal) ℓ) : Prop :=
  True

def Pre_Kernel19Ideal_att_finite [hPre_att_finite : Cert.Pre_att_finite.Facts] (m : (ℓ : Loc Cert.Kernel19Ideal.nD Cert.Kernel19Ideal.τ Cert.Kernel19Ideal.sig) → Buf (Elt Ideal) ℓ) : Prop :=
  ∀ c : Dev Cert.Kernel19Ideal.nD,
    (Cert.Pre_att_finite.fn (F := Ideal) (m ((c.tc : Thread Cert.Kernel19Ideal.nD Cert.Kernel19Ideal.τ).loc Cert.Kernel19Ideal.main_arg0)) (m ((c.tc : Thread Cert.Kernel19Ideal.nD Cert.Kernel19Ideal.τ).loc Cert.Kernel19Ideal.main_arg1)) (m ((c.tc : Thread Cert.Kernel19Ideal.nD Cert.Kernel19Ideal.τ).loc Cert.Kernel19Ideal.main_arg2))) = (fun _ => 1#1)

def Pre_Reference19Ideal (m : (ℓ : Loc Cert.Reference19Ideal.nD Cert.Reference19Ideal.τ Cert.Reference19Ideal.sig) → Buf (Elt Ideal) ℓ) : Prop :=
  True

def Pre_Reference19Ideal_att_finite [hPre_att_finite : Cert.Pre_att_finite.Facts] (m : (ℓ : Loc Cert.Reference19Ideal.nD Cert.Reference19Ideal.τ Cert.Reference19Ideal.sig) → Buf (Elt Ideal) ℓ) : Prop :=
  ∀ c : Dev Cert.Reference19Ideal.nD,
    (Cert.Pre_att_finite.fn (F := Ideal) (m ((c.tc : Thread Cert.Reference19Ideal.nD Cert.Reference19Ideal.τ).loc Cert.Reference19Ideal.main_arg0)) (m ((c.tc : Thread Cert.Reference19Ideal.nD Cert.Reference19Ideal.τ).loc Cert.Reference19Ideal.main_arg1)) (m ((c.tc : Thread Cert.Reference19Ideal.nD Cert.Reference19Ideal.τ).loc Cert.Reference19Ideal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2)
      ∧ r.2.mem ((c.tc : Thread Cert.Kernel11.nD Cert.Kernel11.τ).loc Cert.Kernel11.main_arg3) = m ((c.tc : Thread Cert.Kernel11.nD Cert.Kernel11.τ).loc Cert.Kernel11.main_arg3))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
      ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3))
      ∧ r.2.sem = fun _ => 0)

def quiescent_Kernel11Ideal_pre_rms_finite [hKernel11Ideal : Cert.Kernel11Ideal.Facts] [hPre_rms_finite : Cert.Pre_rms_finite.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal_rms_finite m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
      ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2)
      ∧ r.2.mem ((c.tc : Thread Cert.Reference11Ideal.nD Cert.Reference11Ideal.τ).loc Cert.Reference11Ideal.main_arg3) = m ((c.tc : Thread Cert.Reference11Ideal.nD Cert.Reference11Ideal.τ).loc Cert.Reference11Ideal.main_arg3))
      ∧ r.2.sem = fun _ => 0)

def quiescent_Reference11Ideal_pre_rms_finite [hReference11Ideal : Cert.Reference11Ideal.Facts] [hPre_rms_finite : Cert.Pre_rms_finite.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal_rms_finite m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2)
      ∧ r.2.mem ((c.tc : Thread Cert.Reference11Ideal.nD Cert.Reference11Ideal.τ).loc Cert.Reference11Ideal.main_arg3) = m ((c.tc : Thread Cert.Reference11Ideal.nD Cert.Reference11Ideal.τ).loc Cert.Reference11Ideal.main_arg3))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2)
      ∧ r.2.mem ((c.tc : Thread Cert.Kernel12.nD Cert.Kernel12.τ).loc Cert.Kernel12.main_arg3) = m ((c.tc : Thread Cert.Kernel12.nD Cert.Kernel12.τ).loc Cert.Kernel12.main_arg3))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
      ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3))
      ∧ r.2.sem = fun _ => 0)

def quiescent_Kernel12Ideal_pre_ln_finite [hKernel12Ideal : Cert.Kernel12Ideal.Facts] [hPre_ln_finite : Cert.Pre_ln_finite.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal_ln_finite m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
      ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2)
      ∧ r.2.mem ((c.tc : Thread Cert.Reference12Ideal.nD Cert.Reference12Ideal.τ).loc Cert.Reference12Ideal.main_arg3) = m ((c.tc : Thread Cert.Reference12Ideal.nD Cert.Reference12Ideal.τ).loc Cert.Reference12Ideal.main_arg3))
      ∧ r.2.sem = fun _ => 0)

def quiescent_Reference12Ideal_pre_ln_finite [hReference12Ideal : Cert.Reference12Ideal.Facts] [hPre_ln_finite : Cert.Pre_ln_finite.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal_ln_finite m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2)
      ∧ r.2.mem ((c.tc : Thread Cert.Reference12Ideal.nD Cert.Reference12Ideal.τ).loc Cert.Reference12Ideal.main_arg3) = m ((c.tc : Thread Cert.Reference12Ideal.nD Cert.Reference12Ideal.τ).loc Cert.Reference12Ideal.main_arg3))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2))
      ∧ r.2.sem = fun _ => 0)

def quiescent_Kernel13Ideal_pre_loss_finite [hKernel13Ideal : Cert.Kernel13Ideal.Facts] [hPre_loss_finite : Cert.Pre_loss_finite.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal_loss_finite m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2))
      ∧ r.2.sem = fun _ => 0)

def quiescent_Reference13Ideal_pre_loss_finite [hReference13Ideal : Cert.Reference13Ideal.Facts] [hPre_loss_finite : Cert.Pre_loss_finite.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal_loss_finite m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1)
      ∧ r.2.mem ((c.tc : Thread Cert.Kernel15.nD Cert.Kernel15.τ).loc Cert.Kernel15.main_arg2) = m ((c.tc : Thread Cert.Kernel15.nD Cert.Kernel15.τ).loc Cert.Kernel15.main_arg2)
      ∧ r.2.mem ((c.tc : Thread Cert.Kernel15.nD Cert.Kernel15.τ).loc Cert.Kernel15.main_arg3) = m ((c.tc : Thread Cert.Kernel15.nD Cert.Kernel15.τ).loc Cert.Kernel15.main_arg3))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
      ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
      ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1)
      ∧ r.2.mem ((c.tc : Thread Cert.Reference15Ideal.nD Cert.Reference15Ideal.τ).loc Cert.Reference15Ideal.main_arg2) = m ((c.tc : Thread Cert.Reference15Ideal.nD Cert.Reference15Ideal.τ).loc Cert.Reference15Ideal.main_arg2)
      ∧ r.2.mem ((c.tc : Thread Cert.Reference15Ideal.nD Cert.Reference15Ideal.τ).loc Cert.Reference15Ideal.main_arg3) = m ((c.tc : Thread Cert.Reference15Ideal.nD Cert.Reference15Ideal.τ).loc Cert.Reference15Ideal.main_arg3))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1)
      ∧ r.2.mem ((c.tc : Thread Cert.Kernel16.nD Cert.Kernel16.τ).loc Cert.Kernel16.main_arg2) = m ((c.tc : Thread Cert.Kernel16.nD Cert.Kernel16.τ).loc Cert.Kernel16.main_arg2)
      ∧ r.2.mem ((c.tc : Thread Cert.Kernel16.nD Cert.Kernel16.τ).loc Cert.Kernel16.main_arg3) = m ((c.tc : Thread Cert.Kernel16.nD Cert.Kernel16.τ).loc Cert.Kernel16.main_arg3))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
      ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
      ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1)
      ∧ r.2.mem ((c.tc : Thread Cert.Reference16Ideal.nD Cert.Reference16Ideal.τ).loc Cert.Reference16Ideal.main_arg2) = m ((c.tc : Thread Cert.Reference16Ideal.nD Cert.Reference16Ideal.τ).loc Cert.Reference16Ideal.main_arg2)
      ∧ r.2.mem ((c.tc : Thread Cert.Reference16Ideal.nD Cert.Reference16Ideal.τ).loc Cert.Reference16Ideal.main_arg3) = m ((c.tc : Thread Cert.Reference16Ideal.nD Cert.Reference16Ideal.τ).loc Cert.Reference16Ideal.main_arg3))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1)
      ∧ r.2.mem ((c.tc : Thread Cert.Kernel17.nD Cert.Kernel17.τ).loc Cert.Kernel17.main_arg2) = m ((c.tc : Thread Cert.Kernel17.nD Cert.Kernel17.τ).loc Cert.Kernel17.main_arg2)
      ∧ r.2.mem ((c.tc : Thread Cert.Kernel17.nD Cert.Kernel17.τ).loc Cert.Kernel17.main_arg3) = m ((c.tc : Thread Cert.Kernel17.nD Cert.Kernel17.τ).loc Cert.Kernel17.main_arg3))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
      ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
      ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1)
      ∧ r.2.mem ((c.tc : Thread Cert.Reference17Ideal.nD Cert.Reference17Ideal.τ).loc Cert.Reference17Ideal.main_arg2) = m ((c.tc : Thread Cert.Reference17Ideal.nD Cert.Reference17Ideal.τ).loc Cert.Reference17Ideal.main_arg2)
      ∧ r.2.mem ((c.tc : Thread Cert.Reference17Ideal.nD Cert.Reference17Ideal.τ).loc Cert.Reference17Ideal.main_arg3) = m ((c.tc : Thread Cert.Reference17Ideal.nD Cert.Reference17Ideal.τ).loc Cert.Reference17Ideal.main_arg3))
      ∧ r.2.sem = fun _ => 0)

def quiescent_Kernel19 [hKernel19 : Cert.Kernel19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0)
      ∧ r.2.mem ((c.tc : Thread Cert.Kernel19.nD Cert.Kernel19.τ).loc Cert.Kernel19.main_arg1) = m ((c.tc : Thread Cert.Kernel19.nD Cert.Kernel19.τ).loc Cert.Kernel19.main_arg1)
      ∧ r.2.mem ((c.tc : Thread Cert.Kernel19.nD Cert.Kernel19.τ).loc Cert.Kernel19.main_arg2) = m ((c.tc : Thread Cert.Kernel19.nD Cert.Kernel19.τ).loc Cert.Kernel19.main_arg2))
      ∧ r.2.sem = fun _ => 0)

def quiescent_Kernel19Ideal [hKernel19Ideal : Cert.Kernel19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
      ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2))
      ∧ r.2.sem = fun _ => 0)

def quiescent_Kernel19Ideal_pre_att_finite [hKernel19Ideal : Cert.Kernel19Ideal.Facts] [hPre_att_finite : Cert.Pre_att_finite.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal_att_finite m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
      ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1)
      ∧ r.2.mem ((c.tc : Thread Cert.Reference19Ideal.nD Cert.Reference19Ideal.τ).loc Cert.Reference19Ideal.main_arg2) = m ((c.tc : Thread Cert.Reference19Ideal.nD Cert.Reference19Ideal.τ).loc Cert.Reference19Ideal.main_arg2))
      ∧ r.2.sem = fun _ => 0)

def quiescent_Reference19Ideal_pre_att_finite [hReference19Ideal : Cert.Reference19Ideal.Facts] [hPre_att_finite : Cert.Pre_att_finite.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal_att_finite m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1)
      ∧ r.2.mem ((c.tc : Thread Cert.Reference19Ideal.nD Cert.Reference19Ideal.τ).loc Cert.Reference19Ideal.main_arg2) = m ((c.tc : Thread Cert.Reference19Ideal.nD Cert.Reference19Ideal.τ).loc Cert.Reference19Ideal.main_arg2))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_v26_9) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v3) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v7) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v2) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v6) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v0)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v2) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)) →
    ∃ (v0 : (c : Dev Cert.Kernel7Ideal.nD) → Buf (Elt Ideal) ((c.tc : Thread Cert.Kernel7Ideal.nD Cert.Kernel7Ideal.τ).loc Cert.Kernel7Ideal.main_v0)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v6) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v0)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v2) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)) →
    ∃ (v0 : (c : Dev Cert.Kernel9Ideal.nD) → Buf (Elt Ideal) ((c.tc : Thread Cert.Kernel9Ideal.nD Cert.Kernel9Ideal.τ).loc Cert.Kernel9Ideal.main_v0)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v3) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)) →
    ∃ (v0 : (c : Dev Cert.Kernel10Ideal.nD) → Buf (Elt Ideal) ((c.tc : Thread Cert.Kernel10Ideal.nD Cert.Kernel10Ideal.τ).loc Cert.Kernel10Ideal.main_v0)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v2) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1))

def preserves_Kernel11_Kernel11Ideal : Prop :=
  True

def algebraic_Kernel11Ideal_Reference11Ideal_pre_rms_finite [hKernel11Ideal : Cert.Kernel11Ideal.Facts] [hReference11Ideal : Cert.Reference11Ideal.Facts] [hPre_rms_finite : Cert.Pre_rms_finite.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal_rms_finite m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)
      ∧ m' ((c.tc : Thread Cert.Reference11Ideal.nD Cert.Reference11Ideal.τ).loc Cert.Reference11Ideal.main_arg3) = m ((c.tc : Thread Cert.Kernel11Ideal.nD Cert.Kernel11Ideal.τ).loc Cert.Kernel11Ideal.main_arg3)) →
    ∃ (v0 : (c : Dev Cert.Kernel11Ideal.nD) → Buf (Elt Ideal) ((c.tc : Thread Cert.Kernel11Ideal.nD Cert.Kernel11Ideal.τ).loc Cert.Kernel11Ideal.main_v0_0)) (v1 : (c : Dev Cert.Kernel11Ideal.nD) → Buf (Elt Ideal) ((c.tc : Thread Cert.Kernel11Ideal.nD Cert.Kernel11Ideal.τ).loc Cert.Kernel11Ideal.main_v0_1)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v0_0) = v0 c
          ∧ r.2.mem ((c.tc : Thread Cert.Kernel11Ideal.nD Cert.Kernel11Ideal.τ).loc Cert.Kernel11Ideal.main_v0_1) = v1 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
          ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v37) = v0 c
          ∧ r.2.mem ((c.tc : Thread Cert.Reference11Ideal.nD Cert.Reference11Ideal.τ).loc Cert.Reference11Ideal.main_v38) = v1 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2)
          ∧ r.2.mem ((c.tc : Thread Cert.Reference11Ideal.nD Cert.Reference11Ideal.τ).loc Cert.Reference11Ideal.main_arg3) = m' ((c.tc : Thread Cert.Reference11Ideal.nD Cert.Reference11Ideal.τ).loc Cert.Reference11Ideal.main_arg3))

def preserves_Kernel12_Kernel12Ideal : Prop :=
  True

def algebraic_Kernel12Ideal_Reference12Ideal_pre_ln_finite [hKernel12Ideal : Cert.Kernel12Ideal.Facts] [hReference12Ideal : Cert.Reference12Ideal.Facts] [hPre_ln_finite : Cert.Pre_ln_finite.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal_ln_finite m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)
      ∧ m' ((c.tc : Thread Cert.Reference12Ideal.nD Cert.Reference12Ideal.τ).loc Cert.Reference12Ideal.main_arg3) = m ((c.tc : Thread Cert.Kernel12Ideal.nD Cert.Kernel12Ideal.τ).loc Cert.Kernel12Ideal.main_arg3)) →
    ∃ (v0 : (c : Dev Cert.Kernel12Ideal.nD) → Buf (Elt Ideal) ((c.tc : Thread Cert.Kernel12Ideal.nD Cert.Kernel12Ideal.τ).loc Cert.Kernel12Ideal.main_v0_0)) (v1 : (c : Dev Cert.Kernel12Ideal.nD) → Buf (Elt Ideal) ((c.tc : Thread Cert.Kernel12Ideal.nD Cert.Kernel12Ideal.τ).loc Cert.Kernel12Ideal.main_v1)) (v2 : (c : Dev Cert.Kernel12Ideal.nD) → Buf (Elt Ideal) ((c.tc : Thread Cert.Kernel12Ideal.nD Cert.Kernel12Ideal.τ).loc Cert.Kernel12Ideal.main_v2)) (v3 : (c : Dev Cert.Kernel12Ideal.nD) → Buf (Elt Ideal) ((c.tc : Thread Cert.Kernel12Ideal.nD Cert.Kernel12Ideal.τ).loc Cert.Kernel12Ideal.main_v3)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v0_0) = v0 c
          ∧ r.2.mem ((c.tc : Thread Cert.Kernel12Ideal.nD Cert.Kernel12Ideal.τ).loc Cert.Kernel12Ideal.main_v1) = v1 c
          ∧ r.2.mem ((c.tc : Thread Cert.Kernel12Ideal.nD Cert.Kernel12Ideal.τ).loc Cert.Kernel12Ideal.main_v2) = v2 c
          ∧ r.2.mem ((c.tc : Thread Cert.Kernel12Ideal.nD Cert.Kernel12Ideal.τ).loc Cert.Kernel12Ideal.main_v3) = v3 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
          ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v69) = v0 c
          ∧ r.2.mem ((c.tc : Thread Cert.Reference12Ideal.nD Cert.Reference12Ideal.τ).loc Cert.Reference12Ideal.main_v73) = v1 c
          ∧ r.2.mem ((c.tc : Thread Cert.Reference12Ideal.nD Cert.Reference12Ideal.τ).loc Cert.Reference12Ideal.main_v74) = v2 c
          ∧ r.2.mem ((c.tc : Thread Cert.Reference12Ideal.nD Cert.Reference12Ideal.τ).loc Cert.Reference12Ideal.main_v75) = v3 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2)
          ∧ r.2.mem ((c.tc : Thread Cert.Reference12Ideal.nD Cert.Reference12Ideal.τ).loc Cert.Reference12Ideal.main_arg3) = m' ((c.tc : Thread Cert.Reference12Ideal.nD Cert.Reference12Ideal.τ).loc Cert.Reference12Ideal.main_arg3))

def preserves_Kernel13_Kernel13Ideal : Prop :=
  True

def algebraic_Kernel13Ideal_Reference13Ideal_pre_loss_finite [hKernel13Ideal : Cert.Kernel13Ideal.Facts] [hReference13Ideal : Cert.Reference13Ideal.Facts] [hPre_loss_finite : Cert.Pre_loss_finite.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal_loss_finite m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
      ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2)) →
    ∃ (v0 : (c : Dev Cert.Kernel13Ideal.nD) → Buf (Elt Ideal) ((c.tc : Thread Cert.Kernel13Ideal.nD Cert.Kernel13Ideal.τ).loc Cert.Kernel13Ideal.main_v0_0)) (v1 : (c : Dev Cert.Kernel13Ideal.nD) → Buf (Elt Ideal) ((c.tc : Thread Cert.Kernel13Ideal.nD Cert.Kernel13Ideal.τ).loc Cert.Kernel13Ideal.main_v0_1)) (v2 : (c : Dev Cert.Kernel13Ideal.nD) → Buf (Elt Ideal) ((c.tc : Thread Cert.Kernel13Ideal.nD Cert.Kernel13Ideal.τ).loc Cert.Kernel13Ideal.main_v2)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v0_0) = v0 c
          ∧ r.2.mem ((c.tc : Thread Cert.Kernel13Ideal.nD Cert.Kernel13Ideal.τ).loc Cert.Kernel13Ideal.main_v0_1) = v1 c
          ∧ r.2.mem ((c.tc : Thread Cert.Kernel13Ideal.nD Cert.Kernel13Ideal.τ).loc Cert.Kernel13Ideal.main_v2) = v2 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v51) = v0 c
          ∧ r.2.mem ((c.tc : Thread Cert.Reference13Ideal.nD Cert.Reference13Ideal.τ).loc Cert.Reference13Ideal.main_v52) = v1 c
          ∧ r.2.mem ((c.tc : Thread Cert.Reference13Ideal.nD Cert.Reference13Ideal.τ).loc Cert.Reference13Ideal.main_v25) = v2 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
          ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2))

def preserves_Kernel15_Kernel15Ideal : Prop :=
  IdealRules.named_const.Statement Cert.Kernel15Ideal.κ "inv_first" .f32 0x3FC48605#32 ((8388608 / 5463681 : ℝ) : EReal)
  ∧ IdealRules.named_const.Statement Cert.Kernel15Ideal.κ "inv_second" .f32 0x42C8E6D3#32 ((268435456 / 2672307 : ℝ) : EReal)

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)
      ∧ m' ((c.tc : Thread Cert.Reference15Ideal.nD Cert.Reference15Ideal.τ).loc Cert.Reference15Ideal.main_arg2) = m ((c.tc : Thread Cert.Kernel15Ideal.nD Cert.Kernel15Ideal.τ).loc Cert.Kernel15Ideal.main_arg2)
      ∧ m' ((c.tc : Thread Cert.Reference15Ideal.nD Cert.Reference15Ideal.τ).loc Cert.Reference15Ideal.main_arg3) = m ((c.tc : Thread Cert.Kernel15Ideal.nD Cert.Kernel15Ideal.τ).loc Cert.Kernel15Ideal.main_arg3)) →
    ∃ (v0 : (c : Dev Cert.Kernel15Ideal.nD) → Buf (Elt Ideal) ((c.tc : Thread Cert.Kernel15Ideal.nD Cert.Kernel15Ideal.τ).loc Cert.Kernel15Ideal.main_v0_0)) (v1 : (c : Dev Cert.Kernel15Ideal.nD) → Buf (Elt Ideal) ((c.tc : Thread Cert.Kernel15Ideal.nD Cert.Kernel15Ideal.τ).loc Cert.Kernel15Ideal.main_v0_1)) (v2 : (c : Dev Cert.Kernel15Ideal.nD) → Buf (Elt Ideal) ((c.tc : Thread Cert.Kernel15Ideal.nD Cert.Kernel15Ideal.τ).loc Cert.Kernel15Ideal.main_v0_2)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v0_0) = v0 c
          ∧ r.2.mem ((c.tc : Thread Cert.Kernel15Ideal.nD Cert.Kernel15Ideal.τ).loc Cert.Kernel15Ideal.main_v0_1) = v1 c
          ∧ r.2.mem ((c.tc : Thread Cert.Kernel15Ideal.nD Cert.Kernel15Ideal.τ).loc Cert.Kernel15Ideal.main_v0_2) = v2 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
          ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
          ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v23) = v0 c
          ∧ r.2.mem ((c.tc : Thread Cert.Reference15Ideal.nD Cert.Reference15Ideal.τ).loc Cert.Reference15Ideal.main_v4) = v1 c
          ∧ r.2.mem ((c.tc : Thread Cert.Reference15Ideal.nD Cert.Reference15Ideal.τ).loc Cert.Reference15Ideal.main_v10) = v2 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1)
          ∧ r.2.mem ((c.tc : Thread Cert.Reference15Ideal.nD Cert.Reference15Ideal.τ).loc Cert.Reference15Ideal.main_arg2) = m' ((c.tc : Thread Cert.Reference15Ideal.nD Cert.Reference15Ideal.τ).loc Cert.Reference15Ideal.main_arg2)
          ∧ r.2.mem ((c.tc : Thread Cert.Reference15Ideal.nD Cert.Reference15Ideal.τ).loc Cert.Reference15Ideal.main_arg3) = m' ((c.tc : Thread Cert.Reference15Ideal.nD Cert.Reference15Ideal.τ).loc Cert.Reference15Ideal.main_arg3))

def preserves_Kernel16_Kernel16Ideal : Prop :=
  IdealRules.named_const.Statement Cert.Kernel16Ideal.κ "inv_first" .f32 0x3FC48605#32 ((8388608 / 5463681 : ℝ) : EReal)
  ∧ IdealRules.named_const.Statement Cert.Kernel16Ideal.κ "inv_second" .f32 0x42C8E6D3#32 ((268435456 / 2672307 : ℝ) : EReal)

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)
      ∧ m' ((c.tc : Thread Cert.Reference16Ideal.nD Cert.Reference16Ideal.τ).loc Cert.Reference16Ideal.main_arg2) = m ((c.tc : Thread Cert.Kernel16Ideal.nD Cert.Kernel16Ideal.τ).loc Cert.Kernel16Ideal.main_arg2)
      ∧ m' ((c.tc : Thread Cert.Reference16Ideal.nD Cert.Reference16Ideal.τ).loc Cert.Reference16Ideal.main_arg3) = m ((c.tc : Thread Cert.Kernel16Ideal.nD Cert.Kernel16Ideal.τ).loc Cert.Kernel16Ideal.main_arg3)) →
    ∃ (v0 : (c : Dev Cert.Kernel16Ideal.nD) → Buf (Elt Ideal) ((c.tc : Thread Cert.Kernel16Ideal.nD Cert.Kernel16Ideal.τ).loc Cert.Kernel16Ideal.main_v0_0)) (v1 : (c : Dev Cert.Kernel16Ideal.nD) → Buf (Elt Ideal) ((c.tc : Thread Cert.Kernel16Ideal.nD Cert.Kernel16Ideal.τ).loc Cert.Kernel16Ideal.main_v0_1)) (v2 : (c : Dev Cert.Kernel16Ideal.nD) → Buf (Elt Ideal) ((c.tc : Thread Cert.Kernel16Ideal.nD Cert.Kernel16Ideal.τ).loc Cert.Kernel16Ideal.main_v0_2)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v0_0) = v0 c
          ∧ r.2.mem ((c.tc : Thread Cert.Kernel16Ideal.nD Cert.Kernel16Ideal.τ).loc Cert.Kernel16Ideal.main_v0_1) = v1 c
          ∧ r.2.mem ((c.tc : Thread Cert.Kernel16Ideal.nD Cert.Kernel16Ideal.τ).loc Cert.Kernel16Ideal.main_v0_2) = v2 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
          ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
          ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v23) = v0 c
          ∧ r.2.mem ((c.tc : Thread Cert.Reference16Ideal.nD Cert.Reference16Ideal.τ).loc Cert.Reference16Ideal.main_v4) = v1 c
          ∧ r.2.mem ((c.tc : Thread Cert.Reference16Ideal.nD Cert.Reference16Ideal.τ).loc Cert.Reference16Ideal.main_v10) = v2 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1)
          ∧ r.2.mem ((c.tc : Thread Cert.Reference16Ideal.nD Cert.Reference16Ideal.τ).loc Cert.Reference16Ideal.main_arg2) = m' ((c.tc : Thread Cert.Reference16Ideal.nD Cert.Reference16Ideal.τ).loc Cert.Reference16Ideal.main_arg2)
          ∧ r.2.mem ((c.tc : Thread Cert.Reference16Ideal.nD Cert.Reference16Ideal.τ).loc Cert.Reference16Ideal.main_arg3) = m' ((c.tc : Thread Cert.Reference16Ideal.nD Cert.Reference16Ideal.τ).loc Cert.Reference16Ideal.main_arg3))

def preserves_Kernel17_Kernel17Ideal : Prop :=
  IdealRules.named_const.Statement Cert.Kernel17Ideal.κ "inv_first" .f32 0x3FC48605#32 ((8388608 / 5463681 : ℝ) : EReal)
  ∧ IdealRules.named_const.Statement Cert.Kernel17Ideal.κ "inv_second" .f32 0x42C8E6D3#32 ((268435456 / 2672307 : ℝ) : EReal)

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)
      ∧ m' ((c.tc : Thread Cert.Reference17Ideal.nD Cert.Reference17Ideal.τ).loc Cert.Reference17Ideal.main_arg2) = m ((c.tc : Thread Cert.Kernel17Ideal.nD Cert.Kernel17Ideal.τ).loc Cert.Kernel17Ideal.main_arg2)
      ∧ m' ((c.tc : Thread Cert.Reference17Ideal.nD Cert.Reference17Ideal.τ).loc Cert.Reference17Ideal.main_arg3) = m ((c.tc : Thread Cert.Kernel17Ideal.nD Cert.Kernel17Ideal.τ).loc Cert.Kernel17Ideal.main_arg3)) →
    ∃ (v0 : (c : Dev Cert.Kernel17Ideal.nD) → Buf (Elt Ideal) ((c.tc : Thread Cert.Kernel17Ideal.nD Cert.Kernel17Ideal.τ).loc Cert.Kernel17Ideal.main_v0_0)) (v1 : (c : Dev Cert.Kernel17Ideal.nD) → Buf (Elt Ideal) ((c.tc : Thread Cert.Kernel17Ideal.nD Cert.Kernel17Ideal.τ).loc Cert.Kernel17Ideal.main_v0_1)) (v2 : (c : Dev Cert.Kernel17Ideal.nD) → Buf (Elt Ideal) ((c.tc : Thread Cert.Kernel17Ideal.nD Cert.Kernel17Ideal.τ).loc Cert.Kernel17Ideal.main_v0_2)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v0_0) = v0 c
          ∧ r.2.mem ((c.tc : Thread Cert.Kernel17Ideal.nD Cert.Kernel17Ideal.τ).loc Cert.Kernel17Ideal.main_v0_1) = v1 c
          ∧ r.2.mem ((c.tc : Thread Cert.Kernel17Ideal.nD Cert.Kernel17Ideal.τ).loc Cert.Kernel17Ideal.main_v0_2) = v2 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
          ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
          ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v23) = v0 c
          ∧ r.2.mem ((c.tc : Thread Cert.Reference17Ideal.nD Cert.Reference17Ideal.τ).loc Cert.Reference17Ideal.main_v4) = v1 c
          ∧ r.2.mem ((c.tc : Thread Cert.Reference17Ideal.nD Cert.Reference17Ideal.τ).loc Cert.Reference17Ideal.main_v10) = v2 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1)
          ∧ r.2.mem ((c.tc : Thread Cert.Reference17Ideal.nD Cert.Reference17Ideal.τ).loc Cert.Reference17Ideal.main_arg2) = m' ((c.tc : Thread Cert.Reference17Ideal.nD Cert.Reference17Ideal.τ).loc Cert.Reference17Ideal.main_arg2)
          ∧ r.2.mem ((c.tc : Thread Cert.Reference17Ideal.nD Cert.Reference17Ideal.τ).loc Cert.Reference17Ideal.main_arg3) = m' ((c.tc : Thread Cert.Reference17Ideal.nD Cert.Reference17Ideal.τ).loc Cert.Reference17Ideal.main_arg3))

def preserves_Kernel19_Kernel19Ideal : Prop :=
  IdealRules.named_const.Statement Cert.Kernel19Ideal.κ "mask" .f32 0xF149F2CA#32 ⊥

def algebraic_Kernel19Ideal_Reference19Ideal_pre_att_finite [hKernel19Ideal : Cert.Kernel19Ideal.Facts] [hReference19Ideal : Cert.Reference19Ideal.Facts] [hPre_att_finite : Cert.Pre_att_finite.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal_att_finite m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)
      ∧ m' ((c.tc : Thread Cert.Reference19Ideal.nD Cert.Reference19Ideal.τ).loc Cert.Reference19Ideal.main_arg1) = m ((c.tc : Thread Cert.Kernel19Ideal.nD Cert.Kernel19Ideal.τ).loc Cert.Kernel19Ideal.main_arg1)
      ∧ m' ((c.tc : Thread Cert.Reference19Ideal.nD Cert.Reference19Ideal.τ).loc Cert.Reference19Ideal.main_arg2) = m ((c.tc : Thread Cert.Kernel19Ideal.nD Cert.Kernel19Ideal.τ).loc Cert.Kernel19Ideal.main_arg2)) →
    ∃ (v0 : (c : Dev Cert.Kernel19Ideal.nD) → Buf (Elt Ideal) ((c.tc : Thread Cert.Kernel19Ideal.nD Cert.Kernel19Ideal.τ).loc Cert.Kernel19Ideal.main_v0_0)) (v1 : (c : Dev Cert.Kernel19Ideal.nD) → Buf (Elt Ideal) ((c.tc : Thread Cert.Kernel19Ideal.nD Cert.Kernel19Ideal.τ).loc Cert.Kernel19Ideal.main_v0_1)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v0_0) = v0 c
          ∧ r.2.mem ((c.tc : Thread Cert.Kernel19Ideal.nD Cert.Kernel19Ideal.τ).loc Cert.Kernel19Ideal.main_v0_1) = v1 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
          ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
          ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_v70) = v0 c
          ∧ r.2.mem ((c.tc : Thread Cert.Reference19Ideal.nD Cert.Reference19Ideal.τ).loc Cert.Reference19Ideal.main_v71) = v1 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0)
          ∧ r.2.mem ((c.tc : Thread Cert.Reference19Ideal.nD Cert.Reference19Ideal.τ).loc Cert.Reference19Ideal.main_arg1) = m' ((c.tc : Thread Cert.Reference19Ideal.nD Cert.Reference19Ideal.τ).loc Cert.Reference19Ideal.main_arg1)
          ∧ r.2.mem ((c.tc : Thread Cert.Reference19Ideal.nD Cert.Reference19Ideal.τ).loc Cert.Reference19Ideal.main_arg2) = m' ((c.tc : Thread Cert.Reference19Ideal.nD Cert.Reference19Ideal.τ).loc Cert.Reference19Ideal.main_arg2))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel19 : Cert.Kernel19.Facts) (hKernel19Ideal : Cert.Kernel19Ideal.Facts) (hReference19Ideal : Cert.Reference19Ideal.Facts) (hPre_finite : Cert.Pre_finite.Facts) (hPre_rms_finite : Cert.Pre_rms_finite.Facts) (hPre_ln_finite : Cert.Pre_ln_finite.Facts) (hPre_loss_finite : Cert.Pre_loss_finite.Facts) (hPre_att_finite : Cert.Pre_att_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Kernel11Ideal_pre_rms_finite (hKernel11Ideal := hKernel11Ideal) (hPre_rms_finite := hPre_rms_finite)
    ∧ quiescent_Reference11Ideal (hReference11Ideal := hReference11Ideal)
    ∧ quiescent_Reference11Ideal_pre_rms_finite (hReference11Ideal := hReference11Ideal) (hPre_rms_finite := hPre_rms_finite)
    ∧ quiescent_Kernel12 (hKernel12 := hKernel12)
    ∧ quiescent_Kernel12Ideal (hKernel12Ideal := hKernel12Ideal)
    ∧ quiescent_Kernel12Ideal_pre_ln_finite (hKernel12Ideal := hKernel12Ideal) (hPre_ln_finite := hPre_ln_finite)
    ∧ quiescent_Reference12Ideal (hReference12Ideal := hReference12Ideal)
    ∧ quiescent_Reference12Ideal_pre_ln_finite (hReference12Ideal := hReference12Ideal) (hPre_ln_finite := hPre_ln_finite)
    ∧ quiescent_Kernel13 (hKernel13 := hKernel13)
    ∧ quiescent_Kernel13Ideal (hKernel13Ideal := hKernel13Ideal)
    ∧ quiescent_Kernel13Ideal_pre_loss_finite (hKernel13Ideal := hKernel13Ideal) (hPre_loss_finite := hPre_loss_finite)
    ∧ quiescent_Reference13Ideal (hReference13Ideal := hReference13Ideal)
    ∧ quiescent_Reference13Ideal_pre_loss_finite (hReference13Ideal := hReference13Ideal) (hPre_loss_finite := hPre_loss_finite)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel19 (hKernel19 := hKernel19)
    ∧ quiescent_Kernel19Ideal (hKernel19Ideal := hKernel19Ideal)
    ∧ quiescent_Kernel19Ideal_pre_att_finite (hKernel19Ideal := hKernel19Ideal) (hPre_att_finite := hPre_att_finite)
    ∧ quiescent_Reference19Ideal (hReference19Ideal := hReference19Ideal)
    ∧ quiescent_Reference19Ideal_pre_att_finite (hReference19Ideal := hReference19Ideal) (hPre_att_finite := hPre_att_finite)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal_pre_rms_finite (hKernel11Ideal := hKernel11Ideal) (hReference11Ideal := hReference11Ideal) (hPre_rms_finite := hPre_rms_finite)
    ∧ preserves_Kernel12_Kernel12Ideal
    ∧ algebraic_Kernel12Ideal_Reference12Ideal_pre_ln_finite (hKernel12Ideal := hKernel12Ideal) (hReference12Ideal := hReference12Ideal) (hPre_ln_finite := hPre_ln_finite)
    ∧ preserves_Kernel13_Kernel13Ideal
    ∧ algebraic_Kernel13Ideal_Reference13Ideal_pre_loss_finite (hKernel13Ideal := hKernel13Ideal) (hReference13Ideal := hReference13Ideal) (hPre_loss_finite := hPre_loss_finite)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
    ∧ preserves_Kernel19_Kernel19Ideal
    ∧ algebraic_Kernel19Ideal_Reference19Ideal_pre_att_finite (hKernel19Ideal := hKernel19Ideal) (hReference19Ideal := hReference19Ideal) (hPre_att_finite := hPre_att_finite)
-- ==== Pre_att_finite.lean ====
abbrev S2048x3072 : Shape := ⟨2, ![2048, 3072]⟩
abbrev S4096x3072 : Shape := ⟨2, ![4096, 3072]⟩
abbrev S_ : Shape := ⟨0, ![]⟩

class Facts : Prop where
  concatenates_S2048x3072_S2048x3072_S4096x3072_d0 : Shape.Concatenates [S2048x3072, S2048x3072] S4096x3072 0
  bitsLt_bf16_f32 : FTy.bits .bf16 < FTy.bits .f32
  bcast_S_S4096x3072 : S_.BroadcastsInDim S4096x3072 (![] : Fin 0 → Fin S4096x3072.rank)

variable [Facts]

def fn {F : FTy → Type} [FloatOps F] (main_arg0 : FVec F S2048x3072 .bf16) (main_arg1 : FVec F S2048x3072 .bf16) (main_arg2 : FVec F S2048x3072 .bf16) : IVec S4096x3072 1 :=
  let main_v0 : FVec F S4096x3072 .bf16 := (fun a b => concatenate S4096x3072 0 [⟨S2048x3072, a⟩, ⟨S2048x3072, b⟩] concatenates_S2048x3072_S2048x3072_S4096x3072_d0) main_arg0 main_arg1
  let main_v1 : FVec F S4096x3072 .f32 := (extf .f32 · bitsLt_bf16_f32) main_v0
  let main_v2 : FVec F S4096x3072 .f32 := Host.absf main_v1
  let main_cst : FVec F S_ .f32 := constant S_ .f32 0x7F800000#32
  let main_v3 : FVec F S4096x3072 .f32 := broadcastInDim S4096x3072 ![] bcast_S_S4096x3072 main_cst
  let main_v4 : IVec S4096x3072 1 := cmpf .olt main_v2 main_v3
  main_v4
-- ==== Pre_finite.lean ====
abbrev S8192x768 : Shape := ⟨2, ![8192, 768]⟩
abbrev S6x8192x64 : Shape := ⟨3, ![6, 8192, 64]⟩
abbrev S8192x128 : Shape := ⟨2, ![8192, 128]⟩
abbrev S8192x6x64 : Shape := ⟨3, ![8192, 6, 64]⟩
abbrev S8192x384 : Shape := ⟨2, ![8192, 384]⟩
abbrev S8192x3584 : Shape := ⟨2, ![8192, 3584]⟩
abbrev S_ : Shape := ⟨0, ![]⟩

class Facts : Prop where
  transposes_S6x8192x64_S8192x6x64_1_0_2 : S6x8192x64.Transposes [1, 0, 2] S8192x6x64
  shapeCasts_S8192x6x64_S8192x384 : S8192x6x64.ShapeCasts S8192x384
  bitsLt_bf16_f32 : FTy.bits .bf16 < FTy.bits .f32
  concatenates_S8192x768_S8192x768_S8192x768_S8192x768_S8192x384_S8192x128_S8192x3584_d1 : Shape.Concatenates [S8192x768, S8192x768, S8192x768, S8192x768, S8192x384, S8192x128] S8192x3584 1
  bcast_S_S8192x3584 : S_.BroadcastsInDim S8192x3584 (![] : Fin 0 → Fin S8192x3584.rank)

variable [Facts]

def fn {F : FTy → Type} [FloatOps F] (main_arg0 : FVec F S8192x768 .f32) (main_arg1 : FVec F S8192x768 .bf16) (main_arg2 : FVec F S8192x768 .bf16) (main_arg3 : FVec F S8192x768 .bf16) (main_arg4 : FVec F S6x8192x64 .bf16) (main_arg5 : FVec F S8192x128 .f32) : IVec S8192x3584 1 :=
  let main_v0 : FVec F S8192x6x64 .bf16 := (transpose S8192x6x64 [1, 0, 2] · transposes_S6x8192x64_S8192x6x64_1_0_2) main_arg4
  let main_v1 : FVec F S8192x384 .bf16 := shapeCast S8192x384 main_v0 shapeCasts_S8192x6x64_S8192x384
  let main_v2 : FVec F S8192x768 .f32 := (extf .f32 · bitsLt_bf16_f32) main_arg1
  let main_v3 : FVec F S8192x768 .f32 := (extf .f32 · bitsLt_bf16_f32) main_arg2
  let main_v4 : FVec F S8192x768 .f32 := (extf .f32 · bitsLt_bf16_f32) main_arg3
  let main_v5 : FVec F S8192x384 .f32 := (extf .f32 · bitsLt_bf16_f32) main_v1
  let main_v6 : FVec F S8192x3584 .f32 := concatenate S8192x3584 1 [⟨S8192x768, main_arg0⟩, ⟨S8192x768, main_v2⟩, ⟨S8192x768, main_v3⟩, ⟨S8192x768, main_v4⟩, ⟨S8192x384, main_v5⟩, ⟨S8192x128, main_arg5⟩] concatenates_S8192x768_S8192x768_S8192x768_S8192x768_S8192x384_S8192x128_S8192x3584_d1
  let main_v7 : FVec F S8192x3584 .f32 := Host.absf main_v6
  let main_cst : FVec F S_ .f32 := constant S_ .f32 0x7F800000#32
  let main_v8 : FVec F S8192x3584 .f32 := broadcastInDim S8192x3584 ![] bcast_S_S8192x3584 main_cst
  let main_v9 : IVec S8192x3584 1 := cmpf .olt main_v7 main_v8
  main_v9
-- ==== Pre_ln_finite.lean ====
abbrev S8192x512 : Shape := ⟨2, ![8192, 512]⟩
abbrev S1x512 : Shape := ⟨2, ![1, 512]⟩
abbrev S16386x512 : Shape := ⟨2, ![16386, 512]⟩
abbrev S_ : Shape := ⟨0, ![]⟩

class Facts : Prop where
  concatenates_S8192x512_S8192x512_S1x512_S1x512_S16386x512_d0 : Shape.Concatenates [S8192x512, S8192x512, S1x512, S1x512] S16386x512 0
  bcast_S_S16386x512 : S_.BroadcastsInDim S16386x512 (![] : Fin 0 → Fin S16386x512.rank)

variable [Facts]

def fn {F : FTy → Type} [FloatOps F] (main_arg0 : FVec F S8192x512 .f32) (main_arg1 : FVec F S8192x512 .f32) (main_arg2 : FVec F S1x512 .f32) (main_arg3 : FVec F S1x512 .f32) : IVec S16386x512 1 :=
  let main_v0 : FVec F S16386x512 .f32 := concatenate S16386x512 0 [⟨S8192x512, main_arg0⟩, ⟨S8192x512, main_arg1⟩, ⟨S1x512, main_arg2⟩, ⟨S1x512, main_arg3⟩] concatenates_S8192x512_S8192x512_S1x512_S1x512_S16386x512_d0
  let main_v1 : FVec F S16386x512 .f32 := Host.absf main_v0
  let main_cst : FVec F S_ .f32 := constant S_ .f32 0x7F800000#32
  let main_v2 : FVec F S16386x512 .f32 := broadcastInDim S16386x512 ![] bcast_S_S16386x512 main_cst
  let main_v3 : IVec S16386x512 1 := cmpf .olt main_v1 main_v2
  main_v3
-- ==== Pre_loss_finite.lean ====
abbrev S8192x2048 : Shape := ⟨2, ![8192, 2048]⟩
abbrev S1x2048 : Shape := ⟨2, ![1, 2048]⟩
abbrev S16385x2048 : Shape := ⟨2, ![16385, 2048]⟩
abbrev S_ : Shape := ⟨0, ![]⟩

class Facts : Prop where
  concatenates_S8192x2048_S1x2048_S8192x2048_S16385x2048_d0 : Shape.Concatenates [S8192x2048, S1x2048, S8192x2048] S16385x2048 0
  bcast_S_S16385x2048 : S_.BroadcastsInDim S16385x2048 (![] : Fin 0 → Fin S16385x2048.rank)

variable [Facts]

def fn {F : FTy → Type} [FloatOps F] (main_arg0 : FVec F S8192x2048 .f32) (main_arg1 : FVec F S1x2048 .f32) (main_arg2 : FVec F S8192x2048 .f32) : IVec S16385x2048 1 :=
  let main_v0 : FVec F S16385x2048 .f32 := concatenate S16385x2048 0 [⟨S8192x2048, main_arg0⟩, ⟨S1x2048, main_arg1⟩, ⟨S8192x2048, main_arg2⟩] concatenates_S8192x2048_S1x2048_S8192x2048_S16385x2048_d0
  let main_v1 : FVec F S16385x2048 .f32 := Host.absf main_v0
  let main_cst : FVec F S_ .f32 := constant S_ .f32 0x7F800000#32
  let main_v2 : FVec F S16385x2048 .f32 := broadcastInDim S16385x2048 ![] bcast_S_S16385x2048 main_cst
  let main_v3 : IVec S16385x2048 1 := cmpf .olt main_v1 main_v2
  main_v3
-- ==== Pre_rms_finite.lean ====
abbrev S8192x2048 : Shape := ⟨2, ![8192, 2048]⟩
abbrev S1x2048 : Shape := ⟨2, ![1, 2048]⟩
abbrev S16385x2048 : Shape := ⟨2, ![16385, 2048]⟩
abbrev S_ : Shape := ⟨0, ![]⟩

class Facts : Prop where
  concatenates_S8192x2048_S8192x2048_S1x2048_S16385x2048_d0 : Shape.Concatenates [S8192x2048, S8192x2048, S1x2048] S16385x2048 0
  bcast_S_S16385x2048 : S_.BroadcastsInDim S16385x2048 (![] : Fin 0 → Fin S16385x2048.rank)

variable [Facts]

def fn {F : FTy → Type} [FloatOps F] (main_arg0 : FVec F S8192x2048 .f32) (main_arg1 : FVec F S8192x2048 .f32) (main_arg2 : FVec F S1x2048 .f32) (main_arg3 : FVec F S8192x2048 .f32) : IVec S16385x2048 1 :=
  let main_v0 : FVec F S16385x2048 .f32 := concatenate S16385x2048 0 [⟨S8192x2048, main_arg0⟩, ⟨S8192x2048, main_arg1⟩, ⟨S1x2048, main_arg2⟩] concatenates_S8192x2048_S8192x2048_S1x2048_S16385x2048_d0
  let main_v1 : FVec F S16385x2048 .f32 := Host.absf main_v0
  let main_cst : FVec F S_ .f32 := constant S_ .f32 0x7F800000#32
  let main_v2 : FVec F S16385x2048 .f32 := broadcastInDim S16385x2048 ![] bcast_S_S16385x2048 main_cst
  let main_v3 : IVec S16385x2048 1 := cmpf .olt main_v1 main_v2
  main_v3
-- ==== Kernel.lean ====
abbrev S8192x768 : Shape := ⟨2, ![8192, 768]⟩
abbrev S6x8192x64 : Shape := ⟨3, ![6, 8192, 64]⟩
abbrev S8192x128 : Shape := ⟨2, ![8192, 128]⟩
abbrev S128x6x128x128 : Shape := ⟨4, ![128, 6, 128, 128]⟩
abbrev S512x768 : Shape := ⟨2, ![512, 768]⟩
abbrev S6x512x64 : Shape := ⟨3, ![6, 512, 64]⟩
abbrev S512x128 : Shape := ⟨2, ![512, 128]⟩
abbrev S8x6x128x128 : Shape := ⟨4, ![8, 6, 128, 128]⟩
abbrev S6x128x128 : Shape := ⟨3, ![6, 128, 128]⟩
abbrev S1x6x128x128 : Shape := ⟨4, ![1, 6, 128, 128]⟩
abbrev S64x128 : Shape := ⟨2, ![64, 128]⟩
abbrev S1x64x128 : Shape := ⟨3, ![1, 64, 128]⟩
abbrev S6x64x128 : Shape := ⟨3, ![6, 64, 128]⟩
abbrev S6x64x64 : Shape := ⟨3, ![6, 64, 64]⟩
abbrev S1x128 : Shape := ⟨2, ![1, 128]⟩
abbrev S1x1 : Shape := ⟨2, ![1, 1]⟩
abbrev S1x1x1 : Shape := ⟨3, ![1, 1, 1]⟩
abbrev S6x1x1 : Shape := ⟨3, ![6, 1, 1]⟩

abbrev nBuf : Space → Nat
  | .hbm => 8
  | .vmem => 17
  | .smem => 0
  | _ => 0

abbrev bufTy : (tb : Table) → Fin (tcTables nBuf tb) → BufTy
  | .hbm, ⟨0, _⟩ => ⟨S8192x768, .f32⟩
  | .hbm, ⟨1, _⟩ => ⟨S8192x768, .bf16⟩
  | .hbm, ⟨2, _⟩ => ⟨S8192x768, .bf16⟩
  | .hbm, ⟨3, _⟩ => ⟨S8192x768, .bf16⟩
  | .hbm, ⟨4, _⟩ => ⟨S6x8192x64, .bf16⟩
  | .hbm, ⟨5, _⟩ => ⟨S8192x128, .f32⟩
  | .hbm, ⟨6, _⟩ => ⟨S8192x768, .bf16⟩
  | .hbm, ⟨7, _⟩ => ⟨S128x6x128x128, .f32⟩
  | .local _ .vmem, ⟨0, _⟩ => ⟨S512x768, .f32⟩
  | .local _ .vmem, ⟨1, _⟩ => ⟨S512x768, .f32⟩
  | .local _ .vmem, ⟨2, _⟩ => ⟨S512x768, .bf16⟩
  | .local _ .vmem, ⟨3, _⟩ => ⟨S512x768, .bf16⟩
  | .local _ .vmem, ⟨4, _⟩ => ⟨S512x768, .bf16⟩
  | .local _ .vmem, ⟨5, _⟩ => ⟨S512x768, .bf16⟩
  | .local _ .vmem, ⟨6, _⟩ => ⟨S512x768, .bf16⟩
  | .local _ .vmem, ⟨7, _⟩ => ⟨S512x768, .bf16⟩
  | .local _ .vmem, ⟨8, _⟩ => ⟨S6x512x64, .bf16⟩
  | .local _ .vmem, ⟨9, _⟩ => ⟨S6x512x64, .bf16⟩
  | .local _ .vmem, ⟨10, _⟩ => ⟨S512x128, .f32⟩
  | .local _ .vmem, ⟨11, _⟩ => ⟨S512x128, .f32⟩
  | .local _ .vmem, ⟨12, _⟩ => ⟨S512x768, .bf16⟩
  | .local _ .vmem, ⟨13, _⟩ => ⟨S512x768, .bf16⟩
  | .local _ .vmem, ⟨14, _⟩ => ⟨S8x6x128x128, .f32⟩
  | .local _ .vmem, ⟨15, _⟩ => ⟨S8x6x128x128, .f32⟩
  | .local _ .vmem, ⟨16, _⟩ => ⟨S6x128x128, .f32⟩
  | _, _ => ⟨S8192x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_scratch0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_4 (i : grid0.Coords) : Fin 3 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  let c0_i32_1 : BitVec 32 := 0#32
  ![c0_i32.toNat, v0.toNat, c0_i32_0.toNat]

def cc0_transform_5 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_6 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_7 (i : grid0.Coords) : Fin 4 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  let c0_i32_1 : BitVec 32 := 0#32
  let c0_i32_2 : BitVec 32 := 0#32
  ![v0.toNat, c0_i32.toNat, c0_i32_0.toNat, c0_i32_1.toNat]

abbrev stage0_0 : Fin 2 → Memref sig .tc .vmem S512x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x768 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x768 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S6x512x64 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x768 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S8x6x128x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== ReferenceIdeal.lean ====
abbrev S8192x768 : Shape := ⟨2, ![8192, 768]⟩
abbrev S6x8192x64 : Shape := ⟨3, ![6, 8192, 64]⟩
abbrev S8192x128 : Shape := ⟨2, ![8192, 128]⟩
abbrev S_ : Shape := ⟨0, ![]⟩
abbrev S128x6x128x128 : Shape := ⟨4, ![128, 6, 128, 128]⟩
abbrev S8192x6 : Shape := ⟨2, ![8192, 6]⟩
abbrev S128x64x6 : Shape := ⟨3, ![128, 64, 6]⟩
abbrev S6x128x64x64 : Shape := ⟨4, ![6, 128, 64, 64]⟩
abbrev S128x6x64x64 : Shape := ⟨4, ![128, 6, 64, 64]⟩
abbrev S128x64x6x128 : Shape := ⟨4, ![128, 64, 6, 128]⟩
abbrev S128x6x64x128 : Shape := ⟨4, ![128, 6, 64, 128]⟩
abbrev S128x1x6 : Shape := ⟨3, ![128, 1, 6]⟩
abbrev S128x6 : Shape := ⟨2, ![128, 6]⟩
abbrev S128x6x1x1 : Shape := ⟨4, ![128, 6, 1, 1]⟩
abbrev S6x128x128 : Shape := ⟨3, ![6, 128, 128]⟩
abbrev S1x6x64x128 : Shape := ⟨4, ![1, 6, 64, 128]⟩
abbrev S6x64x128 : Shape := ⟨3, ![6, 64, 128]⟩
abbrev S1x6x1x1 : Shape := ⟨4, ![1, 6, 1, 1]⟩
abbrev S6x1x1 : Shape := ⟨3, ![6, 1, 1]⟩
abbrev S1x6x64x64 : Shape := ⟨4, ![1, 6, 64, 64]⟩
abbrev S6x64x64 : Shape := ⟨3, ![6, 64, 64]⟩
abbrev S6x128x64 : Shape := ⟨3, ![6, 128, 64]⟩
abbrev S1x6x128x128 : Shape := ⟨4, ![1, 6, 128, 128]⟩

abbrev nBuf : Space → Nat
  | .hbm => 114
  | .vmem => 0
  | .smem => 0
  | _ => 0

abbrev bufTy : (tb : Table) → Fin (tcTables nBuf tb) → BufTy
  | .hbm, ⟨0, _⟩ => ⟨S8192x768, .f32⟩
  | .hbm, ⟨1, _⟩ => ⟨S8192x768, .bf16⟩
  | .hbm, ⟨2, _⟩ => ⟨S8192x768, .bf16⟩
  | .hbm, ⟨3, _⟩ => ⟨S8192x768, .bf16⟩
  | .hbm, ⟨4, _⟩ => ⟨S6x8192x64, .bf16⟩
  | .hbm, ⟨5, _⟩ => ⟨S8192x128, .f32⟩
  | .hbm, ⟨6, _⟩ => ⟨S_, .f32⟩
  | .hbm, ⟨7, _⟩ => ⟨S8192x768, .f32⟩
  | .hbm, ⟨8, _⟩ => ⟨S_, .f32⟩
  | .hbm, ⟨9, _⟩ => ⟨S128x6x128x128, .f32⟩
  | .hbm, ⟨10, _⟩ => ⟨S8192x6, .f32⟩
  | .hbm, ⟨11, _⟩ => ⟨S128x64x6, .f32⟩
  | .hbm, ⟨12, _⟩ => ⟨S6x8192x64, .f32⟩
  | .hbm, ⟨13, _⟩ => ⟨S6x128x64x64, .f32⟩
  | .hbm, ⟨14, _⟩ => ⟨S128x6x64x64, .f32⟩
  | .hbm, ⟨15, _⟩ => ⟨S8192x768, .f32⟩
  | .hbm, ⟨16, _⟩ => ⟨S128x64x6x128, .f32⟩
  | .hbm, ⟨17, _⟩ => ⟨S128x6x64x128, .f32⟩
  | .hbm, ⟨18, _⟩ => ⟨S8192x768, .f32⟩
  | .hbm, ⟨19, _⟩ => ⟨S128x64x6x128, .f32⟩
  | .hbm, ⟨20, _⟩ => ⟨S128x6x64x128, .f32⟩
  | .hbm, ⟨21, _⟩ => ⟨S8192x768, .f32⟩
  | .hbm, ⟨22, _⟩ => ⟨S128x64x6x128, .f32⟩
  | .hbm, ⟨23, _⟩ => ⟨S128x6x64x128, .f32⟩
  | .hbm, ⟨24, _⟩ => ⟨S128x1x6, .f32⟩
  | .hbm, ⟨25, _⟩ => ⟨S128x6, .f32⟩
  | .hbm, ⟨26, _⟩ => ⟨S128x6, .f32⟩
  | .hbm, ⟨27, _⟩ => ⟨S128x6x1x1, .f32⟩
  | .hbm, ⟨28, _⟩ => ⟨S_, .f32⟩
  | .hbm, ⟨29, _⟩ => ⟨S6x128x128, .f32⟩
  | .hbm, ⟨30, _⟩ => ⟨S128x64x6x128, .f32⟩
  | .hbm, ⟨31, _⟩ => ⟨S128x6x64x128, .f32⟩
  | .hbm, ⟨32, _⟩ => ⟨S_, .f32⟩
  | .hbm, ⟨33, _⟩ => ⟨S6x128x128, .f32⟩
  | .hbm, ⟨34, _⟩ => ⟨S_, .f32⟩
  | .hbm, ⟨35, _⟩ => ⟨S128x6x64x128, .f32⟩
  | .hbm, ⟨36, _⟩ => ⟨S_, .f32⟩
  | .hbm, ⟨37, _⟩ => ⟨S128x6x128x128, .f32⟩
  | .hbm, ⟨38, _⟩ => ⟨S_, .i32⟩
  | .hbm, ⟨39, _⟩ => ⟨S128x6x64x128, .f32⟩
  | .hbm, ⟨40, _⟩ => ⟨S128x6x1x1, .f32⟩
  | .hbm, ⟨41, _⟩ => ⟨S128x6x64x128, .f32⟩
  | .hbm, ⟨42, _⟩ => ⟨S128x6x64x128, .f32⟩
  | .hbm, ⟨43, _⟩ => ⟨S128x6x64x128, .f32⟩
  | .hbm, ⟨44, _⟩ => ⟨S128x6x64x64, .f32⟩
  | .hbm, ⟨45, _⟩ => ⟨S_, .i32⟩
  | .hbm, ⟨46, _⟩ => ⟨S6x128x128, .f32⟩
  | .hbm, ⟨47, _⟩ => ⟨S128x6x64x128, .f32⟩
  | .hbm, ⟨48, _⟩ => ⟨S128x6x128x128, .f32⟩
  | .hbm, ⟨49, _⟩ => ⟨S_, .i32⟩
  | .hbm, ⟨50, _⟩ => ⟨S_, .i1⟩
  | .hbm, ⟨51, _⟩ => ⟨S_, .i32⟩
  | .hbm, ⟨52, _⟩ => ⟨S_, .i32⟩
  | .hbm, ⟨53, _⟩ => ⟨S_, .i32⟩
  | .hbm, ⟨54, _⟩ => ⟨S_, .i32⟩
  | .hbm, ⟨55, _⟩ => ⟨S_, .i32⟩
  | .hbm, ⟨56, _⟩ => ⟨S_, .i32⟩
  | .hbm, ⟨57, _⟩ => ⟨S_, .i32⟩
  | .hbm, ⟨58, _⟩ => ⟨S1x6x64x128, .f32⟩
  | .hbm, ⟨59, _⟩ => ⟨S6x64x128, .f32⟩
  | .hbm, ⟨60, _⟩ => ⟨S_, .i32⟩
  | .hbm, ⟨61, _⟩ => ⟨S_, .i32⟩
  | .hbm, ⟨62, _⟩ => ⟨S_, .i32⟩
  | .hbm, ⟨63, _⟩ => ⟨S1x6x1x1, .f32⟩
  | .hbm, ⟨64, _⟩ => ⟨S6x1x1, .f32⟩
  | .hbm, ⟨65, _⟩ => ⟨S_, .i32⟩
  | .hbm, ⟨66, _⟩ => ⟨S_, .i32⟩
  | .hbm, ⟨67, _⟩ => ⟨S_, .i32⟩
  | .hbm, ⟨68, _⟩ => ⟨S1x6x64x128, .f32⟩
  | .hbm, ⟨69, _⟩ => ⟨S6x64x128, .f32⟩
  | .hbm, ⟨70, _⟩ => ⟨S_, .i32⟩
  | .hbm, ⟨71, _⟩ => ⟨S_, .i32⟩
  | .hbm, ⟨72, _⟩ => ⟨S_, .i32⟩
  | .hbm, ⟨73, _⟩ => ⟨S1x6x64x128, .f32⟩
  | .hbm, ⟨74, _⟩ => ⟨S6x64x128, .f32⟩
  | .hbm, ⟨75, _⟩ => ⟨S_, .i32⟩
  | .hbm, ⟨76, _⟩ => ⟨S_, .i32⟩
  | .hbm, ⟨77, _⟩ => ⟨S_, .i32⟩
  | .hbm, ⟨78, _⟩ => ⟨S1x6x64x128, .f32⟩
  | .hbm, ⟨79, _⟩ => ⟨S6x64x128, .f32⟩
  | .hbm, ⟨80, _⟩ => ⟨S_, .i32⟩
  | .hbm, ⟨81, _⟩ => ⟨S_, .i32⟩
  | .hbm, ⟨82, _⟩ => ⟨S_, .i32⟩
  | .hbm, ⟨83, _⟩ => ⟨S1x6x64x64, .f32⟩
  | .hbm, ⟨84, _⟩ => ⟨S6x64x64, .f32⟩
  | .hbm, ⟨85, _⟩ => ⟨S6x128x64, .f32⟩
  | .hbm, ⟨86, _⟩ => ⟨S6x64x128, .f32⟩
  | .hbm, ⟨87, _⟩ => ⟨S6x128x128, .f32⟩
  | .hbm, ⟨88, _⟩ => ⟨S6x128x128, .f32⟩
  | .hbm, ⟨89, _⟩ => ⟨S6x128x64, .f32⟩
  | .hbm, ⟨90, _⟩ => ⟨S6x64x128, .f32⟩
  | .hbm, ⟨91, _⟩ => ⟨S6x64x128, .f32⟩
  | .hbm, ⟨92, _⟩ => ⟨S6x128x128, .f32⟩
  | .hbm, ⟨93, _⟩ => ⟨S6x128x128, .f32⟩
  | .hbm, ⟨94, _⟩ => ⟨S6x128x128, .f32⟩
  | .hbm, ⟨95, _⟩ => ⟨S6x64x128, .f32⟩
  | .hbm, ⟨96, _⟩ => ⟨S6x128x128, .f32⟩
  | .hbm, ⟨97, _⟩ => ⟨S6x128x128, .f32⟩
  | .hbm, ⟨98, _⟩ => ⟨S6x128x128, .f32⟩
  | .hbm, ⟨99, _⟩ => ⟨S1x6x64x128, .f32⟩
  | .hbm, ⟨100, _⟩ => ⟨S_, .i32⟩
  | .hbm, ⟨101, _⟩ => ⟨S_, .i32⟩
  | .hbm, ⟨102, _⟩ => ⟨S_, .i32⟩
  | .hbm, ⟨103, _⟩ => ⟨S128x6x64x128, .f32⟩
  | .hbm, ⟨104, _⟩ => ⟨S1x6x128x128, .f32⟩
  | .hbm, ⟨105, _⟩ => ⟨S_, .i32⟩
  | .hbm, ⟨106, _⟩ => ⟨S_, .i32⟩
  | .hbm, ⟨107, _⟩ => ⟨S_, .i32⟩
  | .hbm, ⟨108, _⟩ => ⟨S128x6x128x128, .f32⟩
  | .hbm, ⟨109, _⟩ => ⟨S_, .i32⟩
  | .hbm, ⟨110, _⟩ => ⟨S_, .i32⟩
  | .hbm, ⟨111, _⟩ => ⟨S128x64x6x128, .f32⟩
  | .hbm, ⟨112, _⟩ => ⟨S8192x768, .f32⟩
  | .hbm, ⟨113, _⟩ => ⟨S8192x768, .bf16⟩
  | _, _ => ⟨S8192x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_cst_0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_cst_1 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_cst_2 : Ref sig .tc := ⟨.hbm, 32, rfl⟩
abbrev main_v23 : Ref sig .tc := ⟨.hbm, 33, rfl⟩
abbrev main_cst_3 : Ref sig .tc := ⟨.hbm, 34, rfl⟩
abbrev main_v24 : Ref sig .tc := ⟨.hbm, 35, rfl⟩
abbrev main_cst_4 : Ref sig .tc := ⟨.hbm, 36, rfl⟩
abbrev main_v25 : Ref sig .tc := ⟨.hbm, 37, rfl⟩
abbrev main_c : Ref sig .tc := ⟨.hbm, 38, rfl⟩
abbrev main_v26_0 : Ref sig .tc := ⟨.hbm, 39, rfl⟩
abbrev main_v26_1 : Ref sig .tc := ⟨.hbm, 40, rfl⟩
abbrev main_v26_2 : Ref sig .tc := ⟨.hbm, 41, rfl⟩
abbrev main_v26_3 : Ref sig .tc := ⟨.hbm, 42, rfl⟩
abbrev main_v26_4 : Ref sig .tc := ⟨.hbm, 43, rfl⟩
abbrev main_v26_5 : Ref sig .tc := ⟨.hbm, 44, rfl⟩
abbrev main_v26_6 : Ref sig .tc := ⟨.hbm, 45, rfl⟩
abbrev main_v26_7 : Ref sig .tc := ⟨.hbm, 46, rfl⟩
abbrev main_v26_8 : Ref sig .tc := ⟨.hbm, 47, rfl⟩
abbrev main_v26_9 : Ref sig .tc := ⟨.hbm, 48, rfl⟩
abbrev main_while0c_c_14 : Ref sig .tc := ⟨.hbm, 49, rfl⟩
abbrev main_while0c_v30 : Ref sig .tc := ⟨.hbm, 50, rfl⟩
abbrev main_while0b_c_14 : Ref sig .tc := ⟨.hbm, 51, rfl⟩
abbrev main_while0b_v30 : Ref sig .tc := ⟨.hbm, 52, rfl⟩
abbrev main_while0b_c_15 : Ref sig .tc := ⟨.hbm, 53, rfl⟩
abbrev main_while0b_v31 : Ref sig .tc := ⟨.hbm, 54, rfl⟩
abbrev main_while0b_call0_c : Ref sig .tc := ⟨.hbm, 55, rfl⟩
abbrev main_while0b_call0_c_0 : Ref sig .tc := ⟨.hbm, 56, rfl⟩
abbrev main_while0b_call0_c_1 : Ref sig .tc := ⟨.hbm, 57, rfl⟩
abbrev main_while0b_call0_v0 : Ref sig .tc := ⟨.hbm, 58, rfl⟩
abbrev main_while0b_v32 : Ref sig .tc := ⟨.hbm, 59, rfl⟩
abbrev main_while0b_call1_c : Ref sig .tc := ⟨.hbm, 60, rfl⟩
abbrev main_while0b_call1_c_0 : Ref sig .tc := ⟨.hbm, 61, rfl⟩
abbrev main_while0b_call1_c_1 : Ref sig .tc := ⟨.hbm, 62, rfl⟩
abbrev main_while0b_call1_v0 : Ref sig .tc := ⟨.hbm, 63, rfl⟩
abbrev main_while0b_v33 : Ref sig .tc := ⟨.hbm, 64, rfl⟩
abbrev main_while0b_call2_c : Ref sig .tc := ⟨.hbm, 65, rfl⟩
abbrev main_while0b_call2_c_0 : Ref sig .tc := ⟨.hbm, 66, rfl⟩
abbrev main_while0b_call2_c_1 : Ref sig .tc := ⟨.hbm, 67, rfl⟩
abbrev main_while0b_call2_v0 : Ref sig .tc := ⟨.hbm, 68, rfl⟩
abbrev main_while0b_v34 : Ref sig .tc := ⟨.hbm, 69, rfl⟩
abbrev main_while0b_call3_c : Ref sig .tc := ⟨.hbm, 70, rfl⟩
abbrev main_while0b_call3_c_0 : Ref sig .tc := ⟨.hbm, 71, rfl⟩
abbrev main_while0b_call3_c_1 : Ref sig .tc := ⟨.hbm, 72, rfl⟩
abbrev main_while0b_call3_v0 : Ref sig .tc := ⟨.hbm, 73, rfl⟩
abbrev main_while0b_v35 : Ref sig .tc := ⟨.hbm, 74, rfl⟩
abbrev main_while0b_call4_c : Ref sig .tc := ⟨.hbm, 75, rfl⟩
abbrev main_while0b_call4_c_0 : Ref sig .tc := ⟨.hbm, 76, rfl⟩
abbrev main_while0b_call4_c_1 : Ref sig .tc := ⟨.hbm, 77, rfl⟩
abbrev main_while0b_call4_v0 : Ref sig .tc := ⟨.hbm, 78, rfl⟩
abbrev main_while0b_v36 : Ref sig .tc := ⟨.hbm, 79, rfl⟩
abbrev main_while0b_call5_c : Ref sig .tc := ⟨.hbm, 80, rfl⟩
abbrev main_while0b_call5_c_0 : Ref sig .tc := ⟨.hbm, 81, rfl⟩
abbrev main_while0b_call5_c_1 : Ref sig .tc := ⟨.hbm, 82, rfl⟩
abbrev main_while0b_call5_v0 : Ref sig .tc := ⟨.hbm, 83, rfl⟩
abbrev main_while0b_v37 : Ref sig .tc := ⟨.hbm, 84, rfl⟩
abbrev main_while0b_v38 : Ref sig .tc := ⟨.hbm, 85, rfl⟩
abbrev main_while0b_v39 : Ref sig .tc := ⟨.hbm, 86, rfl⟩
abbrev main_while0b_v40 : Ref sig .tc := ⟨.hbm, 87, rfl⟩
abbrev main_while0b_v41 : Ref sig .tc := ⟨.hbm, 88, rfl⟩
abbrev main_while0b_v42 : Ref sig .tc := ⟨.hbm, 89, rfl⟩
abbrev main_while0b_v43 : Ref sig .tc := ⟨.hbm, 90, rfl⟩
abbrev main_while0b_v44 : Ref sig .tc := ⟨.hbm, 91, rfl⟩
abbrev main_while0b_v45 : Ref sig .tc := ⟨.hbm, 92, rfl⟩
abbrev main_while0b_v46 : Ref sig .tc := ⟨.hbm, 93, rfl⟩
abbrev main_while0b_v47 : Ref sig .tc := ⟨.hbm, 94, rfl⟩
abbrev main_while0b_v48 : Ref sig .tc := ⟨.hbm, 95, rfl⟩
abbrev main_while0b_v49 : Ref sig .tc := ⟨.hbm, 96, rfl⟩
abbrev main_while0b_v50 : Ref sig .tc := ⟨.hbm, 97, rfl⟩
abbrev main_while0b_v51 : Ref sig .tc := ⟨.hbm, 98, rfl⟩
abbrev main_while0b_call6_v0 : Ref sig .tc := ⟨.hbm, 99, rfl⟩
abbrev main_while0b_call6_c : Ref sig .tc := ⟨.hbm, 100, rfl⟩
abbrev main_while0b_call6_c_0 : Ref sig .tc := ⟨.hbm, 101, rfl⟩
abbrev main_while0b_call6_c_1 : Ref sig .tc := ⟨.hbm, 102, rfl⟩
abbrev main_while0b_v52 : Ref sig .tc := ⟨.hbm, 103, rfl⟩
abbrev main_while0b_call7_v0 : Ref sig .tc := ⟨.hbm, 104, rfl⟩
abbrev main_while0b_call7_c : Ref sig .tc := ⟨.hbm, 105, rfl⟩
abbrev main_while0b_call7_c_0 : Ref sig .tc := ⟨.hbm, 106, rfl⟩
abbrev main_while0b_call7_c_1 : Ref sig .tc := ⟨.hbm, 107, rfl⟩
abbrev main_while0b_v53 : Ref sig .tc := ⟨.hbm, 108, rfl⟩
abbrev main_while0b_c_16 : Ref sig .tc := ⟨.hbm, 109, rfl⟩
abbrev main_while0b_v54 : Ref sig .tc := ⟨.hbm, 110, rfl⟩
abbrev main_v27 : Ref sig .tc := ⟨.hbm, 111, rfl⟩
abbrev main_v28 : Ref sig .tc := ⟨.hbm, 112, rfl⟩
abbrev main_v29 : Ref sig .tc := ⟨.hbm, 113, rfl⟩

abbrev nD : Nat := 1
abbrev τ : Topo := Topo.v7x

variable {F : FTy → Type} [FloatOps F]

abbrev main_while0_count : Scf.Loop 32 := ⟨0#32, 128#32, 1#32⟩
-- ==== Kernel2.lean ====
abbrev S8192x8192 : Shape := ⟨2, ![8192, 8192]⟩
abbrev S2048x8192 : Shape := ⟨2, ![2048, 8192]⟩
abbrev S8192x2048 : Shape := ⟨2, ![8192, 2048]⟩
abbrev S1024x4096 : Shape := ⟨2, ![1024, 4096]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x8192, .bf16⟩
  | .hbm, ⟨1, _⟩ => ⟨S2048x8192, .bf16⟩
  | .hbm, ⟨2, _⟩ => ⟨S8192x2048, .f32⟩
  | .local _ .vmem, ⟨0, _⟩ => ⟨S1024x4096, .bf16⟩
  | .local _ .vmem, ⟨1, _⟩ => ⟨S1024x4096, .bf16⟩
  | .local _ .vmem, ⟨2, _⟩ => ⟨S1024x4096, .bf16⟩
  | .local _ .vmem, ⟨3, _⟩ => ⟨S1024x4096, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 2], ![false, false, false]⟩

def k0_cond3 (i : grid0.Coords) : BitVec 1 :=
  let arg2 : BitVec 32 := BitVec.ofNat 32 (i 2).val
  let c1_i32 : BitVec 32 := 1#32
  let v9 : BitVec 1 := Scalar.cmpi .eq arg2 c1_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference2Ideal.lean ====
abbrev S8192x8192 : Shape := ⟨2, ![8192, 8192]⟩
abbrev S2048x8192 : Shape := ⟨2, ![2048, 8192]⟩
abbrev S_ : Shape := ⟨0, ![]⟩
abbrev S8192x2048 : Shape := ⟨2, ![8192, 2048]⟩

abbrev nBuf : Space → Nat
  | .hbm => 7
  | .vmem => 0
  | .smem => 0
  | _ => 0

abbrev bufTy : (tb : Table) → Fin (tcTables nBuf tb) → BufTy
  | .hbm, ⟨0, _⟩ => ⟨S8192x8192, .bf16⟩
  | .hbm, ⟨1, _⟩ => ⟨S2048x8192, .bf16⟩
  | .hbm, ⟨2, _⟩ => ⟨S2048x8192, .f32⟩
  | .hbm, ⟨3, _⟩ => ⟨S8192x8192, .f32⟩
  | .hbm, ⟨4, _⟩ => ⟨S_, .f32⟩
  | .hbm, ⟨5, _⟩ => ⟨S8192x2048, .f32⟩
  | .hbm, ⟨6, _⟩ => ⟨S8192x2048, .f32⟩
  | _, _ => ⟨S8192x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel3.lean ====
abbrev S8192x2048 : Shape := ⟨2, ![8192, 2048]⟩
abbrev S8192x8192 : Shape := ⟨2, ![8192, 8192]⟩
abbrev S4x2048x8192 : Shape := ⟨3, ![4, 2048, 8192]⟩
abbrev S4096x1024 : Shape := ⟨2, ![4096, 1024]⟩
abbrev S1x1024x1024 : Shape := ⟨3, ![1, 1024, 1024]⟩
abbrev S1024x1024 : Shape := ⟨2, ![1024, 1024]⟩

abbrev nBuf : Space → Nat
  | .hbm => 4
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S8192x8192, .bf16⟩
  | .hbm, ⟨2, _⟩ => ⟨S4x2048x8192, .f32⟩
  | .hbm, ⟨3, _⟩ => ⟨S4x2048x8192, .f32⟩
  | .local _ .vmem, ⟨0, _⟩ => ⟨S4096x1024, .bf16⟩
  | .local _ .vmem, ⟨1, _⟩ => ⟨S4096x1024, .bf16⟩
  | .local _ .vmem, ⟨2, _⟩ => ⟨S4096x1024, .bf16⟩
  | .local _ .vmem, ⟨3, _⟩ => ⟨S4096x1024, .bf16⟩
  | .local _ .vmem, ⟨4, _⟩ => ⟨S1x1024x1024, .f32⟩
  | .local _ .vmem, ⟨5, _⟩ => ⟨S1x1024x1024, .f32⟩
  | .local _ .vmem, ⟨6, _⟩ => ⟨S1024x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 8, 2], ![false, false, false]⟩

def k0_cond3 (i : grid0.Coords) : BitVec 1 :=
  let arg2 : BitVec 32 := BitVec.ofNat 32 (i 2).val
  let c1_i32 : BitVec 32 := 1#32
  let v9 : BitVec 1 := Scalar.cmpi .eq arg2 c1_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat, arg1.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference3Ideal.lean ====
abbrev S8192x2048 : Shape := ⟨2, ![8192, 2048]⟩
abbrev S8192x8192 : Shape := ⟨2, ![8192, 8192]⟩
abbrev S4x2048x8192 : Shape := ⟨3, ![4, 2048, 8192]⟩
abbrev S_ : Shape := ⟨0, ![]⟩
abbrev S2048x8192 : Shape := ⟨2, ![2048, 8192]⟩
abbrev S1x2048x8192 : Shape := ⟨3, ![1, 2048, 8192]⟩
abbrev S3x2048x8192 : Shape := ⟨3, ![3, 2048, 8192]⟩

abbrev nBuf : Space → Nat
  | .hbm => 12
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8192x8192, .bf16⟩
  | .hbm, ⟨2, _⟩ => ⟨S4x2048x8192, .f32⟩
  | .hbm, ⟨3, _⟩ => ⟨S8192x2048, .f32⟩
  | .hbm, ⟨4, _⟩ => ⟨S8192x8192, .f32⟩
  | .hbm, ⟨5, _⟩ => ⟨S_, .f32⟩
  | .hbm, ⟨6, _⟩ => ⟨S2048x8192, .f32⟩
  | .hbm, ⟨7, _⟩ => ⟨S8192x2048, .f32⟩
  | .hbm, ⟨8, _⟩ => ⟨S2048x8192, .f32⟩
  | .hbm, ⟨9, _⟩ => ⟨S1x2048x8192, .f32⟩
  | .hbm, ⟨10, _⟩ => ⟨S3x2048x8192, .f32⟩
  | .hbm, ⟨11, _⟩ => ⟨S4x2048x8192, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩

abbrev nD : Nat := 1
abbrev τ : Topo := Topo.v7x

variable {F : FTy → Type} [FloatOps F]
-- ==== Kernel4.lean ====
abbrev S8192x2048 : Shape := ⟨2, ![8192, 2048]⟩
abbrev S2048x2048 : Shape := ⟨2, ![2048, 2048]⟩
abbrev S512x2048 : Shape := ⟨2, ![512, 2048]⟩

abbrev nBuf : Space → Nat
  | .hbm => 3
  | .vmem => 5
  | .smem => 0
  | _ => 0

abbrev bufTy : (tb : Table) → Fin (tcTables nBuf tb) → BufTy
  | .hbm, ⟨0, _⟩ => ⟨S8192x2048, .f32⟩
  | .hbm, ⟨1, _⟩ => ⟨S2048x2048, .bf16⟩
  | .hbm, ⟨2, _⟩ => ⟨S8192x2048, .f32⟩
  | .local _ .vmem, ⟨0, _⟩ => ⟨S512x2048, .f32⟩
  | .local _ .vmem, ⟨1, _⟩ => ⟨S512x2048, .f32⟩
  | .local _ .vmem, ⟨2, _⟩ => ⟨S2048x2048, .bf16⟩
  | .local _ .vmem, ⟨3, _⟩ => ⟨S512x2048, .f32⟩
  | .local _ .vmem, ⟨4, _⟩ => ⟨S512x2048, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![16, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference4Ideal.lean ====
abbrev S8192x2048 : Shape := ⟨2, ![8192, 2048]⟩
abbrev S2048x2048 : Shape := ⟨2, ![2048, 2048]⟩
abbrev S_ : Shape := ⟨0, ![]⟩

abbrev nBuf : Space → Nat
  | .hbm => 6
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048x2048, .bf16⟩
  | .hbm, ⟨2, _⟩ => ⟨S2048x2048, .f32⟩
  | .hbm, ⟨3, _⟩ => ⟨S_, .f32⟩
  | .hbm, ⟨4, _⟩ => ⟨S8192x2048, .f32⟩
  | .hbm, ⟨5, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Kernel5.lean ====
abbrev S8192x2048 : Shape := ⟨2, ![8192, 2048]⟩
abbrev S4x2048x2048 : Shape := ⟨3, ![4, 2048, 2048]⟩
abbrev S2048x1024 : Shape := ⟨2, ![2048, 1024]⟩
abbrev S1x1024x1024 : Shape := ⟨3, ![1, 1024, 1024]⟩
abbrev S1024x1024 : Shape := ⟨2, ![1024, 1024]⟩

abbrev nBuf : Space → Nat
  | .hbm => 4
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S8192x2048, .f32⟩
  | .hbm, ⟨2, _⟩ => ⟨S4x2048x2048, .f32⟩
  | .hbm, ⟨3, _⟩ => ⟨S4x2048x2048, .f32⟩
  | .local _ .vmem, ⟨0, _⟩ => ⟨S2048x1024, .bf16⟩
  | .local _ .vmem, ⟨1, _⟩ => ⟨S2048x1024, .bf16⟩
  | .local _ .vmem, ⟨2, _⟩ => ⟨S2048x1024, .f32⟩
  | .local _ .vmem, ⟨3, _⟩ => ⟨S2048x1024, .f32⟩
  | .local _ .vmem, ⟨4, _⟩ => ⟨S1x1024x1024, .f32⟩
  | .local _ .vmem, ⟨5, _⟩ => ⟨S1x1024x1024, .f32⟩
  | .local _ .vmem, ⟨6, _⟩ => ⟨S1024x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 4], ![false, false, false]⟩

def k0_cond3 (i : grid0.Coords) : BitVec 1 :=
  let arg2 : BitVec 32 := BitVec.ofNat 32 (i 2).val
  let c3_i32 : BitVec 32 := 3#32
  let v10 : BitVec 1 := Scalar.cmpi .eq arg2 c3_i32
  let v11 : BitVec 32 := Scalar.extui v10
  let c0_i32_6 : BitVec 32 := 0#32
  let v12 : BitVec 1 := Scalar.cmpi .ne v11 c0_i32_6
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference5Ideal.lean ====
abbrev S8192x2048 : Shape := ⟨2, ![8192, 2048]⟩
abbrev S4x2048x2048 : Shape := ⟨3, ![4, 2048, 2048]⟩
abbrev S_ : Shape := ⟨0, ![]⟩
abbrev S2048x2048 : Shape := ⟨2, ![2048, 2048]⟩
abbrev S1x2048x2048 : Shape := ⟨3, ![1, 2048, 2048]⟩
abbrev S3x2048x2048 : Shape := ⟨3, ![3, 2048, 2048]⟩

abbrev nBuf : Space → Nat
  | .hbm => 11
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8192x2048, .f32⟩
  | .hbm, ⟨2, _⟩ => ⟨S4x2048x2048, .f32⟩
  | .hbm, ⟨3, _⟩ => ⟨S8192x2048, .f32⟩
  | .hbm, ⟨4, _⟩ => ⟨S_, .f32⟩
  | .hbm, ⟨5, _⟩ => ⟨S2048x2048, .f32⟩
  | .hbm, ⟨6, _⟩ => ⟨S2048x2048, .f32⟩
  | .hbm, ⟨7, _⟩ => ⟨S2048x2048, .f32⟩
  | .hbm, ⟨8, _⟩ => ⟨S1x2048x2048, .f32⟩
  | .hbm, ⟨9, _⟩ => ⟨S3x2048x2048, .f32⟩
  | .hbm, ⟨10, _⟩ => ⟨S4x2048x2048, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩

abbrev nD : Nat := 1
abbrev τ : Topo := Topo.v7x

variable {F : FTy → Type} [FloatOps F]
-- ==== Kernel6.lean ====
abbrev S8192x512 : Shape := ⟨2, ![8192, 512]⟩
abbrev S512x512 : Shape := ⟨2, ![512, 512]⟩
abbrev S1024x512 : Shape := ⟨2, ![1024, 512]⟩

abbrev nBuf : Space → Nat
  | .hbm => 3
  | .vmem => 5
  | .smem => 0
  | _ => 0

abbrev bufTy : (tb : Table) → Fin (tcTables nBuf tb) → BufTy
  | .hbm, ⟨0, _⟩ => ⟨S8192x512, .f32⟩
  | .hbm, ⟨1, _⟩ => ⟨S512x512, .bf16⟩
  | .hbm, ⟨2, _⟩ => ⟨S8192x512, .f32⟩
  | .local _ .vmem, ⟨0, _⟩ => ⟨S1024x512, .f32⟩
  | .local _ .vmem, ⟨1, _⟩ => ⟨S1024x512, .f32⟩
  | .local _ .vmem, ⟨2, _⟩ => ⟨S512x512, .bf16⟩
  | .local _ .vmem, ⟨3, _⟩ => ⟨S1024x512, .f32⟩
  | .local _ .vmem, ⟨4, _⟩ => ⟨S1024x512, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S512x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference6Ideal.lean ====
abbrev S8192x512 : Shape := ⟨2, ![8192, 512]⟩
abbrev S512x512 : Shape := ⟨2, ![512, 512]⟩
abbrev S_ : Shape := ⟨0, ![]⟩

abbrev nBuf : Space → Nat
  | .hbm => 6
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S512x512, .bf16⟩
  | .hbm, ⟨2, _⟩ => ⟨S512x512, .f32⟩
  | .hbm, ⟨3, _⟩ => ⟨S_, .f32⟩
  | .hbm, ⟨4, _⟩ => ⟨S8192x512, .f32⟩
  | .hbm, ⟨5, _⟩ => ⟨S8192x512, .f32⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Kernel7.lean ====
abbrev S8192x512 : Shape := ⟨2, ![8192, 512]⟩
abbrev S4x512x512 : Shape := ⟨3, ![4, 512, 512]⟩
abbrev S1024x512 : Shape := ⟨2, ![1024, 512]⟩
abbrev S1x512x512 : Shape := ⟨3, ![1, 512, 512]⟩
abbrev S512x512 : Shape := ⟨2, ![512, 512]⟩

abbrev nBuf : Space → Nat
  | .hbm => 4
  | .vmem => 6
  | .smem => 0
  | _ => 0

abbrev bufTy : (tb : Table) → Fin (tcTables nBuf tb) → BufTy
  | .hbm, ⟨0, _⟩ => ⟨S8192x512, .bf16⟩
  | .hbm, ⟨1, _⟩ => ⟨S8192x512, .f32⟩
  | .hbm, ⟨2, _⟩ => ⟨S4x512x512, .f32⟩
  | .hbm, ⟨3, _⟩ => ⟨S4x512x512, .f32⟩
  | .local _ .vmem, ⟨0, _⟩ => ⟨S1024x512, .bf16⟩
  | .local _ .vmem, ⟨1, _⟩ => ⟨S1024x512, .bf16⟩
  | .local _ .vmem, ⟨2, _⟩ => ⟨S1024x512, .f32⟩
  | .local _ .vmem, ⟨3, _⟩ => ⟨S1024x512, .f32⟩
  | .local _ .vmem, ⟨4, _⟩ => ⟨S1x512x512, .f32⟩
  | .local _ .vmem, ⟨5, _⟩ => ⟨S512x512, .f32⟩
  | _, _ => ⟨S8192x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 8], ![false, false, false]⟩

def k0_cond3 (i : grid0.Coords) : BitVec 1 :=
  let arg2 : BitVec 32 := BitVec.ofNat 32 (i 2).val
  let c7_i32 : BitVec 32 := 7#32
  let v10 : BitVec 1 := Scalar.cmpi .eq arg2 c7_i32
  let v11 : BitVec 32 := Scalar.extui v10
  let c0_i32_6 : BitVec 32 := 0#32
  let v12 : BitVec 1 := Scalar.cmpi .ne v11 c0_i32_6
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1x512x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference7Ideal.lean ====
abbrev S8192x512 : Shape := ⟨2, ![8192, 512]⟩
abbrev S4x512x512 : Shape := ⟨3, ![4, 512, 512]⟩
abbrev S_ : Shape := ⟨0, ![]⟩
abbrev S512x512 : Shape := ⟨2, ![512, 512]⟩
abbrev S1x512x512 : Shape := ⟨3, ![1, 512, 512]⟩
abbrev S3x512x512 : Shape := ⟨3, ![3, 512, 512]⟩

abbrev nBuf : Space → Nat
  | .hbm => 11
  | .vmem => 0
  | .smem => 0
  | _ => 0

abbrev bufTy : (tb : Table) → Fin (tcTables nBuf tb) → BufTy
  | .hbm, ⟨0, _⟩ => ⟨S8192x512, .bf16⟩
  | .hbm, ⟨1, _⟩ => ⟨S8192x512, .f32⟩
  | .hbm, ⟨2, _⟩ => ⟨S4x512x512, .f32⟩
  | .hbm, ⟨3, _⟩ => ⟨S8192x512, .f32⟩
  | .hbm, ⟨4, _⟩ => ⟨S_, .f32⟩
  | .hbm, ⟨5, _⟩ => ⟨S512x512, .f32⟩
  | .hbm, ⟨6, _⟩ => ⟨S512x512, .f32⟩
  | .hbm, ⟨7, _⟩ => ⟨S512x512, .f32⟩
  | .hbm, ⟨8, _⟩ => ⟨S1x512x512, .f32⟩
  | .hbm, ⟨9, _⟩ => ⟨S3x512x512, .f32⟩
  | .hbm, ⟨10, _⟩ => ⟨S4x512x512, .f32⟩
  | _, _ => ⟨S8192x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩

abbrev nD : Nat := 1
abbrev τ : Topo := Topo.v7x

variable {F : FTy → Type} [FloatOps F]
-- ==== Kernel8.lean ====
abbrev S8192x2048 : Shape := ⟨2, ![8192, 2048]⟩
abbrev S2048x8192 : Shape := ⟨2, ![2048, 8192]⟩
abbrev S8192x8192 : Shape := ⟨2, ![8192, 8192]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x2048, .bf16⟩
  | .hbm, ⟨1, _⟩ => ⟨S2048x8192, .bf16⟩
  | .hbm, ⟨2, _⟩ => ⟨S8192x8192, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference8Ideal.lean ====
abbrev S8192x2048 : Shape := ⟨2, ![8192, 2048]⟩
abbrev S2048x8192 : Shape := ⟨2, ![2048, 8192]⟩
abbrev S8192x8192 : Shape := ⟨2, ![8192, 8192]⟩

abbrev nBuf : Space → Nat
  | .hbm => 5
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x8192, .bf16⟩
  | .hbm, ⟨2, _⟩ => ⟨S8192x2048, .f32⟩
  | .hbm, ⟨3, _⟩ => ⟨S2048x8192, .f32⟩
  | .hbm, ⟨4, _⟩ => ⟨S8192x8192, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel9.lean ====
abbrev S8192x2048 : Shape := ⟨2, ![8192, 2048]⟩
abbrev S2048x2048 : Shape := ⟨2, ![2048, 2048]⟩
abbrev S512x2048 : Shape := ⟨2, ![512, 2048]⟩

abbrev nBuf : Space → Nat
  | .hbm => 4
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S2048x2048, .bf16⟩
  | .hbm, ⟨2, _⟩ => ⟨S8192x2048, .f32⟩
  | .hbm, ⟨3, _⟩ => ⟨S8192x2048, .f32⟩
  | .local _ .vmem, ⟨0, _⟩ => ⟨S512x2048, .bf16⟩
  | .local _ .vmem, ⟨1, _⟩ => ⟨S512x2048, .bf16⟩
  | .local _ .vmem, ⟨2, _⟩ => ⟨S2048x2048, .bf16⟩
  | .local _ .vmem, ⟨3, _⟩ => ⟨S512x2048, .f32⟩
  | .local _ .vmem, ⟨4, _⟩ => ⟨S512x2048, .f32⟩
  | .local _ .vmem, ⟨5, _⟩ => ⟨S512x2048, .f32⟩
  | .local _ .vmem, ⟨6, _⟩ => ⟨S512x2048, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![16, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference9Ideal.lean ====
abbrev S8192x2048 : Shape := ⟨2, ![8192, 2048]⟩
abbrev S2048x2048 : Shape := ⟨2, ![2048, 2048]⟩

abbrev nBuf : Space → Nat
  | .hbm => 7
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x2048, .bf16⟩
  | .hbm, ⟨2, _⟩ => ⟨S8192x2048, .f32⟩
  | .hbm, ⟨3, _⟩ => ⟨S8192x2048, .f32⟩
  | .hbm, ⟨4, _⟩ => ⟨S2048x2048, .f32⟩
  | .hbm, ⟨5, _⟩ => ⟨S8192x2048, .f32⟩
  | .hbm, ⟨6, _⟩ => ⟨S8192x2048, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel10.lean ====
abbrev S8192x512 : Shape := ⟨2, ![8192, 512]⟩
abbrev S512x512 : Shape := ⟨2, ![512, 512]⟩
abbrev S1024x512 : Shape := ⟨2, ![1024, 512]⟩

abbrev nBuf : Space → Nat
  | .hbm => 3
  | .vmem => 5
  | .smem => 0
  | _ => 0

abbrev bufTy : (tb : Table) → Fin (tcTables nBuf tb) → BufTy
  | .hbm, ⟨0, _⟩ => ⟨S8192x512, .bf16⟩
  | .hbm, ⟨1, _⟩ => ⟨S512x512, .bf16⟩
  | .hbm, ⟨2, _⟩ => ⟨S8192x512, .f32⟩
  | .local _ .vmem, ⟨0, _⟩ => ⟨S1024x512, .bf16⟩
  | .local _ .vmem, ⟨1, _⟩ => ⟨S1024x512, .bf16⟩
  | .local _ .vmem, ⟨2, _⟩ => ⟨S512x512, .bf16⟩
  | .local _ .vmem, ⟨3, _⟩ => ⟨S1024x512, .f32⟩
  | .local _ .vmem, ⟨4, _⟩ => ⟨S1024x512, .f32⟩
  | _, _ => ⟨S8192x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S512x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference10Ideal.lean ====
abbrev S8192x512 : Shape := ⟨2, ![8192, 512]⟩
abbrev S512x512 : Shape := ⟨2, ![512, 512]⟩

abbrev nBuf : Space → Nat
  | .hbm => 5
  | .vmem => 0
  | .smem => 0
  | _ => 0

abbrev bufTy : (tb : Table) → Fin (tcTables nBuf tb) → BufTy
  | .hbm, ⟨0, _⟩ => ⟨S8192x512, .bf16⟩
  | .hbm, ⟨1, _⟩ => ⟨S512x512, .bf16⟩
  | .hbm, ⟨2, _⟩ => ⟨S8192x512, .f32⟩
  | .hbm, ⟨3, _⟩ => ⟨S512x512, .f32⟩
  | .hbm, ⟨4, _⟩ => ⟨S8192x512, .f32⟩
  | _, _ => ⟨S8192x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel11.lean ====
abbrev S8192x2048 : Shape := ⟨2, ![8192, 2048]⟩
abbrev S1x2048 : Shape := ⟨2, ![1, 2048]⟩
abbrev S512x2048 : Shape := ⟨2, ![512, 2048]⟩
abbrev S8x2048 : Shape := ⟨2, ![8, 2048]⟩
abbrev S512 : Shape := ⟨1, ![512]⟩
abbrev S512x1 : Shape := ⟨2, ![512, 1]⟩
abbrev S64x8x2048 : Shape := ⟨3, ![64, 8, 2048]⟩
abbrev S2048 : Shape := ⟨1, ![2048]⟩

abbrev nBuf : Space → Nat
  | .hbm => 6
  | .vmem => 11
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S1x2048, .f32⟩
  | .hbm, ⟨3, _⟩ => ⟨S8192x2048, .f32⟩
  | .hbm, ⟨4, _⟩ => ⟨S8192x2048, .f32⟩
  | .hbm, ⟨5, _⟩ => ⟨S1x2048, .f32⟩
  | .local _ .vmem, ⟨0, _⟩ => ⟨S512x2048, .f32⟩
  | .local _ .vmem, ⟨1, _⟩ => ⟨S512x2048, .f32⟩
  | .local _ .vmem, ⟨2, _⟩ => ⟨S512x2048, .f32⟩
  | .local _ .vmem, ⟨3, _⟩ => ⟨S512x2048, .f32⟩
  | .local _ .vmem, ⟨4, _⟩ => ⟨S1x2048, .f32⟩
  | .local _ .vmem, ⟨5, _⟩ => ⟨S512x2048, .f32⟩
  | .local _ .vmem, ⟨6, _⟩ => ⟨S512x2048, .f32⟩
  | .local _ .vmem, ⟨7, _⟩ => ⟨S512x2048, .f32⟩
  | .local _ .vmem, ⟨8, _⟩ => ⟨S512x2048, .f32⟩
  | .local _ .vmem, ⟨9, _⟩ => ⟨S1x2048, .f32⟩
  | .local _ .vmem, ⟨10, _⟩ => ⟨S8x2048, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9

abbrev nD : Nat := 1
abbrev τ : Topo := Topo.v7x

variable {F : FTy → Type} [FloatOps F]

abbrev grid0 : Pipeline.Grid := ⟨1, ![16], ![false]⟩

def k0_cond2 (i : grid0.Coords) : BitVec 1 :=
  let arg0 : BitVec 32 := BitVec.ofNat 32 (i 0).val
  let c15_i32 : BitVec 32 := 15#32
  let v39 : BitVec 1 := Scalar.cmpi .eq arg0 c15_i32
  let v40 : BitVec 32 := Scalar.extui v39
  let c0_i32_19 : BitVec 32 := 0#32
  let v41 : BitVec 1 := Scalar.cmpi .ne v40 c0_i32_19
  v41

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== Reference11Ideal.lean ====
abbrev S8192x2048 : Shape := ⟨2, ![8192, 2048]⟩
abbrev S1x2048 : Shape := ⟨2, ![1, 2048]⟩
abbrev S2048 : Shape := ⟨1, ![2048]⟩
abbrev S_ : Shape := ⟨0, ![]⟩
abbrev S8192 : Shape := ⟨1, ![8192]⟩
abbrev S8192x1 : Shape := ⟨2, ![8192, 1]⟩

abbrev nBuf : Space → Nat
  | .hbm => 52
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S1x2048, .f32⟩
  | .hbm, ⟨3, _⟩ => ⟨S8192x2048, .f32⟩
  | .hbm, ⟨4, _⟩ => ⟨S2048, .f32⟩
  | .hbm, ⟨5, _⟩ => ⟨S8192x2048, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S_, .f32⟩
  | .hbm, ⟨18, _⟩ => ⟨S8192x1, .f32⟩
  | .hbm, ⟨19, _⟩ => ⟨S8192x1, .f32⟩
  | .hbm, ⟨20, _⟩ => ⟨S8192x2048, .f32⟩
  | .hbm, ⟨21, _⟩ => ⟨S8192x2048, .f32⟩
  | .hbm, ⟨22, _⟩ => ⟨S1x2048, .f32⟩
  | .hbm, ⟨23, _⟩ => ⟨S8192x2048, .f32⟩
  | .hbm, ⟨24, _⟩ => ⟨S8192x2048, .f32⟩
  | .hbm, ⟨25, _⟩ => ⟨S8192x2048, .f32⟩
  | .hbm, ⟨26, _⟩ => ⟨S_, .f32⟩
  | .hbm, ⟨27, _⟩ => ⟨S2048, .f32⟩
  | .hbm, ⟨28, _⟩ => ⟨S1x2048, .f32⟩
  | .hbm, ⟨29, _⟩ => ⟨S8192x2048, .f32⟩
  | .hbm, ⟨30, _⟩ => ⟨S8192x2048, .f32⟩
  | .hbm, ⟨31, _⟩ => ⟨S_, .f32⟩
  | .hbm, ⟨32, _⟩ => ⟨S2048, .f32⟩
  | .hbm, ⟨33, _⟩ => ⟨S8192x2048, .f32⟩
  | .hbm, ⟨34, _⟩ => ⟨S_, .f32⟩
  | .hbm, ⟨35, _⟩ => ⟨S8192, .f32⟩
  | .hbm, ⟨36, _⟩ => ⟨S8192x1, .f32⟩
  | .hbm, ⟨37, _⟩ => ⟨S8192x2048, .f32⟩
  | .hbm, ⟨38, _⟩ => ⟨S8192x2048, .f32⟩
  | .hbm, ⟨39, _⟩ => ⟨S8192x2048, .f32⟩
  | .hbm, ⟨40, _⟩ => ⟨S8192x1, .f32⟩
  | .hbm, ⟨41, _⟩ => ⟨S_, .f32⟩
  | .hbm, ⟨42, _⟩ => ⟨S8192x1, .f32⟩
  | .hbm, ⟨43, _⟩ => ⟨S8192x1, .f32⟩
  | .hbm, ⟨44, _⟩ => ⟨S_, .f32⟩
  | .hbm, ⟨45, _⟩ => ⟨S8192, .f32⟩
  | .hbm, ⟨46, _⟩ => ⟨S8192x2048, .f32⟩
  | .hbm, ⟨47, _⟩ => ⟨S8192x2048, .f32⟩
  | .hbm, ⟨48, _⟩ => ⟨S8192x2048, .f32⟩
  | .hbm, ⟨49, _⟩ => ⟨S8192x2048, .f32⟩
  | .hbm, ⟨50, _⟩ => ⟨S8192x2048, .f32⟩
  | .hbm, ⟨51, _⟩ => ⟨S1x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_3 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_4 : Ref sig .tc := ⟨.hbm, 31, rfl⟩
abbrev main_v22 : Ref sig .tc := ⟨.hbm, 32, rfl⟩
abbrev main_v23 : Ref sig .tc := ⟨.hbm, 33, rfl⟩
abbrev main_cst_5 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_cst_6 : Ref sig .tc := ⟨.hbm, 41, rfl⟩
abbrev main_v30 : Ref sig .tc := ⟨.hbm, 42, rfl⟩
abbrev main_v31 : Ref sig .tc := ⟨.hbm, 43, rfl⟩
abbrev main_cst_7 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩

abbrev nD : Nat := 1
abbrev τ : Topo := Topo.v7x

variable {F : FTy → Type} [FloatOps F]
-- ==== Kernel12.lean ====
abbrev S8192x512 : Shape := ⟨2, ![8192, 512]⟩
abbrev S1x512 : Shape := ⟨2, ![1, 512]⟩
abbrev S8x512 : Shape := ⟨2, ![8, 512]⟩
abbrev S256x512 : Shape := ⟨2, ![256, 512]⟩
abbrev S256 : Shape := ⟨1, ![256]⟩
abbrev S256x1 : Shape := ⟨2, ![256, 1]⟩
abbrev S512 : Shape := ⟨1, ![512]⟩

abbrev nBuf : Space → Nat
  | .hbm => 9
  | .vmem => 9
  | .smem => 0
  | _ => 0

abbrev bufTy : (tb : Table) → Fin (tcTables nBuf tb) → BufTy
  | .hbm, ⟨0, _⟩ => ⟨S8192x512, .f32⟩
  | .hbm, ⟨1, _⟩ => ⟨S8192x512, .f32⟩
  | .hbm, ⟨2, _⟩ => ⟨S1x512, .f32⟩
  | .hbm, ⟨3, _⟩ => ⟨S1x512, .f32⟩
  | .hbm, ⟨4, _⟩ => ⟨S8192x512, .f32⟩
  | .hbm, ⟨5, _⟩ => ⟨S8x512, .f32⟩
  | .hbm, ⟨6, _⟩ => ⟨S1x512, .f32⟩
  | .hbm, ⟨7, _⟩ => ⟨S1x512, .f32⟩
  | .hbm, ⟨8, _⟩ => ⟨S1x512, .f32⟩
  | .local _ .vmem, ⟨0, _⟩ => ⟨S256x512, .f32⟩
  | .local _ .vmem, ⟨1, _⟩ => ⟨S256x512, .f32⟩
  | .local _ .vmem, ⟨2, _⟩ => ⟨S256x512, .f32⟩
  | .local _ .vmem, ⟨3, _⟩ => ⟨S256x512, .f32⟩
  | .local _ .vmem, ⟨4, _⟩ => ⟨S1x512, .f32⟩
  | .local _ .vmem, ⟨5, _⟩ => ⟨S1x512, .f32⟩
  | .local _ .vmem, ⟨6, _⟩ => ⟨S256x512, .f32⟩
  | .local _ .vmem, ⟨7, _⟩ => ⟨S256x512, .f32⟩
  | .local _ .vmem, ⟨8, _⟩ => ⟨S8x512, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S8x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== Reference12Ideal.lean ====
abbrev S8192x512 : Shape := ⟨2, ![8192, 512]⟩
abbrev S1x512 : Shape := ⟨2, ![1, 512]⟩
abbrev S_ : Shape := ⟨0, ![]⟩
abbrev S512 : Shape := ⟨1, ![512]⟩
abbrev S8192 : Shape := ⟨1, ![8192]⟩
abbrev S8192x1 : Shape := ⟨2, ![8192, 1]⟩

abbrev nBuf : Space → Nat
  | .hbm => 116
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S8192x512, .f32⟩
  | .hbm, ⟨2, _⟩ => ⟨S1x512, .f32⟩
  | .hbm, ⟨3, _⟩ => ⟨S1x512, .f32⟩
  | .hbm, ⟨4, _⟩ => ⟨S_, .f32⟩
  | .hbm, ⟨5, _⟩ => ⟨S512, .f32⟩
  | .hbm, ⟨6, _⟩ => ⟨S512, .f32⟩
  | .hbm, ⟨7, _⟩ => ⟨S512, .f32⟩
  | .hbm, ⟨8, _⟩ => ⟨S1x512, .f32⟩
  | .hbm, ⟨9, _⟩ => ⟨S8192x512, .f32⟩
  | .hbm, ⟨10, _⟩ => ⟨S8192x512, .f32⟩
  | .hbm, ⟨11, _⟩ => ⟨S_, .f32⟩
  | .hbm, ⟨12, _⟩ => ⟨S8192, .f32⟩
  | .hbm, ⟨13, _⟩ => ⟨S8192x1, .f32⟩
  | .hbm, ⟨14, _⟩ => ⟨S_, .f32⟩
  | .hbm, ⟨15, _⟩ => ⟨S8192x1, .f32⟩
  | .hbm, ⟨16, _⟩ => ⟨S8192x1, .f32⟩
  | .hbm, ⟨17, _⟩ => ⟨S8192x512, .f32⟩
  | .hbm, ⟨18, _⟩ => ⟨S8192x512, .f32⟩
  | .hbm, ⟨19, _⟩ => ⟨S8192x512, .f32⟩
  | .hbm, ⟨20, _⟩ => ⟨S_, .f32⟩
  | .hbm, ⟨21, _⟩ => ⟨S8192x512, .f32⟩
  | .hbm, ⟨22, _⟩ => ⟨S8192x512, .f32⟩
  | .hbm, ⟨23, _⟩ => ⟨S_, .f32⟩
  | .hbm, ⟨24, _⟩ => ⟨S8192, .f32⟩
  | .hbm, ⟨25, _⟩ => ⟨S8192x1, .f32⟩
  | .hbm, ⟨26, _⟩ => ⟨S_, .f32⟩
  | .hbm, ⟨27, _⟩ => ⟨S8192x1, .f32⟩
  | .hbm, ⟨28, _⟩ => ⟨S8192x1, .f32⟩
  | .hbm, ⟨29, _⟩ => ⟨S8192x512, .f32⟩
  | .hbm, ⟨30, _⟩ => ⟨S8192x512, .f32⟩
  | .hbm, ⟨31, _⟩ => ⟨S_, .f32⟩
  | .hbm, ⟨32, _⟩ => ⟨S8192x1, .f32⟩
  | .hbm, ⟨33, _⟩ => ⟨S8192x1, .f32⟩
  | .hbm, ⟨34, _⟩ => ⟨S8192x1, .f32⟩
  | .hbm, ⟨35, _⟩ => ⟨S8192x1, .f32⟩
  | .hbm, ⟨36, _⟩ => ⟨S_, .f32⟩
  | .hbm, ⟨37, _⟩ => ⟨S8192x1, .f32⟩
  | .hbm, ⟨38, _⟩ => ⟨S8192x1, .f32⟩
  | .hbm, ⟨39, _⟩ => ⟨S8192x512, .f32⟩
  | .hbm, ⟨40, _⟩ => ⟨S8192x512, .f32⟩
  | .hbm, ⟨41, _⟩ => ⟨S1x512, .f32⟩
  | .hbm, ⟨42, _⟩ => ⟨S8192x512, .f32⟩
  | .hbm, ⟨43, _⟩ => ⟨S8192x512, .f32⟩
  | .hbm, ⟨44, _⟩ => ⟨S1x512, .f32⟩
  | .hbm, ⟨45, _⟩ => ⟨S8192x512, .f32⟩
  | .hbm, ⟨46, _⟩ => ⟨S8192x512, .f32⟩
  | .hbm, ⟨47, _⟩ => ⟨S8192x512, .f32⟩
  | .hbm, ⟨48, _⟩ => ⟨S8192x512, .f32⟩
  | .hbm, ⟨49, _⟩ => ⟨S_, .f32⟩
  | .hbm, ⟨50, _⟩ => ⟨S8192x512, .f32⟩
  | .hbm, ⟨51, _⟩ => ⟨S8192x512, .f32⟩
  | .hbm, ⟨52, _⟩ => ⟨S_, .f32⟩
  | .hbm, ⟨53, _⟩ => ⟨S8192x512, .f32⟩
  | .hbm, ⟨54, _⟩ => ⟨S8192x512, .f32⟩
  | .hbm, ⟨55, _⟩ => ⟨S_, .f32⟩
  | .hbm, ⟨56, _⟩ => ⟨S8192x512, .f32⟩
  | .hbm, ⟨57, _⟩ => ⟨S8192x512, .f32⟩
  | .hbm, ⟨58, _⟩ => ⟨S8192x512, .f32⟩
  | .hbm, ⟨59, _⟩ => ⟨S8192x512, .f32⟩
  | .hbm, ⟨60, _⟩ => ⟨S8192x512, .f32⟩
  | .hbm, ⟨61, _⟩ => ⟨S8192x512, .f32⟩
  | .hbm, ⟨62, _⟩ => ⟨S8192x512, .f32⟩
  | .hbm, ⟨63, _⟩ => ⟨S8192x512, .f32⟩
  | .hbm, ⟨64, _⟩ => ⟨S_, .f32⟩
  | .hbm, ⟨65, _⟩ => ⟨S512, .f32⟩
  | .hbm, ⟨66, _⟩ => ⟨S1x512, .f32⟩
  | .hbm, ⟨67, _⟩ => ⟨S_, .f32⟩
  | .hbm, ⟨68, _⟩ => ⟨S512, .f32⟩
  | .hbm, ⟨69, _⟩ => ⟨S8192x512, .f32⟩
  | .hbm, ⟨70, _⟩ => ⟨S_, .f32⟩
  | .hbm, ⟨71, _⟩ => ⟨S512, .f32⟩
  | .hbm, ⟨72, _⟩ => ⟨S1x512, .f32⟩
  | .hbm, ⟨73, _⟩ => ⟨S8192x512, .f32⟩
  | .hbm, ⟨74, _⟩ => ⟨S8192x512, .f32⟩
  | .hbm, ⟨75, _⟩ => ⟨S_, .f32⟩
  | .hbm, ⟨76, _⟩ => ⟨S512, .f32⟩
  | .hbm, ⟨77, _⟩ => ⟨S8192x512, .f32⟩
  | .hbm, ⟨78, _⟩ => ⟨S_, .f32⟩
  | .hbm, ⟨79, _⟩ => ⟨S8192, .f32⟩
  | .hbm, ⟨80, _⟩ => ⟨S8192x1, .f32⟩
  | .hbm, ⟨81, _⟩ => ⟨S8192x512, .f32⟩
  | .hbm, ⟨82, _⟩ => ⟨S8192x512, .f32⟩
  | .hbm, ⟨83, _⟩ => ⟨S8192x1, .f32⟩
  | .hbm, ⟨84, _⟩ => ⟨S8192x512, .f32⟩
  | .hbm, ⟨85, _⟩ => ⟨S_, .f32⟩
  | .hbm, ⟨86, _⟩ => ⟨S8192, .f32⟩
  | .hbm, ⟨87, _⟩ => ⟨S8192x1, .f32⟩
  | .hbm, ⟨88, _⟩ => ⟨S_, .f32⟩
  | .hbm, ⟨89, _⟩ => ⟨S8192x1, .f32⟩
  | .hbm, ⟨90, _⟩ => ⟨S8192x1, .f32⟩
  | .hbm, ⟨91, _⟩ => ⟨S_, .f32⟩
  | .hbm, ⟨92, _⟩ => ⟨S8192, .f32⟩
  | .hbm, ⟨93, _⟩ => ⟨S8192x512, .f32⟩
  | .hbm, ⟨94, _⟩ => ⟨S8192x512, .f32⟩
  | .hbm, ⟨95, _⟩ => ⟨S8192x512, .f32⟩
  | .hbm, ⟨96, _⟩ => ⟨S_, .f32⟩
  | .hbm, ⟨97, _⟩ => ⟨S8192, .f32⟩
  | .hbm, ⟨98, _⟩ => ⟨S8192x1, .f32⟩
  | .hbm, ⟨99, _⟩ => ⟨S8192x512, .f32⟩
  | .hbm, ⟨100, _⟩ => ⟨S8192x1, .f32⟩
  | .hbm, ⟨101, _⟩ => ⟨S_, .f32⟩
  | .hbm, ⟨102, _⟩ => ⟨S8192x1, .f32⟩
  | .hbm, ⟨103, _⟩ => ⟨S8192x1, .f32⟩
  | .hbm, ⟨104, _⟩ => ⟨S_, .f32⟩
  | .hbm, ⟨105, _⟩ => ⟨S8192, .f32⟩
  | .hbm, ⟨106, _⟩ => ⟨S8192x512, .f32⟩
  | .hbm, ⟨107, _⟩ => ⟨S8192x512, .f32⟩
  | .hbm, ⟨108, _⟩ => ⟨S_, .f32⟩
  | .hbm, ⟨109, _⟩ => ⟨S512, .f32⟩
  | .hbm, ⟨110, _⟩ => ⟨S1x512, .f32⟩
  | .hbm, ⟨111, _⟩ => ⟨S_, .f32⟩
  | .hbm, ⟨112, _⟩ => ⟨S512, .f32⟩
  | .hbm, ⟨113, _⟩ => ⟨S1x512, .f32⟩
  | .hbm, ⟨114, _⟩ => ⟨S1x512, .f32⟩
  | .hbm, ⟨115, _⟩ => ⟨S1x512, .f32⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_2 : Ref sig .tc := ⟨.hbm, 20, rfl⟩
abbrev main_v13 : Ref sig .tc := ⟨.hbm, 21, rfl⟩
abbrev main_v14 : Ref sig .tc := ⟨.hbm, 22, rfl⟩
abbrev main_cst_3 : Ref sig .tc := ⟨.hbm, 23, rfl⟩
abbrev main_v15 : Ref sig .tc := ⟨.hbm, 24, rfl⟩
abbrev main_v16 : Ref sig .tc := ⟨.hbm, 25, rfl⟩
abbrev main_cst_4 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst_5 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_cst_6 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_call0_v0 : Ref sig .tc := ⟨.hbm, 47, rfl⟩
abbrev main_call0_v1 : Ref sig .tc := ⟨.hbm, 48, rfl⟩
abbrev main_call0_cst : Ref sig .tc := ⟨.hbm, 49, rfl⟩
abbrev main_call0_v2 : Ref sig .tc := ⟨.hbm, 50, rfl⟩
abbrev main_call0_v3 : Ref sig .tc := ⟨.hbm, 51, rfl⟩
abbrev main_call0_cst_0 : Ref sig .tc := ⟨.hbm, 52, rfl⟩
abbrev main_call0_v4 : Ref sig .tc := ⟨.hbm, 53, rfl⟩
abbrev main_v35_2 : Ref sig .tc := ⟨.hbm, 54, rfl⟩
abbrev main_call0_cst_1 : Ref sig .tc := ⟨.hbm, 55, rfl⟩
abbrev main_call0_v6 : Ref sig .tc := ⟨.hbm, 56, rfl⟩
abbrev main_call0_v7 : Ref sig .tc := ⟨.hbm, 57, rfl⟩
abbrev main_v35_1 : Ref sig .tc := ⟨.hbm, 58, rfl⟩
abbrev main_v35_0 : Ref sig .tc := ⟨.hbm, 59, rfl⟩
abbrev main_call1_v0 : Ref sig .tc := ⟨.hbm, 60, rfl⟩
abbrev main_call1_v1 : Ref sig .tc := ⟨.hbm, 61, rfl⟩
abbrev main_call1_v2 : Ref sig .tc := ⟨.hbm, 62, rfl⟩
abbrev main_v36 : Ref sig .tc := ⟨.hbm, 63, rfl⟩
abbrev main_cst_7 : Ref sig .tc := ⟨.hbm, 64, rfl⟩
abbrev main_v37 : Ref sig .tc := ⟨.hbm, 65, rfl⟩
abbrev main_v38 : Ref sig .tc := ⟨.hbm, 66, rfl⟩
abbrev main_cst_8 : Ref sig .tc := ⟨.hbm, 67, rfl⟩
abbrev main_v39 : Ref sig .tc := ⟨.hbm, 68, rfl⟩
abbrev main_v40 : Ref sig .tc := ⟨.hbm, 69, rfl⟩
abbrev main_cst_9 : Ref sig .tc := ⟨.hbm, 70, rfl⟩
abbrev main_v41 : Ref sig .tc := ⟨.hbm, 71, rfl⟩
abbrev main_v42 : Ref sig .tc := ⟨.hbm, 72, rfl⟩
abbrev main_v43 : Ref sig .tc := ⟨.hbm, 73, rfl⟩
abbrev main_v44 : Ref sig .tc := ⟨.hbm, 74, rfl⟩
abbrev main_cst_10 : Ref sig .tc := ⟨.hbm, 75, rfl⟩
abbrev main_v45 : Ref sig .tc := ⟨.hbm, 76, rfl⟩
abbrev main_v46 : Ref sig .tc := ⟨.hbm, 77, rfl⟩
abbrev main_cst_11 : Ref sig .tc := ⟨.hbm, 78, rfl⟩
abbrev main_v47 : Ref sig .tc := ⟨.hbm, 79, rfl⟩
abbrev main_v48 : Ref sig .tc := ⟨.hbm, 80, rfl⟩
abbrev main_v49 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_cst_12 : Ref sig .tc := ⟨.hbm, 85, rfl⟩
abbrev main_v53 : Ref sig .tc := ⟨.hbm, 86, rfl⟩
abbrev main_v54 : Ref sig .tc := ⟨.hbm, 87, rfl⟩
abbrev main_cst_13 : Ref sig .tc := ⟨.hbm, 88, rfl⟩
abbrev main_v55 : Ref sig .tc := ⟨.hbm, 89, rfl⟩
abbrev main_v56 : Ref sig .tc := ⟨.hbm, 90, rfl⟩
abbrev main_cst_14 : Ref sig .tc := ⟨.hbm, 91, rfl⟩
abbrev main_v57 : Ref sig .tc := ⟨.hbm, 92, rfl⟩
abbrev main_v58 : Ref sig .tc := ⟨.hbm, 93, rfl⟩
abbrev main_v59 : Ref sig .tc := ⟨.hbm, 94, rfl⟩
abbrev main_v60 : Ref sig .tc := ⟨.hbm, 95, rfl⟩
abbrev main_cst_15 : Ref sig .tc := ⟨.hbm, 96, rfl⟩
abbrev main_v61 : Ref sig .tc := ⟨.hbm, 97, rfl⟩
abbrev main_v62 : Ref sig .tc := ⟨.hbm, 98, rfl⟩
abbrev main_v63 : Ref sig .tc := ⟨.hbm, 99, rfl⟩
abbrev main_v64 : Ref sig .tc := ⟨.hbm, 100, rfl⟩
abbrev main_cst_16 : Ref sig .tc := ⟨.hbm, 101, rfl⟩
abbrev main_v65 : Ref sig .tc := ⟨.hbm, 102, rfl⟩
abbrev main_v66 : Ref sig .tc := ⟨.hbm, 103, rfl⟩
abbrev main_cst_17 : Ref sig .tc := ⟨.hbm, 104, rfl⟩
abbrev main_v67 : Ref sig .tc := ⟨.hbm, 105, rfl⟩
abbrev main_v68 : Ref sig .tc := ⟨.hbm, 106, rfl⟩
abbrev main_v69 : Ref sig .tc := ⟨.hbm, 107, rfl⟩
abbrev main_cst_18 : Ref sig .tc := ⟨.hbm, 108, rfl⟩
abbrev main_v70 : Ref sig .tc := ⟨.hbm, 109, rfl⟩
abbrev main_v71 : Ref sig .tc := ⟨.hbm, 110, rfl⟩
abbrev main_cst_19 : Ref sig .tc := ⟨.hbm, 111, rfl⟩
abbrev main_v72 : Ref sig .tc := ⟨.hbm, 112, rfl⟩
abbrev main_v73 : Ref sig .tc := ⟨.hbm, 113, rfl⟩
abbrev main_v74 : Ref sig .tc := ⟨.hbm, 114, rfl⟩
abbrev main_v75 : Ref sig .tc := ⟨.hbm, 115, rfl⟩

abbrev nD : Nat := 1
abbrev τ : Topo := Topo.v7x

variable {F : FTy → Type} [FloatOps F]
-- ==== Kernel13.lean ====
abbrev S8192x2048 : Shape := ⟨2, ![8192, 2048]⟩
abbrev S1x2048 : Shape := ⟨2, ![1, 2048]⟩
abbrev S1x128 : Shape := ⟨2, ![1, 128]⟩
abbrev S256x2048 : Shape := ⟨2, ![256, 2048]⟩
abbrev S8x2048 : Shape := ⟨2, ![8, 2048]⟩
abbrev S256 : Shape := ⟨1, ![256]⟩
abbrev S256x1 : Shape := ⟨2, ![256, 1]⟩
abbrev S32x8x2048 : Shape := ⟨3, ![32, 8, 2048]⟩
abbrev S2048 : Shape := ⟨1, ![2048]⟩
abbrev S1 : Shape := ⟨1, ![1]⟩
abbrev S1x1 : Shape := ⟨2, ![1, 1]⟩
abbrev S_ : Shape := ⟨0, ![]⟩

abbrev nBuf : Space → Nat
  | .hbm => 8
  | .vmem => 11
  | .smem => 0
  | _ => 0

abbrev bufTy : (tb : Table) → Fin (tcTables nBuf tb) → BufTy
  | .hbm, ⟨0, _⟩ => ⟨S8192x2048, .f32⟩
  | .hbm, ⟨1, _⟩ => ⟨S1x2048, .f32⟩
  | .hbm, ⟨2, _⟩ => ⟨S8192x2048, .f32⟩
  | .hbm, ⟨3, _⟩ => ⟨S8192x2048, .f32⟩
  | .hbm, ⟨4, _⟩ => ⟨S1x2048, .f32⟩
  | .hbm, ⟨5, _⟩ => ⟨S1x128, .f32⟩
  | .hbm, ⟨6, _⟩ => ⟨S1x1, .f32⟩
  | .hbm, ⟨7, _⟩ => ⟨S_, .f32⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S256x2048, .f32⟩
  | .local _ .vmem, ⟨7, _⟩ => ⟨S1x2048, .f32⟩
  | .local _ .vmem, ⟨8, _⟩ => ⟨S1x128, .f32⟩
  | .local _ .vmem, ⟨9, _⟩ => ⟨S8x2048, .f32⟩
  | .local _ .vmem, ⟨10, _⟩ => ⟨S8x2048, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev main_v1 : Ref sig .tc := ⟨.hbm, 6, rfl⟩
abbrev main_v2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_scratch0 : Ref sig .tc := ⟨.vmem, 9, rfl⟩
abbrev cc0_scratch1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8

abbrev nD : Nat := 1
abbrev τ : Topo := Topo.v7x

variable {F : FTy → Type} [FloatOps F]

abbrev grid0 : Pipeline.Grid := ⟨1, ![32], ![false]⟩

def k0_cond2 (i : grid0.Coords) : BitVec 1 :=
  let arg0 : BitVec 32 := BitVec.ofNat 32 (i 0).val
  let c31_i32 : BitVec 32 := 31#32
  let v50 : BitVec 1 := Scalar.cmpi .eq arg0 c31_i32
  let v51 : BitVec 32 := Scalar.extui v50
  let c0_i32_23 : BitVec 32 := 0#32
  let v52 : BitVec 1 := Scalar.cmpi .ne v51 c0_i32_23
  v52

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== Reference13Ideal.lean ====
abbrev S8192x2048 : Shape := ⟨2, ![8192, 2048]⟩
abbrev S1x2048 : Shape := ⟨2, ![1, 2048]⟩
abbrev S2048 : Shape := ⟨1, ![2048]⟩
abbrev S_ : Shape := ⟨0, ![]⟩
abbrev S8192 : Shape := ⟨1, ![8192]⟩
abbrev S8192x1 : Shape := ⟨2, ![8192, 1]⟩

abbrev nBuf : Space → Nat
  | .hbm => 73
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S1x2048, .f32⟩
  | .hbm, ⟨2, _⟩ => ⟨S8192x2048, .f32⟩
  | .hbm, ⟨3, _⟩ => ⟨S2048, .f32⟩
  | .hbm, ⟨4, _⟩ => ⟨S8192x2048, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S_, .f32⟩
  | .hbm, ⟨17, _⟩ => ⟨S8192x1, .f32⟩
  | .hbm, ⟨18, _⟩ => ⟨S8192x1, .f32⟩
  | .hbm, ⟨19, _⟩ => ⟨S8192x2048, .f32⟩
  | .hbm, ⟨20, _⟩ => ⟨S8192x2048, .f32⟩
  | .hbm, ⟨21, _⟩ => ⟨S1x2048, .f32⟩
  | .hbm, ⟨22, _⟩ => ⟨S8192x2048, .f32⟩
  | .hbm, ⟨23, _⟩ => ⟨S8192x2048, .f32⟩
  | .hbm, ⟨24, _⟩ => ⟨S8192x2048, .f32⟩
  | .hbm, ⟨25, _⟩ => ⟨S8192x2048, .f32⟩
  | .hbm, ⟨26, _⟩ => ⟨S_, .f32⟩
  | .hbm, ⟨27, _⟩ => ⟨S8192x2048, .f32⟩
  | .hbm, ⟨28, _⟩ => ⟨S8192x2048, .f32⟩
  | .hbm, ⟨29, _⟩ => ⟨S_, .f32⟩
  | .hbm, ⟨30, _⟩ => ⟨S8192, .f32⟩
  | .hbm, ⟨31, _⟩ => ⟨S_, .f32⟩
  | .hbm, ⟨32, _⟩ => ⟨S8192, .f32⟩
  | .hbm, ⟨33, _⟩ => ⟨S8192, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S8192, .f32⟩
  | .hbm, ⟨42, _⟩ => ⟨S_, .f32⟩
  | .hbm, ⟨43, _⟩ => ⟨S8192, .f32⟩
  | .hbm, ⟨44, _⟩ => ⟨S8192, .f32⟩
  | .hbm, ⟨45, _⟩ => ⟨S8192x2048, .f32⟩
  | .hbm, ⟨46, _⟩ => ⟨S8192x2048, .f32⟩
  | .hbm, ⟨47, _⟩ => ⟨S8192x2048, .f32⟩
  | .hbm, ⟨48, _⟩ => ⟨S_, .f32⟩
  | .hbm, ⟨49, _⟩ => ⟨S2048, .f32⟩
  | .hbm, ⟨50, _⟩ => ⟨S1x2048, .f32⟩
  | .hbm, ⟨51, _⟩ => ⟨S8192x2048, .f32⟩
  | .hbm, ⟨52, _⟩ => ⟨S8192x2048, .f32⟩
  | .hbm, ⟨53, _⟩ => ⟨S_, .f32⟩
  | .hbm, ⟨54, _⟩ => ⟨S2048, .f32⟩
  | .hbm, ⟨55, _⟩ => ⟨S8192x2048, .f32⟩
  | .hbm, ⟨56, _⟩ => ⟨S_, .f32⟩
  | .hbm, ⟨57, _⟩ => ⟨S8192, .f32⟩
  | .hbm, ⟨58, _⟩ => ⟨S8192x1, .f32⟩
  | .hbm, ⟨59, _⟩ => ⟨S8192x2048, .f32⟩
  | .hbm, ⟨60, _⟩ => ⟨S8192x2048, .f32⟩
  | .hbm, ⟨61, _⟩ => ⟨S8192x1, .f32⟩
  | .hbm, ⟨62, _⟩ => ⟨S_, .f32⟩
  | .hbm, ⟨63, _⟩ => ⟨S8192x1, .f32⟩
  | .hbm, ⟨64, _⟩ => ⟨S8192x1, .f32⟩
  | .hbm, ⟨65, _⟩ => ⟨S_, .f32⟩
  | .hbm, ⟨66, _⟩ => ⟨S8192, .f32⟩
  | .hbm, ⟨67, _⟩ => ⟨S8192x2048, .f32⟩
  | .hbm, ⟨68, _⟩ => ⟨S8192x2048, .f32⟩
  | .hbm, ⟨69, _⟩ => ⟨S8192x2048, .f32⟩
  | .hbm, ⟨70, _⟩ => ⟨S8192x2048, .f32⟩
  | .hbm, ⟨71, _⟩ => ⟨S8192x2048, .f32⟩
  | .hbm, ⟨72, _⟩ => ⟨S1x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_2 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_3 : Ref sig .tc := ⟨.hbm, 26, rfl⟩
abbrev main_v19 : Ref sig .tc := ⟨.hbm, 27, rfl⟩
abbrev main_v20 : Ref sig .tc := ⟨.hbm, 28, rfl⟩
abbrev main_cst_4 : Ref sig .tc := ⟨.hbm, 29, rfl⟩
abbrev main_v21 : Ref sig .tc := ⟨.hbm, 30, rfl⟩
abbrev main_cst_5 : Ref sig .tc := ⟨.hbm, 31, rfl⟩
abbrev main_v22 : Ref sig .tc := ⟨.hbm, 32, rfl⟩
abbrev main_v23 : Ref sig .tc := ⟨.hbm, 33, rfl⟩
abbrev main_cst_6 : Ref sig .tc := ⟨.hbm, 34, rfl⟩
abbrev main_v24 : Ref sig .tc := ⟨.hbm, 35, rfl⟩
abbrev main_cst_7 : Ref sig .tc := ⟨.hbm, 36, rfl⟩
abbrev main_v25 : Ref sig .tc := ⟨.hbm, 37, rfl⟩
abbrev main_cst_8 : Ref sig .tc := ⟨.hbm, 38, rfl⟩
abbrev main_cst_9 : Ref sig .tc := ⟨.hbm, 39, rfl⟩
abbrev main_v26 : Ref sig .tc := ⟨.hbm, 40, rfl⟩
abbrev main_v27 : Ref sig .tc := ⟨.hbm, 41, rfl⟩
abbrev main_cst_10 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_cst_11 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_cst_12 : Ref sig .tc := ⟨.hbm, 53, rfl⟩
abbrev main_v37 : Ref sig .tc := ⟨.hbm, 54, rfl⟩
abbrev main_v38 : Ref sig .tc := ⟨.hbm, 55, rfl⟩
abbrev main_cst_13 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_cst_14 : Ref sig .tc := ⟨.hbm, 62, rfl⟩
abbrev main_v44 : Ref sig .tc := ⟨.hbm, 63, rfl⟩
abbrev main_v45 : Ref sig .tc := ⟨.hbm, 64, rfl⟩
abbrev main_cst_15 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩

abbrev nD : Nat := 1
abbrev τ : Topo := Topo.v7x

variable {F : FTy → Type} [FloatOps F]
-- ==== Kernel15.lean ====
abbrev S4x512x2048 : Shape := ⟨3, ![4, 512, 2048]⟩
abbrev S1x256x2048 : Shape := ⟨3, ![1, 256, 2048]⟩

abbrev nBuf : Space → Nat
  | .hbm => 7
  | .vmem => 14
  | .smem => 0
  | _ => 0

abbrev bufTy : (tb : Table) → Fin (tcTables nBuf tb) → BufTy
  | .hbm, ⟨0, _⟩ => ⟨S4x512x2048, .f32⟩
  | .hbm, ⟨1, _⟩ => ⟨S4x512x2048, .f32⟩
  | .hbm, ⟨2, _⟩ => ⟨S4x512x2048, .f32⟩
  | .hbm, ⟨3, _⟩ => ⟨S4x512x2048, .f32⟩
  | .hbm, ⟨4, _⟩ => ⟨S4x512x2048, .f32⟩
  | .hbm, ⟨5, _⟩ => ⟨S4x512x2048, .f32⟩
  | .hbm, ⟨6, _⟩ => ⟨S4x512x2048, .f32⟩
  | .local _ .vmem, ⟨0, _⟩ => ⟨S1x256x2048, .f32⟩
  | .local _ .vmem, ⟨1, _⟩ => ⟨S1x256x2048, .f32⟩
  | .local _ .vmem, ⟨2, _⟩ => ⟨S1x256x2048, .f32⟩
  | .local _ .vmem, ⟨3, _⟩ => ⟨S1x256x2048, .f32⟩
  | .local _ .vmem, ⟨4, _⟩ => ⟨S1x256x2048, .f32⟩
  | .local _ .vmem, ⟨5, _⟩ => ⟨S1x256x2048, .f32⟩
  | .local _ .vmem, ⟨6, _⟩ => ⟨S1x256x2048, .f32⟩
  | .local _ .vmem, ⟨7, _⟩ => ⟨S1x256x2048, .f32⟩
  | .local _ .vmem, ⟨8, _⟩ => ⟨S1x256x2048, .f32⟩
  | .local _ .vmem, ⟨9, _⟩ => ⟨S1x256x2048, .f32⟩
  | .local _ .vmem, ⟨10, _⟩ => ⟨S1x256x2048, .f32⟩
  | .local _ .vmem, ⟨11, _⟩ => ⟨S1x256x2048, .f32⟩
  | .local _ .vmem, ⟨12, _⟩ => ⟨S1x256x2048, .f32⟩
  | .local _ .vmem, ⟨13, _⟩ => ⟨S1x256x2048, .f32⟩
  | _, _ => ⟨S4x512x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![4, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Kernel15Ideal.lean ====
variable {F : FTy → Type} [FloatOps F] [Named F]
def κ : String → Option EReal := fun
  | "inv_first" => some ((8388608 / 5463681 : ℝ) : EReal)
  | "inv_second" => some ((268435456 / 2672307 : ℝ) : EReal)
  | _ => none
-- ==== Reference15Ideal.lean ====
abbrev S4x512x2048 : Shape := ⟨3, ![4, 512, 2048]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S4x512x2048, .f32⟩
  | .hbm, ⟨1, _⟩ => ⟨S4x512x2048, .f32⟩
  | .hbm, ⟨2, _⟩ => ⟨S4x512x2048, .f32⟩
  | .hbm, ⟨3, _⟩ => ⟨S4x512x2048, .f32⟩
  | .hbm, ⟨4, _⟩ => ⟨S_, .f32⟩
  | .hbm, ⟨5, _⟩ => ⟨S4x512x2048, .f32⟩
  | .hbm, ⟨6, _⟩ => ⟨S4x512x2048, .f32⟩
  | .hbm, ⟨7, _⟩ => ⟨S_, .f32⟩
  | .hbm, ⟨8, _⟩ => ⟨S4x512x2048, .f32⟩
  | .hbm, ⟨9, _⟩ => ⟨S4x512x2048, .f32⟩
  | .hbm, ⟨10, _⟩ => ⟨S4x512x2048, .f32⟩
  | .hbm, ⟨11, _⟩ => ⟨S_, .f32⟩
  | .hbm, ⟨12, _⟩ => ⟨S4x512x2048, .f32⟩
  | .hbm, ⟨13, _⟩ => ⟨S4x512x2048, .f32⟩
  | .hbm, ⟨14, _⟩ => ⟨S4x512x2048, .f32⟩
  | .hbm, ⟨15, _⟩ => ⟨S_, .f32⟩
  | .hbm, ⟨16, _⟩ => ⟨S4x512x2048, .f32⟩
  | .hbm, ⟨17, _⟩ => ⟨S4x512x2048, .f32⟩
  | .hbm, ⟨18, _⟩ => ⟨S4x512x2048, .f32⟩
  | .hbm, ⟨19, _⟩ => ⟨S_, .f32⟩
  | .hbm, ⟨20, _⟩ => ⟨S4x512x2048, .f32⟩
  | .hbm, ⟨21, _⟩ => ⟨S4x512x2048, .f32⟩
  | .hbm, ⟨22, _⟩ => ⟨S_, .f32⟩
  | .hbm, ⟨23, _⟩ => ⟨S4x512x2048, .f32⟩
  | .hbm, ⟨24, _⟩ => ⟨S4x512x2048, .f32⟩
  | .hbm, ⟨25, _⟩ => ⟨S4x512x2048, .f32⟩
  | .hbm, ⟨26, _⟩ => ⟨S_, .f32⟩
  | .hbm, ⟨27, _⟩ => ⟨S4x512x2048, .f32⟩
  | .hbm, ⟨28, _⟩ => ⟨S4x512x2048, .f32⟩
  | .hbm, ⟨29, _⟩ => ⟨S4x512x2048, .f32⟩
  | .hbm, ⟨30, _⟩ => ⟨S_, .f32⟩
  | .hbm, ⟨31, _⟩ => ⟨S4x512x2048, .f32⟩
  | .hbm, ⟨32, _⟩ => ⟨S4x512x2048, .f32⟩
  | .hbm, ⟨33, _⟩ => ⟨S4x512x2048, .f32⟩
  | .hbm, ⟨34, _⟩ => ⟨S_, .f32⟩
  | .hbm, ⟨35, _⟩ => ⟨S4x512x2048, .f32⟩
  | .hbm, ⟨36, _⟩ => ⟨S4x512x2048, .f32⟩
  | _, _ => ⟨S4x512x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel16.lean ====
abbrev S4x128x512 : Shape := ⟨3, ![4, 128, 512]⟩
abbrev S1x128x512 : Shape := ⟨3, ![1, 128, 512]⟩

abbrev nBuf : Space → Nat
  | .hbm => 7
  | .vmem => 14
  | .smem => 0
  | _ => 0

abbrev bufTy : (tb : Table) → Fin (tcTables nBuf tb) → BufTy
  | .hbm, ⟨0, _⟩ => ⟨S4x128x512, .f32⟩
  | .hbm, ⟨1, _⟩ => ⟨S4x128x512, .f32⟩
  | .hbm, ⟨2, _⟩ => ⟨S4x128x512, .f32⟩
  | .hbm, ⟨3, _⟩ => ⟨S4x128x512, .f32⟩
  | .hbm, ⟨4, _⟩ => ⟨S4x128x512, .f32⟩
  | .hbm, ⟨5, _⟩ => ⟨S4x128x512, .f32⟩
  | .hbm, ⟨6, _⟩ => ⟨S4x128x512, .f32⟩
  | .local _ .vmem, ⟨0, _⟩ => ⟨S1x128x512, .f32⟩
  | .local _ .vmem, ⟨1, _⟩ => ⟨S1x128x512, .f32⟩
  | .local _ .vmem, ⟨2, _⟩ => ⟨S1x128x512, .f32⟩
  | .local _ .vmem, ⟨3, _⟩ => ⟨S1x128x512, .f32⟩
  | .local _ .vmem, ⟨4, _⟩ => ⟨S1x128x512, .f32⟩
  | .local _ .vmem, ⟨5, _⟩ => ⟨S1x128x512, .f32⟩
  | .local _ .vmem, ⟨6, _⟩ => ⟨S1x128x512, .f32⟩
  | .local _ .vmem, ⟨7, _⟩ => ⟨S1x128x512, .f32⟩
  | .local _ .vmem, ⟨8, _⟩ => ⟨S1x128x512, .f32⟩
  | .local _ .vmem, ⟨9, _⟩ => ⟨S1x128x512, .f32⟩
  | .local _ .vmem, ⟨10, _⟩ => ⟨S1x128x512, .f32⟩
  | .local _ .vmem, ⟨11, _⟩ => ⟨S1x128x512, .f32⟩
  | .local _ .vmem, ⟨12, _⟩ => ⟨S1x128x512, .f32⟩
  | .local _ .vmem, ⟨13, _⟩ => ⟨S1x128x512, .f32⟩
  | _, _ => ⟨S4x128x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![4, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x128x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x128x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x128x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x128x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x128x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Kernel16Ideal.lean ====
variable {F : FTy → Type} [FloatOps F] [Named F]
def κ : String → Option EReal := fun
  | "inv_first" => some ((8388608 / 5463681 : ℝ) : EReal)
  | "inv_second" => some ((268435456 / 2672307 : ℝ) : EReal)
  | _ => none
-- ==== Reference16Ideal.lean ====
abbrev S4x128x512 : Shape := ⟨3, ![4, 128, 512]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S4x128x512, .f32⟩
  | .hbm, ⟨1, _⟩ => ⟨S4x128x512, .f32⟩
  | .hbm, ⟨2, _⟩ => ⟨S4x128x512, .f32⟩
  | .hbm, ⟨3, _⟩ => ⟨S4x128x512, .f32⟩
  | .hbm, ⟨4, _⟩ => ⟨S_, .f32⟩
  | .hbm, ⟨5, _⟩ => ⟨S4x128x512, .f32⟩
  | .hbm, ⟨6, _⟩ => ⟨S4x128x512, .f32⟩
  | .hbm, ⟨7, _⟩ => ⟨S_, .f32⟩
  | .hbm, ⟨8, _⟩ => ⟨S4x128x512, .f32⟩
  | .hbm, ⟨9, _⟩ => ⟨S4x128x512, .f32⟩
  | .hbm, ⟨10, _⟩ => ⟨S4x128x512, .f32⟩
  | .hbm, ⟨11, _⟩ => ⟨S_, .f32⟩
  | .hbm, ⟨12, _⟩ => ⟨S4x128x512, .f32⟩
  | .hbm, ⟨13, _⟩ => ⟨S4x128x512, .f32⟩
  | .hbm, ⟨14, _⟩ => ⟨S4x128x512, .f32⟩
  | .hbm, ⟨15, _⟩ => ⟨S_, .f32⟩
  | .hbm, ⟨16, _⟩ => ⟨S4x128x512, .f32⟩
  | .hbm, ⟨17, _⟩ => ⟨S4x128x512, .f32⟩
  | .hbm, ⟨18, _⟩ => ⟨S4x128x512, .f32⟩
  | .hbm, ⟨19, _⟩ => ⟨S_, .f32⟩
  | .hbm, ⟨20, _⟩ => ⟨S4x128x512, .f32⟩
  | .hbm, ⟨21, _⟩ => ⟨S4x128x512, .f32⟩
  | .hbm, ⟨22, _⟩ => ⟨S_, .f32⟩
  | .hbm, ⟨23, _⟩ => ⟨S4x128x512, .f32⟩
  | .hbm, ⟨24, _⟩ => ⟨S4x128x512, .f32⟩
  | .hbm, ⟨25, _⟩ => ⟨S4x128x512, .f32⟩
  | .hbm, ⟨26, _⟩ => ⟨S_, .f32⟩
  | .hbm, ⟨27, _⟩ => ⟨S4x128x512, .f32⟩
  | .hbm, ⟨28, _⟩ => ⟨S4x128x512, .f32⟩
  | .hbm, ⟨29, _⟩ => ⟨S4x128x512, .f32⟩
  | .hbm, ⟨30, _⟩ => ⟨S_, .f32⟩
  | .hbm, ⟨31, _⟩ => ⟨S4x128x512, .f32⟩
  | .hbm, ⟨32, _⟩ => ⟨S4x128x512, .f32⟩
  | .hbm, ⟨33, _⟩ => ⟨S4x128x512, .f32⟩
  | .hbm, ⟨34, _⟩ => ⟨S_, .f32⟩
  | .hbm, ⟨35, _⟩ => ⟨S4x128x512, .f32⟩
  | .hbm, ⟨36, _⟩ => ⟨S4x128x512, .f32⟩
  | _, _ => ⟨S4x128x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel17.lean ====
abbrev S1x336x128 : Shape := ⟨3, ![1, 336, 128]⟩

abbrev nBuf : Space → Nat
  | .hbm => 7
  | .vmem => 7
  | .smem => 0
  | _ => 0

abbrev bufTy : (tb : Table) → Fin (tcTables nBuf tb) → BufTy
  | .hbm, ⟨0, _⟩ => ⟨S1x336x128, .f32⟩
  | .hbm, ⟨1, _⟩ => ⟨S1x336x128, .f32⟩
  | .hbm, ⟨2, _⟩ => ⟨S1x336x128, .f32⟩
  | .hbm, ⟨3, _⟩ => ⟨S1x336x128, .f32⟩
  | .hbm, ⟨4, _⟩ => ⟨S1x336x128, .f32⟩
  | .hbm, ⟨5, _⟩ => ⟨S1x336x128, .f32⟩
  | .hbm, ⟨6, _⟩ => ⟨S1x336x128, .f32⟩
  | .local _ .vmem, ⟨0, _⟩ => ⟨S1x336x128, .f32⟩
  | .local _ .vmem, ⟨1, _⟩ => ⟨S1x336x128, .f32⟩
  | .local _ .vmem, ⟨2, _⟩ => ⟨S1x336x128, .f32⟩
  | .local _ .vmem, ⟨3, _⟩ => ⟨S1x336x128, .f32⟩
  | .local _ .vmem, ⟨4, _⟩ => ⟨S1x336x128, .f32⟩
  | .local _ .vmem, ⟨5, _⟩ => ⟨S1x336x128, .f32⟩
  | .local _ .vmem, ⟨6, _⟩ => ⟨S1x336x128, .f32⟩
  | _, _ => ⟨S1x336x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨2, ![1, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 1 → Memref sig .tc .vmem S1x336x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S1x336x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true]

abbrev stage0_2 : Fin 1 → Memref sig .tc .vmem S1x336x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]

abbrev stage0_3 : Fin 1 → Memref sig .tc .vmem S1x336x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true]

abbrev stage0_4 : Fin 1 → Memref sig .tc .vmem S1x336x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, true]

abbrev stage0_5 : Fin 1 → Memref sig .tc .vmem S1x336x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, true]

abbrev stage0_6 : Fin 1 → Memref sig .tc .vmem S1x336x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, true]
-- ==== Kernel17Ideal.lean ====
variable {F : FTy → Type} [FloatOps F] [Named F]
def κ : String → Option EReal := fun
  | "inv_first" => some ((8388608 / 5463681 : ℝ) : EReal)
  | "inv_second" => some ((268435456 / 2672307 : ℝ) : EReal)
  | _ => none
-- ==== Reference17Ideal.lean ====
abbrev S1x336x128 : Shape := ⟨3, ![1, 336, 128]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1x336x128, .f32⟩
  | .hbm, ⟨1, _⟩ => ⟨S1x336x128, .f32⟩
  | .hbm, ⟨2, _⟩ => ⟨S1x336x128, .f32⟩
  | .hbm, ⟨3, _⟩ => ⟨S1x336x128, .f32⟩
  | .hbm, ⟨4, _⟩ => ⟨S_, .f32⟩
  | .hbm, ⟨5, _⟩ => ⟨S1x336x128, .f32⟩
  | .hbm, ⟨6, _⟩ => ⟨S1x336x128, .f32⟩
  | .hbm, ⟨7, _⟩ => ⟨S_, .f32⟩
  | .hbm, ⟨8, _⟩ => ⟨S1x336x128, .f32⟩
  | .hbm, ⟨9, _⟩ => ⟨S1x336x128, .f32⟩
  | .hbm, ⟨10, _⟩ => ⟨S1x336x128, .f32⟩
  | .hbm, ⟨11, _⟩ => ⟨S_, .f32⟩
  | .hbm, ⟨12, _⟩ => ⟨S1x336x128, .f32⟩
  | .hbm, ⟨13, _⟩ => ⟨S1x336x128, .f32⟩
  | .hbm, ⟨14, _⟩ => ⟨S1x336x128, .f32⟩
  | .hbm, ⟨15, _⟩ => ⟨S_, .f32⟩
  | .hbm, ⟨16, _⟩ => ⟨S1x336x128, .f32⟩
  | .hbm, ⟨17, _⟩ => ⟨S1x336x128, .f32⟩
  | .hbm, ⟨18, _⟩ => ⟨S1x336x128, .f32⟩
  | .hbm, ⟨19, _⟩ => ⟨S_, .f32⟩
  | .hbm, ⟨20, _⟩ => ⟨S1x336x128, .f32⟩
  | .hbm, ⟨21, _⟩ => ⟨S1x336x128, .f32⟩
  | .hbm, ⟨22, _⟩ => ⟨S_, .f32⟩
  | .hbm, ⟨23, _⟩ => ⟨S1x336x128, .f32⟩
  | .hbm, ⟨24, _⟩ => ⟨S1x336x128, .f32⟩
  | .hbm, ⟨25, _⟩ => ⟨S1x336x128, .f32⟩
  | .hbm, ⟨26, _⟩ => ⟨S_, .f32⟩
  | .hbm, ⟨27, _⟩ => ⟨S1x336x128, .f32⟩
  | .hbm, ⟨28, _⟩ => ⟨S1x336x128, .f32⟩
  | .hbm, ⟨29, _⟩ => ⟨S1x336x128, .f32⟩
  | .hbm, ⟨30, _⟩ => ⟨S_, .f32⟩
  | .hbm, ⟨31, _⟩ => ⟨S1x336x128, .f32⟩
  | .hbm, ⟨32, _⟩ => ⟨S1x336x128, .f32⟩
  | .hbm, ⟨33, _⟩ => ⟨S1x336x128, .f32⟩
  | .hbm, ⟨34, _⟩ => ⟨S_, .f32⟩
  | .hbm, ⟨35, _⟩ => ⟨S1x336x128, .f32⟩
  | .hbm, ⟨36, _⟩ => ⟨S1x336x128, .f32⟩
  | _, _ => ⟨S1x336x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel19.lean ====
abbrev S2048x3072 : Shape := ⟨2, ![2048, 3072]⟩
abbrev S2048x512 : Shape := ⟨2, ![2048, 512]⟩
abbrev S256x768 : Shape := ⟨2, ![256, 768]⟩
abbrev S128x768 : Shape := ⟨2, ![128, 768]⟩
abbrev S256x128 : Shape := ⟨2, ![256, 128]⟩
abbrev S128x256 : Shape := ⟨2, ![128, 256]⟩
abbrev S128x128 : Shape := ⟨2, ![128, 128]⟩
abbrev S256x256 : Shape := ⟨2, ![256, 256]⟩
abbrev S1x128 : Shape := ⟨2, ![1, 128]⟩
abbrev S256 : Shape := ⟨1, ![256]⟩
abbrev S256x1 : Shape := ⟨2, ![256, 1]⟩
abbrev S128x1 : Shape := ⟨2, ![128, 1]⟩

abbrev nBuf : Space → Nat
  | .hbm => 5
  | .vmem => 14
  | .smem => 0
  | _ => 0

abbrev bufTy : (tb : Table) → Fin (tcTables nBuf tb) → BufTy
  | .hbm, ⟨0, _⟩ => ⟨S2048x3072, .bf16⟩
  | .hbm, ⟨1, _⟩ => ⟨S2048x3072, .bf16⟩
  | .hbm, ⟨2, _⟩ => ⟨S2048x3072, .bf16⟩
  | .hbm, ⟨3, _⟩ => ⟨S2048x3072, .f32⟩
  | .hbm, ⟨4, _⟩ => ⟨S2048x512, .f32⟩
  | .local _ .vmem, ⟨0, _⟩ => ⟨S256x768, .bf16⟩
  | .local _ .vmem, ⟨1, _⟩ => ⟨S256x768, .bf16⟩
  | .local _ .vmem, ⟨2, _⟩ => ⟨S128x768, .bf16⟩
  | .local _ .vmem, ⟨3, _⟩ => ⟨S128x768, .bf16⟩
  | .local _ .vmem, ⟨4, _⟩ => ⟨S256x768, .bf16⟩
  | .local _ .vmem, ⟨5, _⟩ => ⟨S256x768, .bf16⟩
  | .local _ .vmem, ⟨6, _⟩ => ⟨S128x768, .bf16⟩
  | .local _ .vmem, ⟨7, _⟩ => ⟨S128x768, .bf16⟩
  | .local _ .vmem, ⟨8, _⟩ => ⟨S256x768, .bf16⟩
  | .local _ .vmem, ⟨9, _⟩ => ⟨S256x768, .bf16⟩
  | .local _ .vmem, ⟨10, _⟩ => ⟨S256x768, .f32⟩
  | .local _ .vmem, ⟨11, _⟩ => ⟨S256x768, .f32⟩
  | .local _ .vmem, ⟨12, _⟩ => ⟨S256x128, .f32⟩
  | .local _ .vmem, ⟨13, _⟩ => ⟨S256x128, .f32⟩
  | _, _ => ⟨S2048x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![4, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli c2_i32 arg1
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  ![v2.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli c2_i32 arg1
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  ![v2.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S256x768 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S128x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x768 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S128x768 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x768 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S256x768 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S256x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Kernel19Ideal.lean ====
variable {F : FTy → Type} [FloatOps F] [Named F]
def κ : String → Option EReal := fun
  | "mask" => some ⊥
  | _ => none
-- ==== Reference19Ideal.lean ====
abbrev S2048x3072 : Shape := ⟨2, ![2048, 3072]⟩
abbrev S16x128x4x12x64 : Shape := ⟨5, ![16, 128, 4, 12, 64]⟩
abbrev S4x16x128x12x64 : Shape := ⟨5, ![4, 16, 128, 12, 64]⟩
abbrev S4x1x128x12x64 : Shape := ⟨5, ![4, 1, 128, 12, 64]⟩
abbrev S_ : Shape := ⟨0, ![]⟩
abbrev S4x15x128x12x64 : Shape := ⟨5, ![4, 15, 128, 12, 64]⟩
abbrev S4x16x256x12x64 : Shape := ⟨5, ![4, 16, 256, 12, 64]⟩
abbrev S4x16x12x128x256 : Shape := ⟨5, ![4, 16, 12, 128, 256]⟩
abbrev S128 : Shape := ⟨1, ![128]⟩
abbrev S128x1 : Shape := ⟨2, ![128, 1]⟩
abbrev S256 : Shape := ⟨1, ![256]⟩
abbrev S1x256 : Shape := ⟨2, ![1, 256]⟩
abbrev S128x256 : Shape := ⟨2, ![128, 256]⟩
abbrev S16 : Shape := ⟨1, ![16]⟩
abbrev S16x1x1 : Shape := ⟨3, ![16, 1, 1]⟩
abbrev S1x1x256 : Shape := ⟨3, ![1, 1, 256]⟩
abbrev S16x1x256 : Shape := ⟨3, ![16, 1, 256]⟩
abbrev S1x128x256 : Shape := ⟨3, ![1, 128, 256]⟩
abbrev S16x128x256 : Shape := ⟨3, ![16, 128, 256]⟩
abbrev S16x1x128x256 : Shape := ⟨4, ![16, 1, 128, 256]⟩
abbrev S4x16x12x128 : Shape := ⟨4, ![4, 16, 12, 128]⟩
abbrev S4x16x12x128x1 : Shape := ⟨5, ![4, 16, 12, 128, 1]⟩
abbrev S4x16x12x64x128 : Shape := ⟨5, ![4, 16, 12, 64, 128]⟩
abbrev S16x128x4x12 : Shape := ⟨4, ![16, 128, 4, 12]⟩
abbrev S16x128x4x116 : Shape := ⟨4, ![16, 128, 4, 116]⟩
abbrev S16x128x4x128 : Shape := ⟨4, ![16, 128, 4, 128]⟩
abbrev S2048x512 : Shape := ⟨2, ![2048, 512]⟩

abbrev nBuf : Space → Nat
  | .hbm => 90
  | .vmem => 0
  | .smem => 0
  | _ => 0

abbrev bufTy : (tb : Table) → Fin (tcTables nBuf tb) → BufTy
  | .hbm, ⟨0, _⟩ => ⟨S2048x3072, .bf16⟩
  | .hbm, ⟨1, _⟩ => ⟨S2048x3072, .bf16⟩
  | .hbm, ⟨2, _⟩ => ⟨S2048x3072, .bf16⟩
  | .hbm, ⟨3, _⟩ => ⟨S2048x3072, .f32⟩
  | .hbm, ⟨4, _⟩ => ⟨S16x128x4x12x64, .f32⟩
  | .hbm, ⟨5, _⟩ => ⟨S4x16x128x12x64, .f32⟩
  | .hbm, ⟨6, _⟩ => ⟨S2048x3072, .f32⟩
  | .hbm, ⟨7, _⟩ => ⟨S16x128x4x12x64, .f32⟩
  | .hbm, ⟨8, _⟩ => ⟨S4x16x128x12x64, .f32⟩
  | .hbm, ⟨9, _⟩ => ⟨S4x1x128x12x64, .f32⟩
  | .hbm, ⟨10, _⟩ => ⟨S_, .f32⟩
  | .hbm, ⟨11, _⟩ => ⟨S4x1x128x12x64, .f32⟩
  | .hbm, ⟨12, _⟩ => ⟨S4x15x128x12x64, .f32⟩
  | .hbm, ⟨13, _⟩ => ⟨S4x16x128x12x64, .f32⟩
  | .hbm, ⟨14, _⟩ => ⟨S4x16x256x12x64, .f32⟩
  | .hbm, ⟨15, _⟩ => ⟨S2048x3072, .f32⟩
  | .hbm, ⟨16, _⟩ => ⟨S16x128x4x12x64, .f32⟩
  | .hbm, ⟨17, _⟩ => ⟨S4x16x128x12x64, .f32⟩
  | .hbm, ⟨18, _⟩ => ⟨S4x1x128x12x64, .f32⟩
  | .hbm, ⟨19, _⟩ => ⟨S_, .f32⟩
  | .hbm, ⟨20, _⟩ => ⟨S4x1x128x12x64, .f32⟩
  | .hbm, ⟨21, _⟩ => ⟨S4x15x128x12x64, .f32⟩
  | .hbm, ⟨22, _⟩ => ⟨S4x16x128x12x64, .f32⟩
  | .hbm, ⟨23, _⟩ => ⟨S4x16x256x12x64, .f32⟩
  | .hbm, ⟨24, _⟩ => ⟨S4x16x12x128x256, .f32⟩
  | .hbm, ⟨25, _⟩ => ⟨S128, .i32⟩
  | .hbm, ⟨26, _⟩ => ⟨S128x1, .i32⟩
  | .hbm, ⟨27, _⟩ => ⟨S256, .i32⟩
  | .hbm, ⟨28, _⟩ => ⟨S1x256, .i32⟩
  | .hbm, ⟨29, _⟩ => ⟨S_, .i32⟩
  | .hbm, ⟨30, _⟩ => ⟨S128x1, .i32⟩
  | .hbm, ⟨31, _⟩ => ⟨S128x1, .i32⟩
  | .hbm, ⟨32, _⟩ => ⟨S128x256, .i32⟩
  | .hbm, ⟨33, _⟩ => ⟨S128x256, .i32⟩
  | .hbm, ⟨34, _⟩ => ⟨S128x256, .i32⟩
  | .hbm, ⟨35, _⟩ => ⟨S16, .i32⟩
  | .hbm, ⟨36, _⟩ => ⟨S16x1x1, .i32⟩
  | .hbm, ⟨37, _⟩ => ⟨S_, .i32⟩
  | .hbm, ⟨38, _⟩ => ⟨S128x256, .i32⟩
  | .hbm, ⟨39, _⟩ => ⟨S128x256, .i1⟩
  | .hbm, ⟨40, _⟩ => ⟨S_, .i32⟩
  | .hbm, ⟨41, _⟩ => ⟨S128x256, .i32⟩
  | .hbm, ⟨42, _⟩ => ⟨S128x256, .i1⟩
  | .hbm, ⟨43, _⟩ => ⟨S128x256, .i1⟩
  | .hbm, ⟨44, _⟩ => ⟨S_, .i32⟩
  | .hbm, ⟨45, _⟩ => ⟨S16x1x1, .i32⟩
  | .hbm, ⟨46, _⟩ => ⟨S16x1x1, .i32⟩
  | .hbm, ⟨47, _⟩ => ⟨S_, .i32⟩
  | .hbm, ⟨48, _⟩ => ⟨S16x1x1, .i32⟩
  | .hbm, ⟨49, _⟩ => ⟨S16x1x1, .i32⟩
  | .hbm, ⟨50, _⟩ => ⟨S1x1x256, .i32⟩
  | .hbm, ⟨51, _⟩ => ⟨S16x1x256, .i32⟩
  | .hbm, ⟨52, _⟩ => ⟨S16x1x256, .i32⟩
  | .hbm, ⟨53, _⟩ => ⟨S16x1x256, .i32⟩
  | .hbm, ⟨54, _⟩ => ⟨S_, .i32⟩
  | .hbm, ⟨55, _⟩ => ⟨S16x1x256, .i32⟩
  | .hbm, ⟨56, _⟩ => ⟨S16x1x256, .i1⟩
  | .hbm, ⟨57, _⟩ => ⟨S1x128x256, .i1⟩
  | .hbm, ⟨58, _⟩ => ⟨S16x128x256, .i1⟩
  | .hbm, ⟨59, _⟩ => ⟨S16x128x256, .i1⟩
  | .hbm, ⟨60, _⟩ => ⟨S16x128x256, .i1⟩
  | .hbm, ⟨61, _⟩ => ⟨S16x1x128x256, .i1⟩
  | .hbm, ⟨62, _⟩ => ⟨S_, .f32⟩
  | .hbm, ⟨63, _⟩ => ⟨S_, .f32⟩
  | .hbm, ⟨64, _⟩ => ⟨S4x16x12x128x256, .i1⟩
  | .hbm, ⟨65, _⟩ => ⟨S4x16x12x128x256, .f32⟩
  | .hbm, ⟨66, _⟩ => ⟨S4x16x12x128x256, .f32⟩
  | .hbm, ⟨67, _⟩ => ⟨S_, .f32⟩
  | .hbm, ⟨68, _⟩ => ⟨S4x16x12x128, .f32⟩
  | .hbm, ⟨69, _⟩ => ⟨S4x16x12x128x1, .f32⟩
  | .hbm, ⟨70, _⟩ => ⟨S4x16x12x128x256, .f32⟩
  | .hbm, ⟨71, _⟩ => ⟨S4x16x12x128x256, .f32⟩
  | .hbm, ⟨72, _⟩ => ⟨S4x16x12x128x256, .f32⟩
  | .hbm, ⟨73, _⟩ => ⟨S_, .f32⟩
  | .hbm, ⟨74, _⟩ => ⟨S4x16x12x128, .f32⟩
  | .hbm, ⟨75, _⟩ => ⟨S4x16x12x128x1, .f32⟩
  | .hbm, ⟨76, _⟩ => ⟨S4x16x12x128x256, .f32⟩
  | .hbm, ⟨77, _⟩ => ⟨S4x16x12x128x256, .f32⟩
  | .hbm, ⟨78, _⟩ => ⟨S4x16x12x64x128, .f32⟩
  | .hbm, ⟨79, _⟩ => ⟨S4x16x128x12x64, .f32⟩
  | .hbm, ⟨80, _⟩ => ⟨S4x16x12x128x1, .f32⟩
  | .hbm, ⟨81, _⟩ => ⟨S4x16x12x128x1, .f32⟩
  | .hbm, ⟨82, _⟩ => ⟨S4x16x12x128, .f32⟩
  | .hbm, ⟨83, _⟩ => ⟨S16x128x4x12, .f32⟩
  | .hbm, ⟨84, _⟩ => ⟨S_, .f32⟩
  | .hbm, ⟨85, _⟩ => ⟨S16x128x4x116, .f32⟩
  | .hbm, ⟨86, _⟩ => ⟨S16x128x4x128, .f32⟩
  | .hbm, ⟨87, _⟩ => ⟨S16x128x4x12x64, .f32⟩
  | .hbm, ⟨88, _⟩ => ⟨S2048x3072, .f32⟩
  | .hbm, ⟨89, _⟩ => ⟨S2048x512, .f32⟩
  | _, _ => ⟨S2048x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_cst_0 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_c : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_c_1 : Ref sig .tc := ⟨.hbm, 37, rfl⟩
abbrev main_v31 : Ref sig .tc := ⟨.hbm, 38, rfl⟩
abbrev main_v32 : Ref sig .tc := ⟨.hbm, 39, rfl⟩
abbrev main_c_2 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_c_3 : Ref sig .tc := ⟨.hbm, 44, rfl⟩
abbrev main_v36 : Ref sig .tc := ⟨.hbm, 45, rfl⟩
abbrev main_v37 : Ref sig .tc := ⟨.hbm, 46, rfl⟩
abbrev main_c_4 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_c_5 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_cst_6 : Ref sig .tc := ⟨.hbm, 62, rfl⟩
abbrev main_call0_v0 : Ref sig .tc := ⟨.hbm, 63, rfl⟩
abbrev main_call0_v1 : Ref sig .tc := ⟨.hbm, 64, rfl⟩
abbrev main_call0_v2 : Ref sig .tc := ⟨.hbm, 65, rfl⟩
abbrev main_v51 : Ref sig .tc := ⟨.hbm, 66, rfl⟩
abbrev main_cst_7 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_cst_8 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_cst_9 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩

abbrev nD : Nat := 1
abbrev τ : Topo := Topo.v7x

variable {F : FTy → Type} [FloatOps F]
-- ==== Proof.Chunk.lean ====
module
public import proofs.«01_k».proof.Proof.Gen.KernelIdeal.Value
public import Idealize.ShloMosaic.Lib.Pipeline.ValueKit
/-! One chunk of the backward scan as the kernel body computes it: the 64 rows of a chunk cut out of a block of 512
rows, head by head, then the two formulas of the chunk. -/
@[expose] public section
set_option maxRecDepth 16384
noncomputable section
open Idealize.ShloMosaic Idealize.ShloMosaic.TcCoe Idealize.SL.Sem
namespace Cert.KernelIdeal.Chunk
open Cert.KernelIdeal Cert.KernelIdeal.Gen

/-- A tile of 64 rows from row `r` on lies within the 512 rows. -/
theorem rows_le (r : ℕ) (b : ∀ a, (![r, 0] : Fin 2 → ℕ) a + (![64, 128] : Fin 2 → ℕ) a ≤ S512x768.size a) : r + 64 ≤ 512 :=
  b 0

/-- Row `r` is one of the 512 rows. -/
theorem row_le (r : ℕ) (b : ∀ a, (![r, 0] : Fin 2 → ℕ) a + (![1, 128] : Fin 2 → ℕ) a ≤ S512x128.size a) : r + 1 ≤ 512 :=
  b 0

/-- The 64 rows from row `r` on of a block of 512 rows, the 768 columns split into 6 heads of 128. -/
def rowsOf (X : S512x768.Idx → EReal) (r : ℕ) (hr : r + 64 ≤ 512) : S6x64x128.Idx → EReal :=
  fun i => X (ix2 ⟨r + (i 1).val, by have h1 : (i 1).val < 64 := (i 1).isLt; omega⟩
    ⟨128 * (i 0).val + (i 2).val, by
      have h0 : (i 0).val < 6 := (i 0).isLt
      have h2 : (i 2).val < 128 := (i 2).isLt
      omega⟩)

/-- The decays of the 6 heads at the one row `r`: the columns 6 to 11. -/
def decayOf (X : FVec Ideal S512x128 .f32) (r : ℕ) (hr : r + 1 ≤ 512) : FVec Ideal S6x1x1 .f32 :=
  fun i => X (ix2 ⟨r, by omega⟩ ⟨6 + (i 0).val, by have h0 : (i 0).val < 6 := (i 0).isLt; omega⟩)

/-- A tile of 64 rows and 128 columns with a leading axis of extent 1, at an index: the block's element there. -/
theorem tile_at {e : EltTy} (X : Vec Ideal S512x768 e) (r o : ℕ)
    (b : ∀ a, (![r, o] : Fin 2 → ℕ) a + (![64, 128] : Fin 2 → ℕ) a ≤ S512x768.size a) (i : S1x64x128.Idx) (x : S512x768.Idx)
    (h0 : (x 0 : ℕ) = r + (i 1 : ℕ)) (h1 : (x 1 : ℕ) = o + (i 2 : ℕ)) :
    shapeCast S1x64x128 (View.ld (Val := Elt Ideal) X (Rect.unit ![r, o] ![64, 128] b)) shapeCasts_S64x128_S1x64x128 i
      = X x := by
  rw [shapeCast_addUnit_apply ![64, 128]]
  refine View.ld_unit_apply_of X _ _ _ _ x ?_
  intro a
  match a with
  | ⟨0, _⟩ => exact h0
  | ⟨1, _⟩ => exact h1

/-- Six tiles (f32) of 64 rows and 128 columns, one per head, stacked: the heads of the rows from `r` on. -/
theorem stack_rows_f32 (X : Vec Ideal S512x768 .f32) (r : ℕ)
    (b0 : ∀ a, (![r, 0] : Fin 2 → ℕ) a + (![64, 128] : Fin 2 → ℕ) a ≤ S512x768.size a)
    (b1 : ∀ a, (![r, 128] : Fin 2 → ℕ) a + (![64, 128] : Fin 2 → ℕ) a ≤ S512x768.size a)
    (b2 : ∀ a, (![r, 256] : Fin 2 → ℕ) a + (![64, 128] : Fin 2 → ℕ) a ≤ S512x768.size a)
    (b3 : ∀ a, (![r, 384] : Fin 2 → ℕ) a + (![64, 128] : Fin 2 → ℕ) a ≤ S512x768.size a)
    (b4 : ∀ a, (![r, 512] : Fin 2 → ℕ) a + (![64, 128] : Fin 2 → ℕ) a ≤ S512x768.size a)
    (b5 : ∀ a, (![r, 640] : Fin 2 → ℕ) a + (![64, 128] : Fin 2 → ℕ) a ≤ S512x768.size a)
    :
    (concatenate S6x64x128 0
      [⟨S1x64x128, shapeCast S1x64x128 (View.ld (Val := Elt Ideal) X (Rect.unit ![r, 0] ![64, 128] b0)) shapeCasts_S64x128_S1x64x128⟩,
       ⟨S1x64x128, shapeCast S1x64x128 (View.ld (Val := Elt Ideal) X (Rect.unit ![r, 128] ![64, 128] b1)) shapeCasts_S64x128_S1x64x128⟩,
       ⟨S1x64x128, shapeCast S1x64x128 (View.ld (Val := Elt Ideal) X (Rect.unit ![r, 256] ![64, 128] b2)) shapeCasts_S64x128_S1x64x128⟩,
       ⟨S1x64x128, shapeCast S1x64x128 (View.ld (Val := Elt Ideal) X (Rect.unit ![r, 384] ![64, 128] b3)) shapeCasts_S64x128_S1x64x128⟩,
       ⟨S1x64x128, shapeCast S1x64x128 (View.ld (Val := Elt Ideal) X (Rect.unit ![r, 512] ![64, 128] b4)) shapeCasts_S64x128_S1x64x128⟩,
       ⟨S1x64x128, shapeCast S1x64x128 (View.ld (Val := Elt Ideal) X (Rect.unit ![r, 640] ![64, 128] b5)) shapeCasts_S64x128_S1x64x128⟩]
      concatenates_S1x64x128_S1x64x128_S1x64x128_S1x64x128_S1x64x128_S1x64x128_S6x64x128_d0 : FVec Ideal S6x64x128 .f32) = rowsOf X r (rows_le r b0) := by
  funext i
  refine concatenate_unit_eq _ _ _ _ _ rfl ⟨?_, ?_, ?_, ?_, ?_, ?_, trivial⟩ <;>
    (intro hj hr k hk0 hk
     have h1 := hk 1 (by decide)
     have h2 := hk 2 (by decide)
     exact tile_at X _ _ _ k _ (congrArg (r + ·) h1.symm)
       (congrArg₂ (fun a b => 128 * a + b) hj h2.symm))

/-- Six tiles (bf16) of 64 rows and 128 columns, one per head, stacked: the heads of the rows from `r` on. -/
theorem stack_rows_bf16 (X : Vec Ideal S512x768 .bf16) (r : ℕ)
    (b0 : ∀ a, (![r, 0] : Fin 2 → ℕ) a + (![64, 128] : Fin 2 → ℕ) a ≤ S512x768.size a)
    (b1 : ∀ a, (![r, 128] : Fin 2 → ℕ) a + (![64, 128] : Fin 2 → ℕ) a ≤ S512x768.size a)
    (b2 : ∀ a, (![r, 256] : Fin 2 → ℕ) a + (![64, 128] : Fin 2 → ℕ) a ≤ S512x768.size a)
    (b3 : ∀ a, (![r, 384] : Fin 2 → ℕ) a + (![64, 128] : Fin 2 → ℕ) a ≤ S512x768.size a)
    (b4 : ∀ a, (![r, 512] : Fin 2 → ℕ) a + (![64, 128] : Fin 2 → ℕ) a ≤ S512x768.size a)
    (b5 : ∀ a, (![r, 640] : Fin 2 → ℕ) a + (![64, 128] : Fin 2 → ℕ) a ≤ S512x768.size a)
    :
    (concatenate S6x64x128 0
      [⟨S1x64x128, shapeCast S1x64x128 (View.ld (Val := Elt Ideal) X (Rect.unit ![r, 0] ![64, 128] b0)) shapeCasts_S64x128_S1x64x128⟩,
       ⟨S1x64x128, shapeCast S1x64x128 (View.ld (Val := Elt Ideal) X (Rect.unit ![r, 128] ![64, 128] b1)) shapeCasts_S64x128_S1x64x128⟩,
       ⟨S1x64x128, shapeCast S1x64x128 (View.ld (Val := Elt Ideal) X (Rect.unit ![r, 256] ![64, 128] b2)) shapeCasts_S64x128_S1x64x128⟩,
       ⟨S1x64x128, shapeCast S1x64x128 (View.ld (Val := Elt Ideal) X (Rect.unit ![r, 384] ![64, 128] b3)) shapeCasts_S64x128_S1x64x128⟩,
       ⟨S1x64x128, shapeCast S1x64x128 (View.ld (Val := Elt Ideal) X (Rect.unit ![r, 512] ![64, 128] b4)) shapeCasts_S64x128_S1x64x128⟩,
       ⟨S1x64x128, shapeCast S1x64x128 (View.ld (Val := Elt Ideal) X (Rect.unit ![r, 640] ![64, 128] b5)) shapeCasts_S64x128_S1x64x128⟩]
      concatenates_S1x64x128_S1x64x128_S1x64x128_S1x64x128_S1x64x128_S1x64x128_S6x64x128_d0 : FVec Ideal S6x64x128 .bf16) = rowsOf X r (rows_le r b0) :=
  stack_rows_f32 X r b0 b1 b2 b3 b4 b5

/-- One decay column cut out of a row, as a 1×1×1 vector. -/
theorem decay_at (X : Vec Ideal S512x128 .f32) (r k : ℕ)
    (b : ∀ a, (![r, 0] : Fin 2 → ℕ) a + (![1, 128] : Fin 2 → ℕ) a ≤ S512x128.size a)
    (hs : S1x128.Slices ![0, k] S1x1) (i : S1x1x1.Idx) (x : S512x128.Idx)
    (h0 : (x 0 : ℕ) = r) (h1 : (x 1 : ℕ) = k) :
    shapeCast S1x1x1 (extractStridedSlice (s := S1x128) S1x1 ![0, k]
      (View.ld (Val := Elt Ideal) X (Rect.unit ![r, 0] ![1, 128] b)) hs) shapeCasts_S1x1_S1x1x1 i = X x := by
  rw [shapeCast_addUnit_apply ![1, 1]]
  refine View.ld_unit_apply_of X _ _ _ _ x ?_
  have hi1 : (i 1).val = 0 := by have h : (i 1).val < 1 := (i 1).isLt; omega
  have hi2 : (i 2).val = 0 := by have h : (i 2).val < 1 := (i 2).isLt; omega
  intro a
  match a with
  | ⟨0, _⟩ => exact h0.trans (congrArg (fun z => r + (0 + z)) hi1.symm)
  | ⟨1, _⟩ => exact h1.trans ((Nat.zero_add k).symm.trans (congrArg (fun z => 0 + (k + z)) hi2.symm))

/-- The six decay columns of a row, stacked. -/
theorem stack_decay (X : Vec Ideal S512x128 .f32) (r : ℕ)
    (b : ∀ a, (![r, 0] : Fin 2 → ℕ) a + (![1, 128] : Fin 2 → ℕ) a ≤ S512x128.size a) :
    (concatenate S6x1x1 0
      [⟨S1x1x1, shapeCast S1x1x1 (extractStridedSlice (s := S1x128) S1x1 ![0, 6]
          (View.ld (Val := Elt Ideal) X (Rect.unit ![r, 0] ![1, 128] b)) slices_S1x128_o0_6_S1x1) shapeCasts_S1x1_S1x1x1⟩,
       ⟨S1x1x1, shapeCast S1x1x1 (extractStridedSlice (s := S1x128) S1x1 ![0, 7]
          (View.ld (Val := Elt Ideal) X (Rect.unit ![r, 0] ![1, 128] b)) slices_S1x128_o0_7_S1x1) shapeCasts_S1x1_S1x1x1⟩,
       ⟨S1x1x1, shapeCast S1x1x1 (extractStridedSlice (s := S1x128) S1x1 ![0, 8]
          (View.ld (Val := Elt Ideal) X (Rect.unit ![r, 0] ![1, 128] b)) slices_S1x128_o0_8_S1x1) shapeCasts_S1x1_S1x1x1⟩,
       ⟨S1x1x1, shapeCast S1x1x1 (extractStridedSlice (s := S1x128) S1x1 ![0, 9]
          (View.ld (Val := Elt Ideal) X (Rect.unit ![r, 0] ![1, 128] b)) slices_S1x128_o0_9_S1x1) shapeCasts_S1x1_S1x1x1⟩,
       ⟨S1x1x1, shapeCast S1x1x1 (extractStridedSlice (s := S1x128) S1x1 ![0, 10]
          (View.ld (Val := Elt Ideal) X (Rect.unit ![r, 0] ![1, 128] b)) slices_S1x128_o0_10_S1x1) shapeCasts_S1x1_S1x1x1⟩,
       ⟨S1x1x1, shapeCast S1x1x1 (extractStridedSlice (s := S1x128) S1x1 ![0, 11]
          (View.ld (Val := Elt Ideal) X (Rect.unit ![r, 0] ![1, 128] b)) slices_S1x128_o0_11_S1x1) shapeCasts_S1x1_S1x1x1⟩]
      concatenates_S1x1x1_S1x1x1_S1x1x1_S1x1x1_S1x1x1_S1x1x1_S6x1x1_d0 : FVec Ideal S6x1x1 .f32) = decayOf X r (row_le r b) := by
  funext i
  refine concatenate_unit_eq _ _ _ _ _ rfl ⟨?_, ?_, ?_, ?_, ?_, ?_, trivial⟩ <;>
    (intro hj hr k hk0 hk
     exact decay_at X _ _ _ (by decide) k _ rfl (congrArg (6 + ·) hj))

/-- The 64 rows from `r` on of the chunk's mixing matrices, all heads. -/
def slabOf (X : Vec Ideal S6x512x64 .bf16) (r : ℕ)
    (hr : ∀ a, (![0, r, 0] : Fin 3 → ℕ) a + (![6, 64, 64] : Fin 3 → ℕ) a ≤ S6x512x64.size a) : FVec Ideal S6x64x64 .bf16 :=
  View.ld (Val := Elt Ideal) X (Rect.unit ![0, r, 0] ![6, 64, 64] hr)

/-- Rows `r` to `r + 63` lie within the 512 rows of the block. -/
theorem slab_inb (r : ℕ) (h : r + 64 ≤ 512) (a : Fin 3) :
    (![0, r, 0] : Fin 3 → ℕ) a + (![6, 64, 64] : Fin 3 → ℕ) a ≤ S6x512x64.size a :=
  match a with
  | ⟨0, _⟩ => Nat.le_refl 6
  | ⟨1, _⟩ => h
  | ⟨2, _⟩ => Nat.le_refl 64

/-- The gradient of the chunk's values: the mixing matrix transposed times the output's gradient, plus the keys times
    the state's gradient. -/
def dvOf (r : ℕ) (hr : r + 64 ≤ 512) (hp : ∀ a, (![0, r, 0] : Fin 3 → ℕ) a + (![6, 64, 64] : Fin 3 → ℕ) a ≤ S6x512x64.size a) (X0 : Vec Ideal S512x768 .f32) (X3 : Vec Ideal S512x768 .bf16)
    (X4 : Vec Ideal S6x512x64 .bf16) (D : FVec Ideal S6x128x128 .f32) : FVec Ideal S6x64x128 .bf16 :=
  truncf .bf16 (addf
    (matmul (φ₁ := .bf16) (φ₂ := .bf16) dot_S6x64x64_S6x64x128_S6x64x128_1_1_2_2_0_0 none (slabOf X4 r hp) (truncf .bf16 (rowsOf X0 r hr) bitsLt_bf16_f32)
      (constant S6x64x128 .f32 0x00000000#32))
    (matmul (φ₁ := .bf16) (φ₂ := .bf16) dot_S6x64x128_S6x128x128_S6x64x128_2_1_1_2_0_0 none (rowsOf X3 r hr) (truncf .bf16 D bitsLt_bf16_f32)
      (constant S6x64x128 .f32 0x00000000#32))) bitsLt_bf16_f32

/-- The state's gradient before the chunk, from the state's gradient after it. -/
def upOf (r : ℕ) (hr : r + 64 ≤ 512) (hg : r + 63 + 1 ≤ 512) (hp : ∀ a, (![0, r, 0] : Fin 3 → ℕ) a + (![6, 64, 64] : Fin 3 → ℕ) a ≤ S6x512x64.size a) (X0 : Vec Ideal S512x768 .f32) (X1 X2 X3 : Vec Ideal S512x768 .bf16)
    (X4 : Vec Ideal S6x512x64 .bf16) (X5 : Vec Ideal S512x128 .f32) (D : FVec Ideal S6x128x128 .f32) :
    FVec Ideal S6x128x128 .f32 :=
  subf (addf
      (matmul (φ₁ := .bf16) (φ₂ := .bf16) dot_S6x64x128_S6x64x128_S6x128x128_1_1_2_2_0_0 none (rowsOf X2 r hr)
        (truncf .bf16 (rowsOf X0 r hr) bitsLt_bf16_f32) (constant S6x128x128 .f32 0x00000000#32))
      (mulf D (broadcastTo S6x128x128 (exp (decayOf X5 (r + 63) hg)) broadcasts_S6x1x1_S6x128x128)))
    (matmul (φ₁ := .bf16) (φ₂ := .bf16) dot_S6x64x128_S6x64x128_S6x128x128_1_1_2_2_0_0 none (rowsOf X1 r hr)
      (dvOf r hr hp X0 X3 X4 D) (constant S6x128x128 .f32 0x00000000#32))

/-- The gradient of the chunk's values, element by element. -/
theorem dvOf_apply (r : ℕ) (hr hp) (X0 X3 X4 D) (h : Fin 6) (c : Fin 64) (e : Fin 128) :
    dvOf r hr hp X0 X3 X4 D (ix3 h c e)
      = (∑ k : Fin 64, slabOf X4 r hp (ix3 h k c) * rowsOf X0 r hr (ix3 h k e))
        + ∑ k : Fin 128, rowsOf X3 r hr (ix3 h c k) * D (ix3 h k e) := by
  pointwise [dvOf]

/-- The state's gradient before the chunk, element by element. -/
theorem upOf_apply (r : ℕ) (hr hg hp) (X0 X1 X2 X3 X4 X5 D) (h : Fin 6) (d e : Fin 128) :
    upOf r hr hg hp X0 X1 X2 X3 X4 X5 D (ix3 h d e)
      = ((∑ k : Fin 64, rowsOf X2 r hr (ix3 h k d) * rowsOf X0 r hr (ix3 h k e))
          + D (ix3 h d e) * Ideal.exp (decayOf X5 (r + 63) hg (ix3 h 0 0)))
        - ∑ k : Fin 64, rowsOf X1 r hr (ix3 h k d) * dvOf r hr hp X0 X3 X4 D (ix3 h k e) := by
  pointwise [upOf]

end Cert.KernelIdeal.Chunk
-- ==== Proof.Point.lean ====
module
public import proofs.«01_k».proof.Proof.Chunk
/-! What one grid point of the backward scan leaves: the carried state's gradient after the block's eight chunks, and
the two blocks it writes. -/
@[expose] public section
set_option maxRecDepth 16384
noncomputable section
open Idealize.ShloMosaic Idealize.ShloMosaic.TcCoe Idealize.SL.Sem
open Idealize.ShloMosaic.Pipeline (Dat)
namespace Cert.KernelIdeal.Scan
open Cert.KernelIdeal Cert.KernelIdeal.Gen Cert.KernelIdeal.Chunk

/-- The state's gradient after `k` of the block's eight chunks, taken from the last chunk to the first. -/
def after (X0 : Vec Ideal S512x768 .f32) (X1 X2 X3 : Vec Ideal S512x768 .bf16)
    (X4 : Vec Ideal S6x512x64 .bf16) (X5 : Vec Ideal S512x128 .f32) (D : FVec Ideal S6x128x128 .f32) : ℕ → FVec Ideal S6x128x128 .f32
  | 0 => D
  | k + 1 => upOf (64 * (7 - k)) (by omega) (by omega) (slab_inb _ (by omega)) X0 X1 X2 X3 X4 X5 (after X0 X1 X2 X3 X4 X5 D k)

/-- The 64 rows around a row of the block lie within it. -/
theorem block_le (y : S512x768.Idx) : 64 * ((y 0 : ℕ) / 64) + 64 ≤ 512 := by
  have h : (y 0 : ℕ) < 512 := (y 0).isLt
  omega

/-- The head a column belongs to. -/
def headOf {n : ℕ} (k : Fin n) (h : n = 768 := by rfl) : Fin 6 := ⟨k.val / 128, by have := k.isLt; omega⟩
/-- The lane of a column within its head. -/
def laneOf {n : ℕ} (k : Fin n) : Fin 128 := ⟨k.val % 128, Nat.mod_lt _ (by decide)⟩
/-- The row within its chunk. -/
def rowIn {n : ℕ} (k : Fin n) : Fin 64 := ⟨k.val % 64, Nat.mod_lt _ (by decide)⟩

variable (c : Dev nD) (i : grid0.Coords)
  (arg1 : Memref sig .tc .vmem S512x768 .f32) (harg1 : arg1.IsWhole)
  (arg2 : Memref sig .tc .vmem S512x768 .bf16) (harg2 : arg2.IsWhole)
  (arg3 : Memref sig .tc .vmem S512x768 .bf16) (harg3 : arg3.IsWhole)
  (arg4 : Memref sig .tc .vmem S512x768 .bf16) (harg4 : arg4.IsWhole)
  (arg5 : Memref sig .tc .vmem S6x512x64 .bf16) (harg5 : arg5.IsWhole)
  (arg6 : Memref sig .tc .vmem S512x128 .f32) (harg6 : arg6.IsWhole)
  (arg7 : Memref sig .tc .vmem S512x768 .bf16) (harg7 : arg7.IsWhole)
  (arg8 : Memref sig .tc .vmem S8x6x128x128 .f32) (harg8 : arg8.IsWhole)
  (arg9 : Memref sig .tc .vmem S6x128x128 .f32) (harg9 : arg9.IsWhole)
  (x0 : Vec Ideal S512x768 .f32) (x1 x2 x3 : Vec Ideal S512x768 .bf16)
  (x4 : Vec Ideal S6x512x64 .bf16) (x5 : Vec Ideal S512x128 .f32) (xs0 : Vec Ideal S6x128x128 .f32)

/-- The chunk's first formula, recognised in the body's expression. -/
theorem fold_dv (r : ℕ) (hr : r + 64 ≤ 512) (hp) :
    truncf .bf16 (addf
      (matmul (φ₁ := .bf16) (φ₂ := .bf16) dot_S6x64x64_S6x64x128_S6x64x128_1_1_2_2_0_0 none
        (View.ld (Val := Elt Ideal) x4 (Rect.unit ![0, r, 0] ![6, 64, 64] hp)) (truncf .bf16 (rowsOf x0 r hr) bitsLt_bf16_f32)
        (constant S6x64x128 .f32 0x00000000#32))
      (matmul (φ₁ := .bf16) (φ₂ := .bf16) dot_S6x64x128_S6x128x128_S6x64x128_2_1_1_2_0_0 none (rowsOf x3 r hr)
        (truncf .bf16 xs0 bitsLt_bf16_f32) (constant S6x64x128 .f32 0x00000000#32))) bitsLt_bf16_f32
      = dvOf r hr hp x0 x3 x4 xs0 := rfl

/-- The chunk's second formula, recognised in the body's expression. -/
theorem fold_up (r s : ℕ) (hs : s = r + 63) (hr : r + 64 ≤ 512) (hg hp) :
    subf (addf
        (matmul (φ₁ := .bf16) (φ₂ := .bf16) dot_S6x64x128_S6x64x128_S6x128x128_1_1_2_2_0_0 none (rowsOf x2 r hr)
          (truncf .bf16 (rowsOf x0 r hr) bitsLt_bf16_f32) (constant S6x128x128 .f32 0x00000000#32))
        (mulf xs0 (broadcastTo S6x128x128 (exp (decayOf x5 s hg)) broadcasts_S6x1x1_S6x128x128)))
      (matmul (φ₁ := .bf16) (φ₂ := .bf16) dot_S6x64x128_S6x64x128_S6x128x128_1_1_2_2_0_0 none (rowsOf x1 r hr)
        (dvOf r hr hp x0 x3 x4 xs0) (constant S6x128x128 .f32 0x00000000#32))
      = upOf r hr (hs ▸ hg) hp x0 x1 x2 x3 x4 x5 xs0 := by subst hs; rfl

/-- A store of the state's gradient into its place of the block of eight. -/
theorem ds_piece (o : ℕ) (D : FVec Ideal S6x128x128 .f32) (ho : o ≤ 7) (hD : D = after x0 x1 x2 x3 x4 x5 xs0 (7 - o))
    (y : S8x6x128x128.Idx) :
    View.TileAt (Val := Elt Ideal) (e := .f32) y ![o, 0, 0, 0] ![1, 6, 128, 128]
      (shapeCast S1x6x128x128 D shapeCasts_S6x128x128_S1x6x128x128)
      (after x0 x1 x2 x3 x4 x5 xs0 (7 - (y 0).val) (ix3 (y 1) (y 2) (y 3))) := by
  intro x hx
  have h0 : (y 0 : ℕ) = o + (x 0 : ℕ) := hx 0
  have h1 : (y 1 : ℕ) = 0 + (x 1 : ℕ) := hx 1
  have h2 : (y 2 : ℕ) = 0 + (x 2 : ℕ) := hx 2
  have h3 : (y 3 : ℕ) = 0 + (x 3 : ℕ) := hx 3
  have hx0 : (x 0 : ℕ) < 1 := (x 0).isLt
  rw [show (y 0 : ℕ) = o by omega, ← hD]
  refine (shapeCast_addUnit_apply ![6, 128, 128] D _ x).trans (congrArg D (funext fun a => Fin.ext ?_))
  match a with
  | ⟨0, _⟩ => exact (h1.trans (Nat.zero_add _)).symm
  | ⟨1, _⟩ => exact (h2.trans (Nat.zero_add _)).symm
  | ⟨2, _⟩ => exact (h3.trans (Nat.zero_add _)).symm

/-- The first formula at equal rows and equal states' gradients. -/
theorem dvOf_congr {r r' : ℕ} {hr hr' hp hp'} {D D' : FVec Ideal S6x128x128 .f32} (e : r = r') (hD : D = D') :
    dvOf r hr hp x0 x3 x4 D = dvOf r' hr' hp' x0 x3 x4 D' := by
  subst e hD
  rfl

/-- A store of one head's 64 rows of the values' gradient into the block of 512 rows. -/
theorem dv_piece (r o h : ℕ) (hs) (hr : r + 64 ≤ 512) (D : FVec Ideal S6x64x128 .bf16) (ho : o = 128 * h)
    (hm : r % 64 = 0) (hD : D = dvOf r hr (slab_inb r hr) x0 x3 x4 (after x0 x1 x2 x3 x4 x5 xs0 (7 - r / 64)))
    (y : S512x768.Idx) :
    View.TileAt (Val := Elt Ideal) (e := .bf16) y ![r, o] ![64, 128]
      (shapeCast S64x128 (extractStridedSlice (s := S6x64x128) S1x64x128 ![h, 0, 0] D hs) shapeCasts_S1x64x128_S64x128)
      (dvOf (64 * ((y 0 : ℕ) / 64)) (block_le y) (slab_inb _ (block_le y)) x0 x3 x4
        (after x0 x1 x2 x3 x4 x5 xs0 (7 - (y 0 : ℕ) / 64))
        (ix3 (headOf (y 1)) (rowIn (y 0)) (laneOf (y 1)))) := by
  intro x hx
  have h0 : (y 0 : ℕ) = r + (x 0 : ℕ) := hx 0
  have h1 : (y 1 : ℕ) = o + (x 1 : ℕ) := hx 1
  have hx0 : (x 0 : ℕ) < 64 := (x 0).isLt
  have hx1 : (x 1 : ℕ) < 128 := (x 1).isLt
  have hq : (y 0 : ℕ) / 64 = r / 64 := by omega
  refine Eq.trans ?_ (congrFun (hD.trans (dvOf_congr x0 x3 x4 (by omega) (congrArg (after x0 x1 x2 x3 x4 x5 xs0) (by omega)))) _)
  rw [shapeCast_dropUnit_apply ![64, 128]]
  refine congrArg D (funext fun a => Fin.ext ?_)
  match a with
  | ⟨0, _⟩ => show h + 0 = (y 1 : ℕ) / 128; omega
  | ⟨1, _⟩ => show 0 + (x 0 : ℕ) = (y 0 : ℕ) % 64; omega
  | ⟨2, _⟩ => show 0 + (x 1 : ℕ) = (y 1 : ℕ) % 128; omega

/-- The carried gradient after a grid point, after the first point. -/
theorem scratch_B (hc0 : ¬cond0_0 i) :
    sout0_B_0 c i arg1 harg1 arg2 harg2 arg3 harg3 arg4 harg4 arg5 harg5 arg6 harg6 arg7 harg7 arg8 harg8 arg9 harg9 hc0 x0 x1 x2 x3 x4 x5 xs0 = after x0 x1 x2 x3 x4 x5 xs0 8 := by
  frame_out
  simp only [k0_pay1, k0_pay2, k0_pay3, k0_pay4, k0_pay5, k0_pay6, k0_pay7, k0_pay8, k0_pay9, k0_pay10, k0_pay11, k0_pay12,
    k0_pay13, k0_pay14, k0_pay15, k0_pay16, k0_pay17, k0_pay18, k0_pay19, k0_pay20, k0_pay21, k0_pay22, k0_pay23,
    k0_pay24, k0_pay25, k0_pay26, k0_pay27, k0_pay28, k0_pay29, k0_pay30, k0_pay31, k0_pay32, k0_pay33, k0_pay34,
    k0_pay35, k0_pay36, k0_pay37, k0_pay38, k0_pay39, k0_pay40, k0_pay41, k0_pay42, k0_pay43, k0_pay44, k0_pay45,
    k0_pay46, k0_pay47, k0_pay48, k0_pay49, k0_pay50, k0_pay51, k0_pay52, k0_pay53, k0_pay54, k0_pay55, k0_pay56,
    k0_pay57, k0_pay58, k0_pay59, k0_pay60, k0_pay61, k0_pay62, k0_pay63, k0_pay64, k0_pay65, k0_pay66, k0_pay67,
    k0_pay68, k0_pay69, k0_pay70, k0_pay71, k0_pay72, k0_pay73, k0_pay74, k0_pay75, k0_pay76, k0_pay77, k0_pay78,
    k0_pay79, k0_pay80, k0_pay81, k0_pay82, k0_pay83, k0_pay84, k0_pay85, k0_pay86, k0_pay87, k0_pay88, k0_pay89,
    k0_pay90, k0_pay91, k0_pay92, k0_pay93, k0_pay94, k0_pay95, k0_pay96, k0_pay97, k0_pay98, k0_pay99, k0_pay100,
    k0_pay101, k0_pay102, k0_pay103, k0_pay104, k0_pay105, k0_pay106, k0_pay107, k0_pay108, k0_pay109]
  simp only [stack_rows_f32, stack_rows_bf16, stack_decay]
  simp only [fold_dv, fold_up]
  rw [shapeCast_self]
  rfl
/-- The block of states' gradients a grid point writes, after the first point. -/
theorem ds_B (hc0 : ¬cond0_0 i) (y : S8x6x128x128.Idx) :
    out0_B_7 c i arg1 harg1 arg2 harg2 arg3 harg3 arg4 harg4 arg5 harg5 arg6 harg6 arg7 harg7 arg8 harg8 arg9 harg9 hc0 x0 x1 x2 x3 x4 x5 xs0 y = after x0 x1 x2 x3 x4 x5 xs0 (7 - (y 0).val) (ix3 (y 1) (y 2) (y 3)) := by
  frame_out
  simp only [k0_pay1, k0_pay2, k0_pay3, k0_pay4, k0_pay5, k0_pay6, k0_pay7, k0_pay8, k0_pay9, k0_pay10, k0_pay11, k0_pay12,
    k0_pay13, k0_pay14, k0_pay15, k0_pay16, k0_pay17, k0_pay18, k0_pay19, k0_pay20, k0_pay21, k0_pay22, k0_pay23,
    k0_pay24, k0_pay25, k0_pay26, k0_pay27, k0_pay28, k0_pay29, k0_pay30, k0_pay31, k0_pay32, k0_pay33, k0_pay34,
    k0_pay35, k0_pay36, k0_pay37, k0_pay38, k0_pay39, k0_pay40, k0_pay41, k0_pay42, k0_pay43, k0_pay44, k0_pay45,
    k0_pay46, k0_pay47, k0_pay48, k0_pay49, k0_pay50, k0_pay51, k0_pay52, k0_pay53, k0_pay54, k0_pay55, k0_pay56,
    k0_pay57, k0_pay58, k0_pay59, k0_pay60, k0_pay61, k0_pay62, k0_pay63, k0_pay64, k0_pay65, k0_pay66, k0_pay67,
    k0_pay68, k0_pay69, k0_pay70, k0_pay71, k0_pay72, k0_pay73, k0_pay74, k0_pay75, k0_pay76, k0_pay77, k0_pay78,
    k0_pay79, k0_pay80, k0_pay81, k0_pay82, k0_pay83, k0_pay84, k0_pay85, k0_pay86, k0_pay87, k0_pay88, k0_pay89,
    k0_pay90, k0_pay91, k0_pay92, k0_pay93, k0_pay94, k0_pay95, k0_pay96, k0_pay97, k0_pay98, k0_pay99, k0_pay100,
    k0_pay101, k0_pay102, k0_pay103, k0_pay104, k0_pay105, k0_pay106, k0_pay107, k0_pay108, k0_pay109]
  simp only [stack_rows_f32, stack_rows_bf16, stack_decay]
  simp only [fold_dv, fold_up]
  refine View.canon_eq_of_allAt _ _ _ (by
    refine View.cover_of_tiledL _ ![1, 6, 128, 128] ?_ y
    sl_kernel_rfl) ?_
  iterate 8
    refine View.allAt_cons_unit _ _ _ _ _ ?_ ?_
    · refine ds_piece x0 x1 x2 x3 x4 x5 xs0 _ _ ?_ ?_ y
      · decide
      · rfl
  exact View.allAt_nil _ _

/-- The block of values' gradients a grid point writes, after the first point. -/
theorem dv_B (hc0 : ¬cond0_0 i) (y : S512x768.Idx) :
    out0_B_6 c i arg1 harg1 arg2 harg2 arg3 harg3 arg4 harg4 arg5 harg5 arg6 harg6 arg7 harg7 arg8 harg8 arg9 harg9 hc0 x0 x1 x2 x3 x4 x5 xs0 y
      = dvOf (64 * ((y 0 : ℕ) / 64)) (block_le y) (slab_inb _ (block_le y)) x0 x3 x4
        (after x0 x1 x2 x3 x4 x5 xs0 (7 - (y 0 : ℕ) / 64))
        (ix3 (headOf (y 1)) (rowIn (y 0)) (laneOf (y 1))) := by
  frame_out
  simp only [k0_pay1, k0_pay2, k0_pay3, k0_pay4, k0_pay5, k0_pay6, k0_pay7, k0_pay8, k0_pay9, k0_pay10, k0_pay11, k0_pay12,
    k0_pay13, k0_pay14, k0_pay15, k0_pay16, k0_pay17, k0_pay18, k0_pay19, k0_pay20, k0_pay21, k0_pay22, k0_pay23,
    k0_pay24, k0_pay25, k0_pay26, k0_pay27, k0_pay28, k0_pay29, k0_pay30, k0_pay31, k0_pay32, k0_pay33, k0_pay34,
    k0_pay35, k0_pay36, k0_pay37, k0_pay38, k0_pay39, k0_pay40, k0_pay41, k0_pay42, k0_pay43, k0_pay44, k0_pay45,
    k0_pay46, k0_pay47, k0_pay48, k0_pay49, k0_pay50, k0_pay51, k0_pay52, k0_pay53, k0_pay54, k0_pay55, k0_pay56,
    k0_pay57, k0_pay58, k0_pay59, k0_pay60, k0_pay61, k0_pay62, k0_pay63, k0_pay64, k0_pay65, k0_pay66, k0_pay67,
    k0_pay68, k0_pay69, k0_pay70, k0_pay71, k0_pay72, k0_pay73, k0_pay74, k0_pay75, k0_pay76, k0_pay77, k0_pay78,
    k0_pay79, k0_pay80, k0_pay81, k0_pay82, k0_pay83, k0_pay84, k0_pay85, k0_pay86, k0_pay87, k0_pay88, k0_pay89,
    k0_pay90, k0_pay91, k0_pay92, k0_pay93, k0_pay94, k0_pay95, k0_pay96, k0_pay97, k0_pay98, k0_pay99, k0_pay100,
    k0_pay101, k0_pay102, k0_pay103, k0_pay104, k0_pay105, k0_pay106, k0_pay107, k0_pay108, k0_pay109]
  simp only [stack_rows_f32, stack_rows_bf16, stack_decay]
  simp only [fold_dv, fold_up]
  refine View.canon_eq_of_allAt _ _ _ (by
    refine View.cover_of_tiledL _ ![64, 128] ?_ y
    sl_kernel_rfl) ?_
  iterate 48
    refine View.allAt_cons_unit _ _ _ _ _ ?_ ?_
    · refine dv_piece x0 x1 x2 x3 x4 x5 xs0 _ _ _ _ ?_ _ ?_ ?_ ?_ y <;> first | decide | rfl
  exact View.allAt_nil _ _
/-- The carried gradient after a grid point, at the first point. -/
theorem scratch_A (hc0 : cond0_0 i) :
    sout0_A_0 c i arg1 harg1 arg2 harg2 arg3 harg3 arg4 harg4 arg5 harg5 arg6 harg6 arg7 harg7 arg8 harg8 arg9 harg9 hc0 x0 x1 x2 x3 x4 x5 = after x0 x1 x2 x3 x4 x5 (k0_pay5 (F := Ideal)) 8 := by
  frame_out
  simp only [k0_pay1, k0_pay2, k0_pay3, k0_pay4, k0_pay6, k0_pay7, k0_pay8, k0_pay9, k0_pay10, k0_pay11, k0_pay12,
    k0_pay13, k0_pay14, k0_pay15, k0_pay16, k0_pay17, k0_pay18, k0_pay19, k0_pay20, k0_pay21, k0_pay22, k0_pay23,
    k0_pay24, k0_pay25, k0_pay26, k0_pay27, k0_pay28, k0_pay29, k0_pay30, k0_pay31, k0_pay32, k0_pay33, k0_pay34,
    k0_pay35, k0_pay36, k0_pay37, k0_pay38, k0_pay39, k0_pay40, k0_pay41, k0_pay42, k0_pay43, k0_pay44, k0_pay45,
    k0_pay46, k0_pay47, k0_pay48, k0_pay49, k0_pay50, k0_pay51, k0_pay52, k0_pay53, k0_pay54, k0_pay55, k0_pay56,
    k0_pay57, k0_pay58, k0_pay59, k0_pay60, k0_pay61, k0_pay62, k0_pay63, k0_pay64, k0_pay65, k0_pay66, k0_pay67,
    k0_pay68, k0_pay69, k0_pay70, k0_pay71, k0_pay72, k0_pay73, k0_pay74, k0_pay75, k0_pay76, k0_pay77, k0_pay78,
    k0_pay79, k0_pay80, k0_pay81, k0_pay82, k0_pay83, k0_pay84, k0_pay85, k0_pay86, k0_pay87, k0_pay88, k0_pay89,
    k0_pay90, k0_pay91, k0_pay92, k0_pay93, k0_pay94, k0_pay95, k0_pay96, k0_pay97, k0_pay98, k0_pay99, k0_pay100,
    k0_pay101, k0_pay102, k0_pay103, k0_pay104, k0_pay105, k0_pay106, k0_pay107, k0_pay108, k0_pay109]
  simp only [stack_rows_f32, stack_rows_bf16, stack_decay]
  simp only [fold_dv, fold_up]
  rw [shapeCast_self]
  rfl
/-- The block of states' gradients a grid point writes, at the first point. -/
theorem ds_A (hc0 : cond0_0 i) (y : S8x6x128x128.Idx) :
    out0_A_7 c i arg1 harg1 arg2 harg2 arg3 harg3 arg4 harg4 arg5 harg5 arg6 harg6 arg7 harg7 arg8 harg8 arg9 harg9 hc0 x0 x1 x2 x3 x4 x5 y = after x0 x1 x2 x3 x4 x5 (k0_pay5 (F := Ideal)) (7 - (y 0).val) (ix3 (y 1) (y 2) (y 3)) := by
  frame_out
  simp only [k0_pay1, k0_pay2, k0_pay3, k0_pay4, k0_pay6, k0_pay7, k0_pay8, k0_pay9, k0_pay10, k0_pay11, k0_pay12,
    k0_pay13, k0_pay14, k0_pay15, k0_pay16, k0_pay17, k0_pay18, k0_pay19, k0_pay20, k0_pay21, k0_pay22, k0_pay23,
    k0_pay24, k0_pay25, k0_pay26, k0_pay27, k0_pay28, k0_pay29, k0_pay30, k0_pay31, k0_pay32, k0_pay33, k0_pay34,
    k0_pay35, k0_pay36, k0_pay37, k0_pay38, k0_pay39, k0_pay40, k0_pay41, k0_pay42, k0_pay43, k0_pay44, k0_pay45,
    k0_pay46, k0_pay47, k0_pay48, k0_pay49, k0_pay50, k0_pay51, k0_pay52, k0_pay53, k0_pay54, k0_pay55, k0_pay56,
    k0_pay57, k0_pay58, k0_pay59, k0_pay60, k0_pay61, k0_pay62, k0_pay63, k0_pay64, k0_pay65, k0_pay66, k0_pay67,
    k0_pay68, k0_pay69, k0_pay70, k0_pay71, k0_pay72, k0_pay73, k0_pay74, k0_pay75, k0_pay76, k0_pay77, k0_pay78,
    k0_pay79, k0_pay80, k0_pay81, k0_pay82, k0_pay83, k0_pay84, k0_pay85, k0_pay86, k0_pay87, k0_pay88, k0_pay89,
    k0_pay90, k0_pay91, k0_pay92, k0_pay93, k0_pay94, k0_pay95, k0_pay96, k0_pay97, k0_pay98, k0_pay99, k0_pay100,
    k0_pay101, k0_pay102, k0_pay103, k0_pay104, k0_pay105, k0_pay106, k0_pay107, k0_pay108, k0_pay109]
  simp only [stack_rows_f32, stack_rows_bf16, stack_decay]
  simp only [fold_dv, fold_up]
  refine View.canon_eq_of_allAt _ _ _ (by
    refine View.cover_of_tiledL _ ![1, 6, 128, 128] ?_ y
    sl_kernel_rfl) ?_
  iterate 8
    refine View.allAt_cons_unit _ _ _ _ _ ?_ ?_
    · refine ds_piece x0 x1 x2 x3 x4 x5 (k0_pay5 (F := Ideal)) _ _ ?_ ?_ y
      · decide
      · rfl
  exact View.allAt_nil _ _

/-- The block of values' gradients a grid point writes, at the first point. -/
theorem dv_A (hc0 : cond0_0 i) (y : S512x768.Idx) :
    out0_A_6 c i arg1 harg1 arg2 harg2 arg3 harg3 arg4 harg4 arg5 harg5 arg6 harg6 arg7 harg7 arg8 harg8 arg9 harg9 hc0 x0 x1 x2 x3 x4 x5 y
      = dvOf (64 * ((y 0 : ℕ) / 64)) (block_le y) (slab_inb _ (block_le y)) x0 x3 x4
        (after x0 x1 x2 x3 x4 x5 (k0_pay5 (F := Ideal)) (7 - (y 0 : ℕ) / 64))
        (ix3 (headOf (y 1)) (rowIn (y 0)) (laneOf (y 1))) := by
  frame_out
  simp only [k0_pay1, k0_pay2, k0_pay3, k0_pay4, k0_pay6, k0_pay7, k0_pay8, k0_pay9, k0_pay10, k0_pay11, k0_pay12,
    k0_pay13, k0_pay14, k0_pay15, k0_pay16, k0_pay17, k0_pay18, k0_pay19, k0_pay20, k0_pay21, k0_pay22, k0_pay23,
    k0_pay24, k0_pay25, k0_pay26, k0_pay27, k0_pay28, k0_pay29, k0_pay30, k0_pay31, k0_pay32, k0_pay33, k0_pay34,
    k0_pay35, k0_pay36, k0_pay37, k0_pay38, k0_pay39, k0_pay40, k0_pay41, k0_pay42, k0_pay43, k0_pay44, k0_pay45,
    k0_pay46, k0_pay47, k0_pay48, k0_pay49, k0_pay50, k0_pay51, k0_pay52, k0_pay53, k0_pay54, k0_pay55, k0_pay56,
    k0_pay57, k0_pay58, k0_pay59, k0_pay60, k0_pay61, k0_pay62, k0_pay63, k0_pay64, k0_pay65, k0_pay66, k0_pay67,
    k0_pay68, k0_pay69, k0_pay70, k0_pay71, k0_pay72, k0_pay73, k0_pay74, k0_pay75, k0_pay76, k0_pay77, k0_pay78,
    k0_pay79, k0_pay80, k0_pay81, k0_pay82, k0_pay83, k0_pay84, k0_pay85, k0_pay86, k0_pay87, k0_pay88, k0_pay89,
    k0_pay90, k0_pay91, k0_pay92, k0_pay93, k0_pay94, k0_pay95, k0_pay96, k0_pay97, k0_pay98, k0_pay99, k0_pay100,
    k0_pay101, k0_pay102, k0_pay103, k0_pay104, k0_pay105, k0_pay106, k0_pay107, k0_pay108, k0_pay109]
  simp only [stack_rows_f32, stack_rows_bf16, stack_decay]
  simp only [fold_dv, fold_up]
  refine View.canon_eq_of_allAt _ _ _ (by
    refine View.cover_of_tiledL _ ![64, 128] ?_ y
    sl_kernel_rfl) ?_
  iterate 48
    refine View.allAt_cons_unit _ _ _ _ _ ?_ ?_
    · refine dv_piece x0 x1 x2 x3 x4 x5 (k0_pay5 (F := Ideal)) _ _ _ _ ?_ _ ?_ ?_ ?_ y <;> first | decide | rfl
  exact View.allAt_nil _ _
end Cert.KernelIdeal.Scan
-- ==== Proof.Math.lean ====
module
public import Idealize.ShloMosaic.PureOps.Ideal
/-! The backward recurrence of the scan in plain formulas, over the extended reals: the gradient of the state goes from
the last chunk of 64 rows to the first. -/
@[expose] public section
noncomputable section
namespace Cert.ScanMath
open scoped BigOperators
open Idealize.ShloMosaic (Ideal)

/-- Row `c` of chunk `n`. -/
def row (n : Fin 128) (c : Fin 64) : Fin 8192 := ⟨64 * n.val + c.val, by omega⟩
/-- Lane `d` of head `h`. -/
def col (h : Fin 6) (d : Fin 128) : Fin 768 := ⟨128 * h.val + d.val, by omega⟩
/-- The column of head `h`'s decay. -/
def gcol (h : Fin 6) : Fin 128 := ⟨6 + h.val, by omega⟩

/-- A gradient of the state: one 128 by 128 matrix per head. -/
abbrev St := Fin 6 → Fin 128 → Fin 128 → EReal

variable (DO WK QD KD : Fin 8192 → Fin 768 → EReal) (P : Fin 6 → Fin 8192 → Fin 64 → EReal) (G : Fin 8192 → Fin 128 → EReal)

/-- The gradient of chunk `n`'s values from the gradient `D` of the state after it. -/
def dv (n : Fin 128) (D : St) (h : Fin 6) (c : Fin 64) (e : Fin 128) : EReal :=
  (∑ k : Fin 64, P h (row n k) c * DO (row n k) (col h e)) + ∑ k : Fin 128, KD (row n c) (col h k) * D h k e

/-- What the output's gradient and the decayed gradient of the state after chunk `n` give. -/
def part (n : Fin 128) (D : St) (h : Fin 6) (d e : Fin 128) : EReal :=
  (∑ k : Fin 64, QD (row n k) (col h d) * DO (row n k) (col h e)) + D h d e * Ideal.exp (G (row n 63) (gcol h))

/-- The gradient of the state before chunk `n`. -/
def up (n : Fin 128) (D : St) : St := fun h d e =>
  part DO QD G n D h d e - ∑ k : Fin 64, WK (row n k) (col h d) * dv DO KD P n D h k e

/-- The gradient of the state after `j` chunks, counted from the last. -/
def state : ℕ → St
  | 0 => fun _ _ _ => 0
  | j + 1 => up DO WK QD KD P G ⟨127 - j, by omega⟩ (state j)

/-- An extended real that is a real number. -/
def Fin' (x : EReal) : Prop := ∃ r : ℝ, x = (r : EReal)

/-- A product of real numbers is a real number. -/
theorem Fin'.mul {x y : EReal} (hx : Fin' x) (hy : Fin' y) : Fin' (x * y) := by
  obtain ⟨a, rfl⟩ := hx
  obtain ⟨b, rfl⟩ := hy
  exact ⟨a * b, (EReal.coe_mul a b).symm⟩

/-- A sum of real numbers is a real number. -/
theorem Fin'.add {x y : EReal} (hx : Fin' x) (hy : Fin' y) : Fin' (x + y) := by
  obtain ⟨a, rfl⟩ := hx
  obtain ⟨b, rfl⟩ := hy
  exact ⟨a + b, (EReal.coe_add a b).symm⟩

/-- The negative of a real number is a real number. -/
theorem Fin'.neg {x : EReal} (hx : Fin' x) : Fin' (-x) := by
  obtain ⟨a, rfl⟩ := hx
  exact ⟨-a, (EReal.coe_neg a).symm⟩

/-- The exponential of a real number is a real number. -/
theorem Fin'.exp {x : EReal} (hx : Fin' x) : Fin' (Ideal.exp x) := by
  obtain ⟨a, rfl⟩ := hx
  exact ⟨Real.exp a, rfl⟩

/-- A finite sum of reals, taken in the extended reals. -/
theorem coe_sum {n : ℕ} (g : Fin n → ℝ) : ((∑ k, g k : ℝ) : EReal) = ∑ k, (g k : EReal) := by
  classical
  have key : ∀ s : Finset (Fin n), ((∑ k ∈ s, g k : ℝ) : EReal) = ∑ k ∈ s, (g k : EReal) := by
    intro s
    induction s using Finset.induction_on with
    | empty => simp
    | insert a s ha ih => rw [Finset.sum_insert ha, Finset.sum_insert ha, EReal.coe_add, ih]
  exact key Finset.univ

/-- A finite sum of real numbers is a real number. -/
theorem Fin'.sum {n : ℕ} {f : Fin n → EReal} (hf : ∀ k, Fin' (f k)) : Fin' (∑ k, f k) := by
  choose g hg using hf
  refine ⟨∑ k, g k, ?_⟩
  rw [coe_sum]
  exact Finset.sum_congr rfl fun k _ => hg k

/-- The negative of a finite sum of real numbers is the sum of the negatives. -/
theorem neg_sum {n : ℕ} {f : Fin n → EReal} (hf : ∀ k, Fin' (f k)) : -(∑ k, f k) = ∑ k, -f k := by
  choose g hg using hf
  have h1 : ∑ k, f k = ((∑ k, g k : ℝ) : EReal) := by
    rw [coe_sum]
    exact Finset.sum_congr rfl fun k _ => hg k
  have h2 : ∑ k, -f k = ((∑ k, -g k : ℝ) : EReal) := by
    rw [coe_sum]
    exact Finset.sum_congr rfl fun k _ => by rw [hg k, EReal.coe_neg]
  rw [h1, h2, ← EReal.coe_neg, Finset.sum_neg_distrib]

/-- Every element of every argument is a real number. -/
structure AllFin : Prop where
  do_ : ∀ r c, Fin' (DO r c)
  wk : ∀ r c, Fin' (WK r c)
  qd : ∀ r c, Fin' (QD r c)
  kd : ∀ r c, Fin' (KD r c)
  p : ∀ h r c, Fin' (P h r c)
  g : ∀ r c, Fin' (G r c)

variable {DO WK QD KD P G}

/-- The gradient of the corrected values is finite when the state's gradient is. -/
theorem AllFin.dv (a : AllFin DO WK QD KD P G) {D : St} (hD : ∀ h d e, Fin' (D h d e)) (n h c e) :
    Fin' (dv DO KD P n D h c e) :=
  (Fin'.sum fun k => (a.p _ _ _).mul (a.do_ _ _)).add (Fin'.sum fun k => (a.kd _ _).mul (hD _ _ _))

/-- The first two terms of the next state's gradient are finite when the state's gradient is. -/
theorem AllFin.part (a : AllFin DO WK QD KD P G) {D : St} (hD : ∀ h d e, Fin' (D h d e)) (n h d e) :
    Fin' (part DO QD G n D h d e) :=
  (Fin'.sum fun k => (a.qd _ _).mul (a.do_ _ _)).add ((hD _ _ _).mul (a.g _ _).exp)

/-- Subtracting the product is adding the product with the negated gradient. -/
theorem AllFin.up_eq (a : AllFin DO WK QD KD P G) {D : St} (hD : ∀ h d e, Fin' (D h d e)) (n h d e) :
    up DO WK QD KD P G n D h d e
      = Cert.ScanMath.part DO QD G n D h d e + ∑ k : Fin 64, WK (row n k) (col h d) * -Cert.ScanMath.dv DO KD P n D h k e := by
  unfold up
  rw [sub_eq_add_neg, neg_sum fun k => (a.wk _ _).mul (a.dv hD _ _ _ _)]
  exact congrArg (_ + ·) (Finset.sum_congr rfl fun k _ => (mul_neg _ _).symm)

/-- The next state's gradient is finite when the state's gradient is. -/
theorem AllFin.up (a : AllFin DO WK QD KD P G) {D : St} (hD : ∀ h d e, Fin' (D h d e)) (n h d e) :
    Fin' (up DO WK QD KD P G n D h d e) := by
  rw [a.up_eq hD]
  exact (a.part hD _ _ _ _).add (Fin'.sum fun k => (a.wk _ _).mul (a.dv hD _ _ _ _).neg)

/-- With finite arguments every gradient of the state is finite. -/
theorem AllFin.state (a : AllFin DO WK QD KD P G) (j : ℕ) : ∀ h d e, Fin' (state DO WK QD KD P G j h d e) := by
  induction j with
  | zero => exact fun _ _ _ => ⟨0, rfl⟩
  | succ j ih => exact fun h d e => a.up ih _ h d e

end Cert.ScanMath
-- ==== Proof.KernelValue.lean ====
module
public import proofs.«01_k».proof.Proof.Point
public import proofs.«01_k».proof.Proof.Math
/-! The two arrays the backward scan of the kernel leaves, in the formulas of the recurrence. -/
@[expose] public section
set_option maxRecDepth 16384
noncomputable section
open Idealize.ShloMosaic Idealize.ShloMosaic.TcCoe Idealize.SL.Sem
open Idealize.ShloMosaic.Pipeline (Dat)
namespace Cert.KernelIdeal.Scan
open Cert.KernelIdeal Cert.KernelIdeal.Gen Cert.KernelIdeal.Chunk
open Cert.ScanMath (row col gcol)

variable (m : (ℓ : Loc nD τ sig) → Buf (Elt Ideal) ℓ)

/-- The output's gradient, the program's first argument. -/
def aDO (c : Dev nD) : Fin 8192 → Fin 768 → EReal := fun r l => m ((c : Thread nD τ).loc main_arg0) (ix2 r l)
/-- The weighted keys, the second argument. -/
def aWK (c : Dev nD) : Fin 8192 → Fin 768 → EReal := fun r l => m ((c : Thread nD τ).loc main_arg1) (ix2 r l)
/-- The queries, the third argument. -/
def aQD (c : Dev nD) : Fin 8192 → Fin 768 → EReal := fun r l => m ((c : Thread nD τ).loc main_arg2) (ix2 r l)
/-- The keys, the fourth argument. -/
def aKD (c : Dev nD) : Fin 8192 → Fin 768 → EReal := fun r l => m ((c : Thread nD τ).loc main_arg3) (ix2 r l)
/-- The chunks' mixing matrices, the fifth argument. -/
def aP (c : Dev nD) : Fin 6 → Fin 8192 → Fin 64 → EReal := fun h r l => m ((c : Thread nD τ).loc main_arg4) (ix3 h r l)
/-- The running decays, the sixth argument. -/
def aG (c : Dev nD) : Fin 8192 → Fin 128 → EReal := fun r l => m ((c : Thread nD τ).loc main_arg5) (ix2 r l)

/-- The chunk of the whole sequence that is chunk `ch` of grid point `t`'s block. -/
def chunkAt (t : Fin cfg0.N) (ch : ℕ) (h : ch < 8) : Fin 128 := ⟨8 * (15 - t.val) + ch, by omega⟩

/-- The blocks go from the last to the first. -/
theorem idx : ∀ t : Fin cfg0.N, win0_0.index t = ![15 - t.val, 0] ∧ win0_1.index t = ![15 - t.val, 0]
    ∧ win0_2.index t = ![15 - t.val, 0] ∧ win0_3.index t = ![15 - t.val, 0] ∧ win0_4.index t = ![0, 15 - t.val, 0]
    ∧ win0_5.index t = ![15 - t.val, 0] ∧ win0_6.index t = ![15 - t.val, 0] ∧ win0_7.index t = ![15 - t.val, 0, 0, 0] :=
  (by decide +kernel : ∀ t : Fin grid0.N, _)

/-- The rows of a chunk of block 0 are rows of the array. -/
theorem rows0 (c : Dev nD) (t : Fin cfg0.N) (ch : ℕ) (hc : ch < 8) (hr) (h : Fin 6) (k : Fin 64) (e : Fin 128) :
    rowsOf (iblk m c 0 t) (64 * ch) hr (ix3 h k e) = aDO m c (row (chunkAt t ch hc) k) (col h e) := by
  have ht : t.val < 16 := t.isLt
  unfold rowsOf aDO
  blk_point [iblk, V, idx t] <;> (simp only [row, chunkAt, col]; try omega)

/-- The rows of a chunk of block 1 are rows of the array. -/
theorem rows1 (c : Dev nD) (t : Fin cfg0.N) (ch : ℕ) (hc : ch < 8) (hr) (h : Fin 6) (k : Fin 64) (e : Fin 128) :
    rowsOf (iblk m c 1 t) (64 * ch) hr (ix3 h k e) = aWK m c (row (chunkAt t ch hc) k) (col h e) := by
  have ht : t.val < 16 := t.isLt
  unfold rowsOf aWK
  blk_point [iblk, V, idx t] <;> (simp only [row, chunkAt, col]; try omega)

/-- The rows of a chunk of block 2 are rows of the array. -/
theorem rows2 (c : Dev nD) (t : Fin cfg0.N) (ch : ℕ) (hc : ch < 8) (hr) (h : Fin 6) (k : Fin 64) (e : Fin 128) :
    rowsOf (iblk m c 2 t) (64 * ch) hr (ix3 h k e) = aQD m c (row (chunkAt t ch hc) k) (col h e) := by
  have ht : t.val < 16 := t.isLt
  unfold rowsOf aQD
  blk_point [iblk, V, idx t] <;> (simp only [row, chunkAt, col]; try omega)

/-- The rows of a chunk of block 3 are rows of the array. -/
theorem rows3 (c : Dev nD) (t : Fin cfg0.N) (ch : ℕ) (hc : ch < 8) (hr) (h : Fin 6) (k : Fin 64) (e : Fin 128) :
    rowsOf (iblk m c 3 t) (64 * ch) hr (ix3 h k e) = aKD m c (row (chunkAt t ch hc) k) (col h e) := by
  have ht : t.val < 16 := t.isLt
  unfold rowsOf aKD
  blk_point [iblk, V, idx t] <;> (simp only [row, chunkAt, col]; try omega)

/-- The mixing matrices of a chunk of the block are those of the array. -/
theorem slab4 (c : Dev nD) (t : Fin cfg0.N) (ch : ℕ) (hc : ch < 8) (hp) (h : Fin 6) (k e : Fin 64) :
    slabOf (iblk m c 4 t) (64 * ch) hp (ix3 h k e) = aP m c h (row (chunkAt t ch hc) k) e := by
  have ht : t.val < 16 := t.isLt
  unfold slabOf aP
  blk_point [iblk, V, idx t] <;> (simp only [row, chunkAt]; try omega)

/-- The decays of a chunk of the block are those of the array. -/
theorem decay5 (c : Dev nD) (t : Fin cfg0.N) (ch : ℕ) (hc : ch < 8) (hg) (h : Fin 6) :
    decayOf (iblk m c 5 t) (64 * ch + 63) hg (ix3 h 0 0) = aG m c (row (chunkAt t ch hc) 63) (gcol h) := by
  have ht : t.val < 16 := t.isLt
  unfold decayOf aG
  blk_point [iblk, V, idx t] <;> (simp only [row, chunkAt, gcol]; try omega)

/-- The recurrence on the program's arguments. -/
def st (c : Dev nD) (j : ℕ) : Cert.ScanMath.St := Cert.ScanMath.state (aDO m c) (aWK m c) (aQD m c) (aKD m c) (aP m c) (aG m c) j

/-- A chunk's values' gradient, in the recurrence's formula. -/
theorem dvOf_eq (c : Dev nD) (t : Fin cfg0.N) (ch : ℕ) (hc : ch < 8) (hr hp) (D : FVec Ideal S6x128x128 .f32) (D' : Cert.ScanMath.St)
    (hD : ∀ h d e, D (ix3 h d e) = D' h d e) (h : Fin 6) (k : Fin 64) (e : Fin 128) :
    dvOf (64 * ch) hr hp (iblk m c 0 t) (iblk m c 3 t) (iblk m c 4 t) D (ix3 h k e)
      = Cert.ScanMath.dv (aDO m c) (aKD m c) (aP m c) (chunkAt t ch hc) D' h k e := by
  rw [dvOf_apply]
  unfold Cert.ScanMath.dv
  refine congrArg₂ (· + ·) (Finset.sum_congr rfl fun j _ => ?_) (Finset.sum_congr rfl fun j _ => ?_)
  · rw [slab4 m c t ch hc, rows0 m c t ch hc]
  · rw [rows3 m c t ch hc, hD]

/-- A chunk's step of the state's gradient, in the recurrence's formula. -/
theorem upOf_eq (c : Dev nD) (t : Fin cfg0.N) (ch : ℕ) (hc : ch < 8) (hr hg hp) (D : FVec Ideal S6x128x128 .f32) (D' : Cert.ScanMath.St)
    (hD : ∀ h d e, D (ix3 h d e) = D' h d e) (h : Fin 6) (d e : Fin 128) :
    upOf (64 * ch) hr hg hp (iblk m c 0 t) (iblk m c 1 t) (iblk m c 2 t) (iblk m c 3 t) (iblk m c 4 t) (iblk m c 5 t) D (ix3 h d e)
      = Cert.ScanMath.up (aDO m c) (aWK m c) (aQD m c) (aKD m c) (aP m c) (aG m c) (chunkAt t ch hc) D' h d e := by
  rw [upOf_apply]
  unfold Cert.ScanMath.up Cert.ScanMath.part
  refine congrArg₂ (· - ·) (congrArg₂ (· + ·) (Finset.sum_congr rfl fun j _ => ?_) ?_) (Finset.sum_congr rfl fun j _ => ?_)
  · rw [rows2 m c t ch hc, rows0 m c t ch hc]
  · rw [decay5 m c t ch hc, hD]
  · rw [rows1 m c t ch hc, dvOf_eq m c t ch hc hr hp D D' hD]

/-- The state's gradient inside a grid point, after `k` of its chunks. -/
theorem after_eq (c : Dev nD) (t : Fin cfg0.N) (D : FVec Ideal S6x128x128 .f32)
    (hD : ∀ h d e, D (ix3 h d e) = st m c (8 * t.val) h d e) (k : ℕ) (hk : k ≤ 8) (h : Fin 6) (d e : Fin 128) :
    after (iblk m c 0 t) (iblk m c 1 t) (iblk m c 2 t) (iblk m c 3 t) (iblk m c 4 t) (iblk m c 5 t) D k (ix3 h d e)
      = st m c (8 * t.val + k) h d e := by
  have ht : t.val < 16 := t.isLt
  induction k generalizing h d e with
  | zero => exact hD h d e
  | succ k ih =>
    refine (upOf_eq m c t (7 - k) (by omega) _ _ _ _ (st m c (8 * t.val + k)) (fun h d e => ih (by omega) h d e) h d e).trans ?_
    have hn : chunkAt t (7 - k) (by omega) = ⟨127 - (8 * t.val + k), by omega⟩ :=
      Fin.ext (by show 8 * (15 - t.val) + (7 - k) = 127 - (8 * t.val + k); omega)
    rw [hn]
    rfl

/-- The carried state's gradient after grid point `t`. -/
theorem carried (c : Dev nD) (n : ℕ) : ∀ hn : n < cfg0.N, ∀ h d e, (outsAt0 m c n hn).2.2 (ix3 h d e) = st m c (8 * (n + 1)) h d e := by
  induction n with
  | zero =>
    intro hn h d e
    rw [outsAt0_A m c ⟨0, hn⟩ (by rfl)]
    dsimp only
    rw [scratch_A]
    exact after_eq m c ⟨0, hn⟩ _ (fun h d e => by pointwise [k0_pay5]; rfl) 8 le_rfl h d e
  | succ n ih =>
    intro hn h d e
    have h16 : n + 1 < 16 := hn
    rw [outsAt0_B m c ⟨n + 1, hn⟩ (by show ¬ (n + 1) % 16 = 0; omega)]
    dsimp only
    rw [scratch_B]
    exact after_eq m c ⟨n + 1, hn⟩ _ (fun h d e => ih _ h d e) 8 le_rfl h d e

/-- The block of states' gradients that grid point `t` writes. -/
theorem ds_block (c : Dev nD) (t : Fin cfg0.N) (y : S8x6x128x128.Idx) :
    (outsAt0 m c t.val t.isLt).2.1 y = st m c (8 * t.val + (7 - (y 0).val)) (y 1) (y 2) (y 3) := by
  by_cases h0 : t.val % 16 = 0
  · have ht : t.val < 16 := t.isLt
    have hz : t.val = 0 := by omega
    rw [outsAt0_A m c t h0]
    dsimp only
    rw [ds_A]
    refine (after_eq m c t _ (fun h d e => ?_) _ (by omega) _ _ _)
    rw [hz]
    pointwise [k0_pay5]
    rfl
  · rw [outsAt0_B m c t h0]
    dsimp only
    rw [ds_B]
    refine (after_eq m c t _ (fun h d e => ?_) _ (by omega) _ _ _)
    have hp : 8 * (t.val - 1 + 1) = 8 * t.val := by have : t.val ≠ 0 := fun h => h0 (by rw [h]); omega
    exact (carried m c (t.val - 1) _ h d e).trans (by rw [hp])

/-- The block of values' gradients that grid point `t` writes. -/
theorem dv_block (c : Dev nD) (t : Fin cfg0.N) (y : S512x768.Idx) :
    (outsAt0 m c t.val t.isLt).1 y = Cert.ScanMath.dv (aDO m c) (aKD m c) (aP m c)
      (chunkAt t ((y 0).val / 64) (by have h : (y 0).val < 512 := (y 0).isLt; omega))
      (st m c (8 * t.val + (7 - (y 0).val / 64))) (headOf (y 1)) (rowIn (y 0)) (laneOf (y 1)) := by
  by_cases h0 : t.val % 16 = 0
  · have ht : t.val < 16 := t.isLt
    have hz : t.val = 0 := by omega
    rw [outsAt0_A m c t h0]
    dsimp only
    rw [dv_A]
    refine (dvOf_eq m c t _ _ _ _ _ _ (fun h d e => after_eq m c t _ (fun h d e => ?_) _ (by omega) _ _ _) _ _ _)
    rw [hz]
    pointwise [k0_pay5]
    rfl
  · rw [outsAt0_B m c t h0]
    dsimp only
    rw [dv_B]
    refine (dvOf_eq m c t _ _ _ _ _ _ (fun h d e => after_eq m c t _ (fun h d e => ?_) _ (by omega) _ _ _) _ _ _)
    have hp : 8 * (t.val - 1 + 1) = 8 * t.val := by have : t.val ≠ 0 := fun h => h0 (by rw [h]); omega
    exact (carried m c (t.val - 1) _ h d e).trans (by rw [hp])

/-- Entries of the recurrence at equal places are equal. -/
theorem st_congr (c : Dev nD) {j j' : ℕ} {h h' : Fin 6} {d d' e e' : Fin 128} (hj : j = j') (hh : h = h') (hd : d = d') (he : e = e') :
    st m c j h d e = st m c j' h' d' e' := by
  subst hj hh hd he; rfl

/-- Entries of the values' gradient at equal places are equal. -/
theorem dv_congr (c : Dev nD) {n n' : Fin 128} {j j' : ℕ} {h h' : Fin 6} {k k' : Fin 64} {e e' : Fin 128}
    (hn : n = n') (hj : j = j') (hh : h = h') (hk : k = k') (he : e = e') :
    Cert.ScanMath.dv (aDO m c) (aKD m c) (aP m c) n (st m c j) h k e
      = Cert.ScanMath.dv (aDO m c) (aKD m c) (aP m c) n' (st m c j') h' k' e' := by
  subst hn hj hh hk he; rfl

/-- The whole array of states' gradients. -/
theorem ds_array (c : Dev nD) :
    (dats m 0 c).arrAt 7 (cfgs 0).N = fun i : S128x6x128x128.Idx => st m c (127 - (i 0).val) (i 1) (i 2) (i 3) := by
  refine Dat.arrAt_eq_of_covers (dats m 0 c) 7 _ (by decide +kernel) fun t _ y => ?_
  blk_simp
  rw [after0_7]
  refine (ds_block m c t _).trans ?_
  have ht : t.val < 16 := t.isLt
  have h0 : (y 0).val < 8 := (y 0).isLt
  refine st_congr m c ?_ (Fin.ext ?_) (Fin.ext ?_) (Fin.ext ?_) <;> blk_simp [idx t] <;> try omega

/-- The whole array of values' gradients. -/
theorem dv_array (c : Dev nD) :
    (dats m 0 c).arrAt 6 (cfgs 0).N = fun i : S8192x768.Idx =>
      Cert.ScanMath.dv (aDO m c) (aKD m c) (aP m c) ⟨(i 0).val / 64, by have h : (i 0).val < 8192 := (i 0).isLt; omega⟩
        (st m c (127 - (i 0).val / 64)) (headOf (i 1)) (rowIn (i 0)) (laneOf (i 1)) := by
  refine Dat.arrAt_eq_of_covers (dats m 0 c) 6 _ (by decide +kernel) fun t _ y => ?_
  blk_simp
  rw [after0_6]
  refine (dv_block m c t _).trans ?_
  have ht : t.val < 16 := t.isLt
  have h0 : (y 0).val < 512 := (y 0).isLt
  have h1 : (y 1).val < 768 := (y 1).isLt
  refine dv_congr m c (Fin.ext ?_) ?_ (Fin.ext ?_) (Fin.ext ?_) (Fin.ext ?_) <;> blk_simp [idx t, chunkAt, headOf, rowIn, laneOf] <;> try omega
  all_goals dsimp only; omega

end Cert.KernelIdeal.Scan
-- ==== Proof.RefValue.lean ====
module
public import proofs.«01_k».proof.Proof.Math
public import proofs.«01_k».proof.Proof.Gen.ReferenceIdeal.Run
public import Idealize.ShloMosaic.Lib.DynamicIndex
public import Idealize.ShloMosaic.Lib.Pointwise
/-! The two arrays the reference's loop leaves, in the formulas of the recurrence. -/
@[expose] public section
set_option maxRecDepth 16384
noncomputable section
open Idealize.ShloMosaic Idealize.ShloMosaic.TcCoe Idealize.SL.Sem Idealize.ShloMosaic.StableHlo
namespace Cert.ReferenceIdeal.Scan
open Cert.ReferenceIdeal Cert.ReferenceIdeal.Gen Cert.ReferenceIdeal.Value
open Cert.ScanMath (row col gcol)

/-- A slice of one entry along the first axis, the unit axis dropped, of an array of blocks. -/
theorem slice_wide (x : S128x6x64x128.Idx → EReal) (n : Fin 128) (st : Fin 4 → Int) (hst : ∀ a, st a = ((![n.val, 0, 0, 0] : Fin 4 → ℕ) a : Int))
    (hs) (hc) (h : Fin 6) (c : Fin 64) (e : Fin 128) :
    shapeCast S6x64x128 (Host.dynamicSlice S1x6x64x128 x st hs) hc (ix3 h c e) = x (ix4 n h c e) := by
  have hsl : S128x6x64x128.Slices ![n.val, 0, 0, 0] S1x6x64x128 := ⟨rfl, fun a => by fin_cases a <;> simp <;> omega⟩
  rw [Host.dynamicSlice_eq_extractStridedSlice S1x6x64x128 x st ![n.val, 0, 0, 0] hs hsl hst]
  rw [shapeCast_dropUnit_apply ![6, 64, 128]]
  pointwise
  rfl

/-- The same slice of the array of square mixing matrices. -/
theorem slice_square (x : S128x6x64x64.Idx → EReal) (n : Fin 128) (st : Fin 4 → Int) (hst : ∀ a, st a = ((![n.val, 0, 0, 0] : Fin 4 → ℕ) a : Int))
    (hs) (hc) (h : Fin 6) (c : Fin 64) (e : Fin 64) :
    shapeCast S6x64x64 (Host.dynamicSlice S1x6x64x64 x st hs) hc (ix3 h c e) = x (ix4 n h c e) := by
  have hsl : S128x6x64x64.Slices ![n.val, 0, 0, 0] S1x6x64x64 := ⟨rfl, fun a => by fin_cases a <;> simp <;> omega⟩
  rw [Host.dynamicSlice_eq_extractStridedSlice S1x6x64x64 x st ![n.val, 0, 0, 0] hs hsl hst]
  rw [shapeCast_dropUnit_apply ![6, 64, 64]]
  pointwise
  rfl

/-- The same slice of the array of decays. -/
theorem slice_decay (x : S128x6x1x1.Idx → EReal) (n : Fin 128) (st : Fin 4 → Int) (hst : ∀ a, st a = ((![n.val, 0, 0, 0] : Fin 4 → ℕ) a : Int))
    (hs) (hc) (h : Fin 6) :
    shapeCast S6x1x1 (Host.dynamicSlice S1x6x1x1 x st hs) hc (ix3 h 0 0) = x (ix4 n h 0 0) := by
  have hsl : S128x6x1x1.Slices ![n.val, 0, 0, 0] S1x6x1x1 := ⟨rfl, fun a => by fin_cases a <;> simp <;> omega⟩
  rw [Host.dynamicSlice_eq_extractStridedSlice S1x6x1x1 x st ![n.val, 0, 0, 0] hs hsl hst]
  rw [shapeCast_dropUnit_apply ![6, 1, 1]]
  pointwise
  rfl

/-- One entry of the array of values' gradients set. -/
theorem update_wide (x : S128x6x64x128.Idx → EReal) (u : S6x64x128.Idx → EReal) (n : Fin 128) (st : Fin 4 → Int)
    (hst : ∀ a, st a = ((![n.val, 0, 0, 0] : Fin 4 → ℕ) a : Int)) (hb) (hs) (n' : Fin 128) (h : Fin 6) (c : Fin 64) (e : Fin 128) :
    Host.dynamicUpdateSlice x (broadcastInDim S1x6x64x128 ![1, 2, 3] hb u) st hs (ix4 n' h c e)
      = if n' = n then u (ix3 h c e) else x (ix4 n' h c e) := by
  have hsl : S128x6x64x128.Slices ![n.val, 0, 0, 0] S1x6x64x128 := ⟨rfl, fun a => by fin_cases a <;> simp <;> omega⟩
  rw [Host.dynamicUpdateSlice_eq_updateSlice x _ st hs ![n.val, 0, 0, 0] (fun a => by rw [hst a]; fin_cases a <;> simp <;> omega) hsl]
  pointwise
  by_cases hq : n' = n
  · subst hq
    rw [if_pos rfl, dif_pos ⟨le_rfl, by omega⟩]
  · rw [if_neg hq, dif_neg (fun hh => hq (Fin.ext (by omega)))]

/-- One entry of the array of states' gradients set. -/
theorem update_state (x : S128x6x128x128.Idx → EReal) (u : S6x128x128.Idx → EReal) (n : Fin 128) (st : Fin 4 → Int)
    (hst : ∀ a, st a = ((![n.val, 0, 0, 0] : Fin 4 → ℕ) a : Int)) (hb) (hs) (n' : Fin 128) (h : Fin 6) (d e : Fin 128) :
    Host.dynamicUpdateSlice x (broadcastInDim S1x6x128x128 ![1, 2, 3] hb u) st hs (ix4 n' h d e)
      = if n' = n then u (ix3 h d e) else x (ix4 n' h d e) := by
  have hsl : S128x6x128x128.Slices ![n.val, 0, 0, 0] S1x6x128x128 := ⟨rfl, fun a => by fin_cases a <;> simp <;> omega⟩
  rw [Host.dynamicUpdateSlice_eq_updateSlice x _ st hs ![n.val, 0, 0, 0] (fun a => by rw [hst a]; fin_cases a <;> simp <;> omega) hsl]
  pointwise
  by_cases hq : n' = n
  · subst hq
    rw [if_pos rfl, dif_pos ⟨le_rfl, by omega⟩]
  · rw [if_neg hq, dif_neg (fun hh => hq (Fin.ext (by omega)))]

variable (DO WK QD KD : Fin 8192 → Fin 768 → EReal) (P : Fin 6 → Fin 8192 → Fin 64 → EReal) (G : Fin 8192 → Fin 128 → EReal)

/-- The buffers before trip `j`: the arguments cut in chunks, the recurrence's value, and its values at the chunks done. -/
structure Hold (V : Valuation τ sig (Elt Ideal)) (j : ℕ) : Prop where
  h0 : ∀ n h c e, (V (Proc.devRef .tc main_v26_0) : S128x6x64x128.Idx → EReal) (ix4 n h c e) = DO (row n c) (col h e)
  h1 : ∀ n h, (V (Proc.devRef .tc main_v26_1) : S128x6x1x1.Idx → EReal) (ix4 n h 0 0) = Ideal.exp (G (row n 63) (gcol h))
  h2 : ∀ n h c e, (V (Proc.devRef .tc main_v26_2) : S128x6x64x128.Idx → EReal) (ix4 n h c e) = KD (row n c) (col h e)
  h3 : ∀ n h c e, (V (Proc.devRef .tc main_v26_3) : S128x6x64x128.Idx → EReal) (ix4 n h c e) = WK (row n c) (col h e)
  h4 : ∀ n h c e, (V (Proc.devRef .tc main_v26_4) : S128x6x64x128.Idx → EReal) (ix4 n h c e) = QD (row n c) (col h e)
  h5 : ∀ n h c e, (V (Proc.devRef .tc main_v26_5) : S128x6x64x64.Idx → EReal) (ix4 n h c e) = P h (row n c) e
  h6 : (V (Proc.devRef .tc main_v26_6) : IVec S_ 32) = constantI S_ 32 (BitVec.ofNat 32 j)
  h7 : ∀ h d e, (V (Proc.devRef .tc main_v26_7) : S6x128x128.Idx → EReal) (ix3 h d e) = Cert.ScanMath.state DO WK QD KD P G j h d e
  h8 : ∀ n : Fin 128, 128 ≤ n.val + j → ∀ h c e, (V (Proc.devRef .tc main_v26_8) : S128x6x64x128.Idx → EReal) (ix4 n h c e)
    = Cert.ScanMath.dv DO KD P n (Cert.ScanMath.state DO WK QD KD P G (127 - n.val)) h c e
  h9 : ∀ n : Fin 128, 128 ≤ n.val + j → ∀ h d e, (V (Proc.devRef .tc main_v26_9) : S128x6x128x128.Idx → EReal) (ix4 n h d e)
    = Cert.ScanMath.state DO WK QD KD P G (127 - n.val) h d e

variable {DO WK QD KD P G} {V : Valuation τ sig (Elt Ideal)} {j : ℕ}

/-- The place trip `j` works at. -/
theorem start (H : Hold DO WK QD KD P G V j) (hj : j < 128) (a : Fin 4) :
    (((![res_main_while0b_v31 V, constantI S_ 32 0#32, constantI S_ 32 0#32, constantI S_ 32 0#32] : Fin 4 → (⟨S_, .i32⟩ : BufTy).Contents (Elt Ideal))) a (Shape.Idx.first h_S_)).toInt
      = ((![127 - j, 0, 0, 0] : Fin 4 → ℕ) a : Int) := by
  have e : ∀ i, (res_main_while0b_v31 V : IVec S_ 32) i = BitVec.ofNat 32 (127 - j) := by
    intro i
    unfold res_main_while0b_v31
    rw [H.h6]
    show (128#32 - BitVec.ofNat 32 j) - 1#32 = _
    apply BitVec.eq_of_toNat_eq
    simp
    omega
  fin_cases a
  · show ((res_main_while0b_v31 V : IVec S_ 32) _).toInt = ((127 - j : ℕ) : Int)
    rw [e]
    exact toInt_ofNat_of_lt (by omega)
  · rfl
  · rfl
  · rfl

/-- The loop's starts at one trip. -/
def starts (V : Valuation τ sig (Elt Ideal)) : Fin 4 → Int := fun k =>
  (((![res_main_while0b_v31 V, constantI S_ 32 0#32, constantI S_ 32 0#32, constantI S_ 32 0#32] : Fin 4 → (⟨S_, .i32⟩ : BufTy).Contents (Elt Ideal))) k (Shape.Idx.first h_S_)).toInt

/-- One trip's chunk of an array. -/
def chunk (x : FVec Ideal S128x6x64x128 .f32) (st : Fin 4 → Int) : FVec Ideal S6x64x128 .f32 :=
  shapeCast S6x64x128 (Host.dynamicSlice S1x6x64x128 x st sliceFits_S128x6x64x128_S1x6x64x128) shapeCasts_S1x6x64x128_S6x64x128
/-- One trip's mixing matrices. -/
def mix (x : FVec Ideal S128x6x64x64 .f32) (st : Fin 4 → Int) : FVec Ideal S6x64x64 .f32 :=
  shapeCast S6x64x64 (Host.dynamicSlice S1x6x64x64 x st sliceFits_S128x6x64x64_S1x6x64x64) shapeCasts_S1x6x64x64_S6x64x64
/-- One trip's decays. -/
def decay (x : FVec Ideal S128x6x1x1 .f32) (st : Fin 4 → Int) : FVec Ideal S6x1x1 .f32 :=
  shapeCast S6x1x1 (Host.dynamicSlice S1x6x1x1 x st sliceFits_S128x6x1x1_S1x6x1x1) shapeCasts_S1x6x1x1_S6x1x1

/-- The reference's gradient of a chunk's values. -/
def dvRef (D : FVec Ideal S6x128x128 .f32) (kd d : FVec Ideal S6x64x128 .f32) (p : FVec Ideal S6x64x64 .f32) : FVec Ideal S6x64x128 .f32 :=
  addf (transpose S6x64x128 [0, 2, 1] (Host.dotGeneral dot_S6x128x128_S6x64x128_S6x128x64_1_2_2_1_0_0 none D kd) transposes_S6x128x64_S6x64x128_0_2_1) (transpose S6x64x128 [0, 2, 1] (Host.dotGeneral dot_S6x64x128_S6x64x64_S6x128x64_1_1_2_2_0_0 none d p) transposes_S6x128x64_S6x64x128_0_2_1)

/-- The reference's gradient of the state before a chunk. -/
def upRef (D : FVec Ideal S6x128x128 .f32) (g : FVec Ideal S6x1x1 .f32) (d qd wk v : FVec Ideal S6x64x128 .f32) : FVec Ideal S6x128x128 .f32 :=
  addf (addf (mulf D (broadcastInDim S6x128x128 ![0, 1, 2] bcast_S6x1x1_S6x128x128_0_1_2 g))
    (transpose S6x128x128 [0, 2, 1] (Host.dotGeneral dot_S6x64x128_S6x64x128_S6x128x128_1_1_2_2_0_0 none d qd) transposes_S6x128x128_S6x128x128_0_2_1))
    (transpose S6x128x128 [0, 2, 1] (Host.dotGeneral dot_S6x64x128_S6x64x128_S6x128x128_1_1_2_2_0_0 none (Host.negf v) wk) transposes_S6x128x128_S6x128x128_0_2_1)

/-- The gradient of the corrected values, element by element. -/
theorem dvRef_apply (D : FVec Ideal S6x128x128 .f32) (kd d : FVec Ideal S6x64x128 .f32) (p : FVec Ideal S6x64x64 .f32) (h : Fin 6) (c : Fin 64) (e : Fin 128) :
    dvRef D kd d p (ix3 h c e) = (∑ k : Fin 64, p (ix3 h k c) * d (ix3 h k e)) + ∑ k : Fin 128, kd (ix3 h c k) * D (ix3 h k e) := by
  pointwise [dvRef]
  rw [add_comm]
  refine congrArg₂ (· + ·) (Finset.sum_congr rfl fun k _ => mul_comm _ _) (Finset.sum_congr rfl fun k _ => mul_comm _ _)

/-- The gradient of the state before a chunk, element by element. -/
theorem upRef_apply (D : FVec Ideal S6x128x128 .f32) (g : FVec Ideal S6x1x1 .f32) (d qd wk v : FVec Ideal S6x64x128 .f32) (h : Fin 6) (a e : Fin 128) :
    upRef D g d qd wk v (ix3 h a e) = ((∑ k : Fin 64, qd (ix3 h k a) * d (ix3 h k e)) + D (ix3 h a e) * g (ix3 h 0 0))
      + ∑ k : Fin 64, wk (ix3 h k a) * -v (ix3 h k e) := by
  pointwise [upRef]
  rw [add_comm (D _ * _)]
  refine congrArg₂ (· + ·) (congrArg (· + _) (Finset.sum_congr rfl fun k _ => mul_comm _ _)) (Finset.sum_congr rfl fun k _ => mul_comm _ _)

/-- The trip's gradient of the corrected values is that function of the buffers it reads. -/
theorem v44_eq (V : Valuation τ sig (Elt Ideal)) : res_main_while0b_v44 V
    = dvRef (V (Proc.devRef .tc main_v26_7)) (chunk (V (Proc.devRef .tc main_v26_2)) (starts V)) (chunk (V (Proc.devRef .tc main_v26_0)) (starts V))
        (mix (V (Proc.devRef .tc main_v26_5)) (starts V)) := rfl

/-- What the trip leaves in the state's buffer is that function of the buffers it reads. -/
theorem step7_eq (V : Valuation τ sig (Elt Ideal)) : step_main_v26_7 V
    = upRef (V (Proc.devRef .tc main_v26_7)) (decay (V (Proc.devRef .tc main_v26_1)) (starts V)) (chunk (V (Proc.devRef .tc main_v26_0)) (starts V))
        (chunk (V (Proc.devRef .tc main_v26_4)) (starts V)) (chunk (V (Proc.devRef .tc main_v26_3)) (starts V)) (res_main_while0b_v44 V) := rfl

/-- The gradient of the values that trip `j` computes. -/
theorem trip_dv (H : Hold DO WK QD KD P G V j) (hj : j < 128) (h : Fin 6) (c : Fin 64) (e : Fin 128) :
    (res_main_while0b_v44 V : S6x64x128.Idx → EReal) (ix3 h c e)
      = Cert.ScanMath.dv DO KD P ⟨127 - j, by omega⟩ (Cert.ScanMath.state DO WK QD KD P G j) h c e := by
  rw [v44_eq, dvRef_apply]
  unfold Cert.ScanMath.dv
  refine congrArg₂ (· + ·) (Finset.sum_congr rfl fun k _ => ?_) (Finset.sum_congr rfl fun k _ => ?_)
  · exact congrArg₂ (· * ·) ((slice_square _ ⟨127 - j, by omega⟩ _ (start H hj) _ _ _ _ _).trans (H.h5 _ _ _ _))
      ((slice_wide _ ⟨127 - j, by omega⟩ _ (start H hj) _ _ _ _ _).trans (H.h0 _ _ _ _))
  · exact congrArg₂ (· * ·) ((slice_wide _ ⟨127 - j, by omega⟩ _ (start H hj) _ _ _ _ _).trans (H.h2 _ _ _ _)) (H.h7 _ _ _)

/-- The gradient of the state that trip `j` computes. -/
theorem trip_state (A : Cert.ScanMath.AllFin DO WK QD KD P G) (H : Hold DO WK QD KD P G V j) (hj : j < 128) (h : Fin 6) (d e : Fin 128) :
    (step_main_v26_7 V : S6x128x128.Idx → EReal) (ix3 h d e) = Cert.ScanMath.state DO WK QD KD P G (j + 1) h d e := by
  rw [step7_eq, upRef_apply]
  show _ = Cert.ScanMath.up DO WK QD KD P G ⟨127 - j, by omega⟩ (Cert.ScanMath.state DO WK QD KD P G j) h d e
  rw [A.up_eq (A.state j)]
  unfold Cert.ScanMath.part
  refine congrArg₂ (· + ·) (congrArg₂ (· + ·) (Finset.sum_congr rfl fun k _ => ?_) ?_) (Finset.sum_congr rfl fun k _ => ?_)
  · exact congrArg₂ (· * ·) ((slice_wide _ ⟨127 - j, by omega⟩ _ (start H hj) _ _ _ _ _).trans (H.h4 _ _ _ _))
      ((slice_wide _ ⟨127 - j, by omega⟩ _ (start H hj) _ _ _ _ _).trans (H.h0 _ _ _ _))
  · exact congrArg₂ (· * ·) (H.h7 _ _ _) ((slice_decay _ ⟨127 - j, by omega⟩ _ (start H hj) _ _ _).trans (H.h1 _ _))
  · exact congrArg₂ (· * ·) ((slice_wide _ ⟨127 - j, by omega⟩ _ (start H hj) _ _ _ _ _).trans (H.h3 _ _ _ _))
      (congrArg (- ·) (trip_dv H hj _ _ _))

/-- One trip keeps the relation. -/
theorem hold_step (A : Cert.ScanMath.AllFin DO WK QD KD P G) (H : Hold DO WK QD KD P G V j) (hj : j < 128) :
    Hold DO WK QD KD P G (STEP V) (j + 1) where
  h0 := by rw [STEP_main_v26_0]; exact H.h0
  h1 := by rw [STEP_main_v26_1]; exact H.h1
  h2 := by rw [STEP_main_v26_2]; exact H.h2
  h3 := by rw [STEP_main_v26_3]; exact H.h3
  h4 := by rw [STEP_main_v26_4]; exact H.h4
  h5 := by rw [STEP_main_v26_5]; exact H.h5
  h6 := by
    rw [STEP_main_v26_6]
    unfold step_main_v26_6
    rw [H.h6]
    funext i
    exact (BitVec.ofNat_add j 1).symm
  h7 := by rw [STEP_main_v26_7]; exact trip_state A H hj
  h8 n hn h c e := by
    rw [STEP_main_v26_8]
    have key := update_wide (V (Proc.devRef .tc main_v26_8)) (res_main_while0b_v44 V) ⟨127 - j, by omega⟩ (starts V) (start H hj)
      bcast_S6x64x128_S1x6x64x128_1_2_3 updateFits_S128x6x64x128_S1x6x64x128 n h c e
    refine Eq.trans key ?_
    by_cases hq : n = ⟨127 - j, by omega⟩
    · rw [if_pos hq]
      have hv : 127 - n.val = j := by rw [hq]; show 127 - (127 - j) = j; omega
      rw [hv]
      refine (trip_dv H hj h c e).trans ?_
      rw [hq]
    · rw [if_neg hq]
      exact H.h8 n (by have : n.val ≠ 127 - j := fun h => hq (Fin.ext h); omega) h c e
  h9 n hn h d e := by
    rw [STEP_main_v26_9]
    have key := update_state (V (Proc.devRef .tc main_v26_9)) (V (Proc.devRef .tc main_v26_7)) ⟨127 - j, by omega⟩ (starts V) (start H hj)
      bcast_S6x128x128_S1x6x128x128_1_2_3 updateFits_S128x6x128x128_S1x6x128x128 n h d e
    refine Eq.trans key ?_
    by_cases hq : n = ⟨127 - j, by omega⟩
    · rw [if_pos hq]
      have hv : 127 - n.val = j := by rw [hq]; show 127 - (127 - j) = j; omega
      rw [hv]
      refine (H.h7 h d e).trans ?_
      rfl
    · rw [if_neg hq]
      exact H.h9 n (by have : n.val ≠ 127 - j := fun h => hq (Fin.ext h); omega) h d e

variable (m : (ℓ : Loc nD τ sig) → Buf (Elt Ideal) ℓ) (c : Dev nD)

/-- The output's gradient, the program's first argument. -/
def aDO : Fin 8192 → Fin 768 → EReal := fun r l => m ((c : Thread nD τ).loc main_arg0) (ix2 r l)
/-- The weighted keys, the second argument. -/
def aWK : Fin 8192 → Fin 768 → EReal := fun r l => m ((c : Thread nD τ).loc main_arg1) (ix2 r l)
/-- The queries, the third argument. -/
def aQD : Fin 8192 → Fin 768 → EReal := fun r l => m ((c : Thread nD τ).loc main_arg2) (ix2 r l)
/-- The keys, the fourth argument. -/
def aKD : Fin 8192 → Fin 768 → EReal := fun r l => m ((c : Thread nD τ).loc main_arg3) (ix2 r l)
/-- The chunks' mixing matrices, the fifth argument. -/
def aP : Fin 6 → Fin 8192 → Fin 64 → EReal := fun h r l => m ((c : Thread nD τ).loc main_arg4) (ix3 h r l)
/-- The running decays, the sixth argument. -/
def aG : Fin 8192 → Fin 128 → EReal := fun r l => m ((c : Thread nD τ).loc main_arg5) (ix2 r l)

/-- An array of rows cut in chunks and heads. -/
theorem cut_wide (x : FVec Ideal S8192x768 .f32) (n : Fin 128) (h : Fin 6) (k : Fin 64) (e : Fin 128) :
    transpose S128x6x64x128 [0, 2, 1, 3] (shapeCast S128x64x6x128 x shapeCasts_S8192x768_S128x64x6x128) transposes_S128x64x6x128_S128x6x64x128_0_2_1_3
      (ix4 n h k e) = x (ix2 (row n k) (col h e)) := by
  pointwise
  exact congrArg x (congrArg₂ ix2 (Fin.ext (by simp only [row]; omega)) (Fin.ext (by simp only [col]; omega)))

/-- The mixing matrices cut into chunks, element by element. -/
theorem cut_mix (x : FVec Ideal S6x8192x64 .f32) (n : Fin 128) (h : Fin 6) (k : Fin 64) (e : Fin 64) :
    transpose S128x6x64x64 [1, 0, 2, 3] (shapeCast S6x128x64x64 x shapeCasts_S6x8192x64_S6x128x64x64) transposes_S6x128x64x64_S128x6x64x64_1_0_2_3
      (ix4 n h k e) = x (ix3 h (row n k) e) := by
  pointwise
  exact congrArg x (congrArg (fun r => ix3 h r e) (Fin.ext (by simp only [row]; omega)))

/-- The decay of a whole chunk, for each chunk and head. -/
theorem cut_decay (x : FVec Ideal S8192x128 .f32) (n : Fin 128) (h : Fin 6) :
    (broadcastInDim S128x6x1x1 ![0, 1] bcast_S128x6_S128x6x1x1_0_1 (Host.exp (shapeCast S128x6 (extractStridedSlice S128x1x6 ![0, 63, 0]
      (shapeCast S128x64x6 (extractStridedSlice S8192x6 ![0, 6] x slices_S8192x128_S8192x6_0_6) shapeCasts_S8192x6_S128x64x6)
      slices_S128x64x6_S128x1x6_0_63_0) shapeCasts_S128x1x6_S128x6)) : FVec Ideal S128x6x1x1 .f32) (ix4 n h 0 0) = Ideal.exp (x (ix2 (row n 63) (gcol h))) := by
  pointwise
  exact congrArg (fun i => Ideal.exp (x i)) (congrArg (fun r => ix2 r (gcol h)) (Fin.ext (by simp only [row]; show n.val * 64 + 63 = 64 * n.val + 63; omega)))

set_option maxRecDepth 65536 in
/-- What stands in the buffers before the loop. -/
theorem hold_entry : Hold (aDO m c) (aWK m c) (aQD m c) (aKD m c) (aP m c) (aG m c) (entryContents preI m c) 0 := by
  constructor
  · intro n h k e
    have E : entryContents preI m c (Proc.devRef .tc main_v26_0) = transpose S128x6x64x128 [0, 2, 1, 3] (shapeCast S128x64x6x128 (m ((c : Thread nD τ).loc main_arg0) : FVec Ideal S8192x768 .f32) shapeCasts_S8192x768_S128x64x6x128) transposes_S128x64x6x128_S128x6x64x128_0_2_1_3 := by
      (simp only [entryContents, afterL_cons, afterL_nil]; after_reads_simp); rfl
    rw [E]
    exact cut_wide _ n h k e
  · intro n h
    have E : entryContents preI m c (Proc.devRef .tc main_v26_1) = (broadcastInDim S128x6x1x1 ![0, 1] bcast_S128x6_S128x6x1x1_0_1 (Host.exp (shapeCast S128x6 (extractStridedSlice S128x1x6 ![0, 63, 0]
      (shapeCast S128x64x6 (extractStridedSlice S8192x6 ![0, 6] (m ((c : Thread nD τ).loc main_arg5) : FVec Ideal S8192x128 .f32) slices_S8192x128_S8192x6_0_6) shapeCasts_S8192x6_S128x64x6)
      slices_S128x64x6_S128x1x6_0_63_0) shapeCasts_S128x1x6_S128x6)) : FVec Ideal S128x6x1x1 .f32) := by
      (simp only [entryContents, afterL_cons, afterL_nil]; after_reads_simp); rfl
    rw [E]
    exact cut_decay _ n h
  · intro n h k e
    have E : entryContents preI m c (Proc.devRef .tc main_v26_2) = transpose S128x6x64x128 [0, 2, 1, 3] (shapeCast S128x64x6x128 (m ((c : Thread nD τ).loc main_arg3) : FVec Ideal S8192x768 .f32) shapeCasts_S8192x768_S128x64x6x128) transposes_S128x64x6x128_S128x6x64x128_0_2_1_3 := by
      (simp only [entryContents, afterL_cons, afterL_nil]; after_reads_simp); rfl
    rw [E]
    exact cut_wide _ n h k e
  · intro n h k e
    have E : entryContents preI m c (Proc.devRef .tc main_v26_3) = transpose S128x6x64x128 [0, 2, 1, 3] (shapeCast S128x64x6x128 (m ((c : Thread nD τ).loc main_arg1) : FVec Ideal S8192x768 .f32) shapeCasts_S8192x768_S128x64x6x128) transposes_S128x64x6x128_S128x6x64x128_0_2_1_3 := by
      (simp only [entryContents, afterL_cons, afterL_nil]; after_reads_simp); rfl
    rw [E]
    exact cut_wide _ n h k e
  · intro n h k e
    have E : entryContents preI m c (Proc.devRef .tc main_v26_4) = transpose S128x6x64x128 [0, 2, 1, 3] (shapeCast S128x64x6x128 (m ((c : Thread nD τ).loc main_arg2) : FVec Ideal S8192x768 .f32) shapeCasts_S8192x768_S128x64x6x128) transposes_S128x64x6x128_S128x6x64x128_0_2_1_3 := by
      (simp only [entryContents, afterL_cons, afterL_nil]; after_reads_simp); rfl
    rw [E]
    exact cut_wide _ n h k e
  · intro n h k e
    have E : entryContents preI m c (Proc.devRef .tc main_v26_5) = transpose S128x6x64x64 [1, 0, 2, 3] (shapeCast S6x128x64x64 (m ((c : Thread nD τ).loc main_arg4) : FVec Ideal S6x8192x64 .f32) shapeCasts_S6x8192x64_S6x128x64x64) transposes_S6x128x64x64_S128x6x64x64_1_0_2_3 := by
      (simp only [entryContents, afterL_cons, afterL_nil]; after_reads_simp); rfl
    rw [E]
    exact cut_mix _ n h k e
  · (simp only [entryContents, afterL_cons, afterL_nil]; after_reads_simp); rfl
  · intro h d e
    have E : entryContents preI m c (Proc.devRef .tc main_v26_7) = broadcastInDim S6x128x128 ![] bcast_S_S6x128x128 (constant (F := Ideal) S_ .f32 0x00000000#32) := by
      (simp only [entryContents, afterL_cons, afterL_nil]; after_reads_simp); rfl
    rw [E]
    pointwise
    rfl
  · exact fun n hn => absurd n.isLt (by omega)
  · exact fun n hn => absurd n.isLt (by omega)

/-- What stands in the buffers before any trip. -/
theorem hold_iter (A : Cert.ScanMath.AllFin (aDO m c) (aWK m c) (aQD m c) (aKD m c) (aP m c) (aG m c)) (j : ℕ) (hj : j ≤ 128) :
    Hold (aDO m c) (aWK m c) (aQD m c) (aKD m c) (aP m c) (aG m c) (STEP^[j] (entryContents preI m c)) j := by
  induction j with
  | zero => exact hold_entry m c
  | succ j ih =>
    rw [Function.iterate_succ_apply']
    exact hold_step A (ih (by omega)) (by omega)

/-- The recurrence on the program's arguments. -/
def st (j : ℕ) : Cert.ScanMath.St := Cert.ScanMath.state (aDO m c) (aWK m c) (aQD m c) (aKD m c) (aP m c) (aG m c) j

/-- The reference's states' gradients. -/
theorem ds_result (A : Cert.ScanMath.AllFin (aDO m c) (aWK m c) (aQD m c) (aKD m c) (aP m c) (aG m c)) (i : S128x6x128x128.Idx) :
    (STEP^[128] (entryContents preI m c)) (Proc.devRef .tc main_v26_9) i = st m c (127 - (i 0).val) (i 1) (i 2) (i 3) := by
  conv_lhs => rw [show i = ix4 (i 0) (i 1) (i 2) (i 3) from by funext a; fin_cases a <;> rfl]
  exact (hold_iter m c A 128 le_rfl).h9 (i 0) (by omega) _ _ _

/-- The rows of a chunked array put back, in the narrow type. -/
theorem join_wide (x : FVec Ideal S128x6x64x128 .f32) (r : Fin 8192) (l : Fin 768) :
    (truncf .bf16 (shapeCast S8192x768 (transpose S128x64x6x128 [0, 2, 1, 3] x transposes_S128x6x64x128_S128x64x6x128_0_2_1_3) shapeCasts_S128x64x6x128_S8192x768) bitsLt_bf16_f32
      : FVec Ideal S8192x768 .bf16) (ix2 r l) = x (ix4 ⟨r.val / 64, by omega⟩ ⟨l.val / 128, by omega⟩ ⟨r.val % 64, by omega⟩ ⟨l.val % 128, by omega⟩) := by
  pointwise

/-- The reference's values' gradients. -/
theorem dv_result (A : Cert.ScanMath.AllFin (aDO m c) (aWK m c) (aQD m c) (aKD m c) (aP m c) (aG m c)) (i : S8192x768.Idx) :
    (out_main_v29 (STEP^[128] (entryContents preI m c)) : FVec Ideal S8192x768 .bf16) i
      = Cert.ScanMath.dv (aDO m c) (aKD m c) (aP m c) ⟨(i 0).val / 64, by have h : (i 0).val < 8192 := (i 0).isLt; omega⟩
        (st m c (127 - (i 0).val / 64)) ⟨(i 1).val / 128, by have h : (i 1).val < 768 := (i 1).isLt; omega⟩
        ⟨(i 0).val % 64, by omega⟩ ⟨(i 1).val % 128, by omega⟩ := by
  conv_lhs => rw [show i = ix2 (i 0) (i 1) from by funext a; fin_cases a <;> rfl]
  unfold out_main_v29
  refine (join_wide _ _ _).trans ?_
  exact (hold_iter m c A 128 le_rfl).h8 _ (by omega) _ _ _

end Cert.ReferenceIdeal.Scan
-- ==== Proof.Finite.lean ====
module
public import proofs.«01_k».proof.Pre_finite
public import proofs.«01_k».proof.Proof.Math
public import Idealize.ShloMosaic.Lib.Pointwise
/-! The precondition read at each argument: every element is a real number. -/
@[expose] public section
set_option maxRecDepth 16384
noncomputable section
open Idealize.ShloMosaic
namespace Cert.Pre_finite.Read
open Cert.Pre_finite Cert.ScanMath

/-- The side conditions of the precondition's operations. -/
theorem facts : Cert.Pre_finite.Facts where
  transposes_S6x8192x64_S8192x6x64_1_0_2 := by decide
  shapeCasts_S8192x6x64_S8192x384 := by decide
  bitsLt_bf16_f32 := by decide
  concatenates_S8192x768_S8192x768_S8192x768_S8192x768_S8192x384_S8192x128_S8192x3584_d1 := by decide
  bcast_S_S8192x3584 := by decide

/-- An extended real whose absolute value is below the top is a real number. -/
theorem fin_of_abs {x : EReal} (h : max x (-x) < ⊤) : Fin' x := by
  refine ⟨x.toReal, (EReal.coe_toReal ?_ ?_).symm⟩
  · rintro rfl; simp at h
  · rintro rfl; simp at h

variable [Cert.Pre_finite.Facts]

/-- What the precondition says of one element. -/
theorem fin_of_cmp {x : EReal} (h : BitVec.ofBool (decide (FloatOps.absf (F := Ideal) (φ := .f32) x < Ideal.ofBits FTy.f32 2139095040#32)) = 1#1) : Fin' x := by
  have ht : Ideal.ofBits FTy.f32 2139095040#32 = (⊤ : EReal) := by first | rfl | decide | simp [Ideal.ofBits]
  rw [ht] at h
  refine fin_of_abs ?_
  by_contra hn
  have hd : decide (FloatOps.absf (F := Ideal) (φ := .f32) x < (⊤ : EReal)) = false := decide_eq_false hn
  rw [hd] at h
  exact absurd h (by decide)

variable {x0 : FVec Ideal S8192x768 .f32} {x1 x2 x3 : FVec Ideal S8192x768 .bf16} {x4 : FVec Ideal S6x8192x64 .bf16} {x5 : FVec Ideal S8192x128 .f32}

/-- Every element of argument 0 is real. -/
theorem fin0 (h : Cert.Pre_finite.fn (F := Ideal) x0 x1 x2 x3 x4 x5 = fun _ => 1#1) (r : Fin 8192) (l : Fin 768) : Fin' (x0 (ix2 r l)) := by
  have h := congrFun h (ix2 r ⟨0 + l.val, by omega⟩)
  pointwise [Cert.Pre_finite.fn] at h
  exact fin_of_cmp h

/-- Every element of argument 1 is real. -/
theorem fin1 (h : Cert.Pre_finite.fn (F := Ideal) x0 x1 x2 x3 x4 x5 = fun _ => 1#1) (r : Fin 8192) (l : Fin 768) : Fin' (x1 (ix2 r l)) := by
  have h := congrFun h (ix2 r ⟨768 + l.val, by omega⟩)
  pointwise [Cert.Pre_finite.fn] at h
  exact fin_of_cmp h

/-- Every element of argument 2 is real. -/
theorem fin2 (h : Cert.Pre_finite.fn (F := Ideal) x0 x1 x2 x3 x4 x5 = fun _ => 1#1) (r : Fin 8192) (l : Fin 768) : Fin' (x2 (ix2 r l)) := by
  have h := congrFun h (ix2 r ⟨1536 + l.val, by omega⟩)
  pointwise [Cert.Pre_finite.fn] at h
  rw [dif_neg (by omega), dif_neg (by omega), dif_pos (by omega)] at h
  refine fin_of_cmp (Eq.trans (congrArg (fun i => BitVec.ofBool (decide (FloatOps.absf (F := Ideal) (φ := .f32) (x2 i) < Ideal.ofBits FTy.f32 2139095040#32))) ?_) h)
  exact congrArg (ix2 r) (Fin.ext (by dsimp only; omega))

/-- Every element of argument 3 is real. -/
theorem fin3 (h : Cert.Pre_finite.fn (F := Ideal) x0 x1 x2 x3 x4 x5 = fun _ => 1#1) (r : Fin 8192) (l : Fin 768) : Fin' (x3 (ix2 r l)) := by
  have h := congrFun h (ix2 r ⟨2304 + l.val, by omega⟩)
  pointwise [Cert.Pre_finite.fn] at h
  rw [dif_neg (by omega), dif_neg (by omega), dif_neg (by omega), dif_pos (by omega)] at h
  refine fin_of_cmp (Eq.trans (congrArg (fun i => BitVec.ofBool (decide (FloatOps.absf (F := Ideal) (φ := .f32) (x3 i) < Ideal.ofBits FTy.f32 2139095040#32))) ?_) h)
  exact congrArg (ix2 r) (Fin.ext (by dsimp only; omega))

/-- Every element of argument 4 is real. -/
theorem fin4 (h : Cert.Pre_finite.fn (F := Ideal) x0 x1 x2 x3 x4 x5 = fun _ => 1#1) (k : Fin 6) (r : Fin 8192) (l : Fin 64) : Fin' (x4 (ix3 k r l)) := by
  have h := congrFun h (ix2 r ⟨3072 + (64 * k.val + l.val), by omega⟩)
  pointwise [Cert.Pre_finite.fn] at h
  rw [dif_neg (by omega), dif_neg (by omega), dif_neg (by omega), dif_neg (by omega), dif_pos (by omega)] at h
  refine fin_of_cmp (Eq.trans (congrArg (fun i => BitVec.ofBool (decide (FloatOps.absf (F := Ideal) (φ := .f32) (x4 i) < Ideal.ofBits FTy.f32 2139095040#32))) ?_) h)
  exact congrArg₂ (fun a b => ix3 a r b) (Fin.ext (by dsimp only; omega)) (Fin.ext (by dsimp only; omega))

/-- Every element of argument 5 is real. -/
theorem fin5 (h : Cert.Pre_finite.fn (F := Ideal) x0 x1 x2 x3 x4 x5 = fun _ => 1#1) (r : Fin 8192) (l : Fin 128) : Fin' (x5 (ix2 r l)) := by
  have h := congrFun h (ix2 r ⟨3456 + l.val, by omega⟩)
  pointwise [Cert.Pre_finite.fn] at h
  rw [dif_neg (by omega), dif_neg (by omega), dif_neg (by omega), dif_neg (by omega), dif_neg (by omega)] at h
  refine fin_of_cmp (Eq.trans (congrArg (fun i => BitVec.ofBool (decide (FloatOps.absf (F := Ideal) (φ := .f32) (x5 i) < Ideal.ofBits FTy.f32 2139095040#32))) ?_) h)
  exact congrArg (ix2 r) (Fin.ext (by dsimp only; omega))

end Cert.Pre_finite.Read
-- ==== Proof.InDx.lean ====
module
public import proofs.«01_k».proof.Proof.Gen.Kernel2Ideal.Frame
public import Idealize.ShloMosaic.Lib.Pipeline.ValueKit
/-! The gradient of the input projection's input, as the kernel leaves it: rows of the gradient against rows of the weights. -/
@[expose] public section
noncomputable section
open Idealize.ShloMosaic Idealize.ShloMosaic.TcCoe Idealize.SL.Sem
open Idealize.ShloMosaic.Pipeline (Dat)
namespace Cert.Kernel2Ideal.Product
open Cert.Kernel2Ideal Cert.Kernel2Ideal.Gen

variable (m : (ℓ : Loc nD τ sig) → Buf (Elt Ideal) ℓ)

/-- The product over one block of the contracted columns. -/
theorem first (x0 x1 : Vec Ideal S1024x4096 .bf16) (j : S1024x1024.Idx) :
    k0_pay2 x0 x1 j = 0 + ∑ k : Fin 4096, x0 (ix2 (j 0) k) * x1 (ix2 (j 1) k) := by
  pointwise [k0_pay2, k0_pay1]

/-- The product over a block of the contracted columns, added to what stands. -/
theorem next (x0 x1 : Vec Ideal S1024x4096 .bf16) (a : Vec Ideal S1024x1024 .f32) (j : S1024x1024.Idx) :
    k0_pay3 x0 x1 a j = a j + ∑ k : Fin 4096, x0 (ix2 (j 0) k) * x1 (ix2 (j 1) k) := by
  pointwise [k0_pay3, k0_pay1]

/-- Which block each window takes at a point. -/
theorem idx : ∀ t : Fin cfg0.N, win0_0.index t = ![t.val / 4, t.val % 2] ∧ win0_1.index t = ![t.val / 2 % 2, t.val % 2]
    ∧ win0_2.index t = ![t.val / 4, t.val / 2 % 2] :=
  (by decide +kernel : ∀ t : Fin grid0.N, _)

/-- At a run's last point the block written is the sum carried. -/
theorem last_eq (c : Dev nD) (t : Fin cfg0.N) (h : t.val % 2 = 1) :
    (outsAt0 m c t.val t.isLt).1 = (outsAt0 m c t.val t.isLt).2 := by
  rw [outsAt0_B m c t (by omega) h h]
  dsimp only
  frame_out

/-- The whole array: every row of the gradient against every row of the weights. -/
theorem array (c : Dev nD) : (dats m 0 c).arrAt 2 cfg0.N = fun i : S8192x2048.Idx =>
    ∑ k : Fin 8192, (show FVec Ideal S8192x8192 .bf16 from m ((c : Thread nD τ).loc main_arg0)) (ix2 (i 0) k)
      * (show FVec Ideal S2048x8192 .bf16 from m ((c : Thread nD τ).loc main_arg1)) (ix2 (i 1) k) := by
  refine (dats m 0 c).arrAt_eq_of_covers 2 _ (by decide +kernel) fun t hf y => ?_
  have h2 : t.val % 2 = 2 - 1 := (flush0_2 t).mp hf
  blk_simp
  rw [after0_2, last_eq m c t h2, Pipeline.eq_sum_fin_of_reset_step_apply_of_flush (fun n h => (outsAt0 m c n h).2) 2 (fun _ => 0)
    (fun t j => ∑ k : Fin 4096, (show FVec Ideal S1024x4096 .bf16 from iblk m c 0 t) (ix2 (j 0) k) * (show FVec Ideal S1024x4096 .bf16 from iblk m c 1 t) (ix2 (j 1) k))
    (fun t h j => by rw [outsAt0_A m c t h (by omega) (by omega)]; dsimp only; frame_out; rw [first])
    (fun t h j => by rw [outsAt0_B m c t h (by omega) (by omega)]; dsimp only; frame_out; rw [next]; exact congrArg (· + _) (congrFun ((Memref.isWhole_whole cc0_scratch0).read_unread _) j))
    t h2 _, zero_add]
  refine Fin.sum_mul_add_congr fun s k hl => ?_
  blk_point [iblk, V, idx t, idx ⟨_, Pipeline.run_point_lt_of_flush t h2 s⟩]

end Cert.Kernel2Ideal.Product
-- ==== Proof.InDw.lean ====
module
public import proofs.«01_k».proof.Proof.Gen.Kernel3Ideal.Frame
public import Idealize.ShloMosaic.Lib.Pipeline.ValueKit
/-! The gradient of the input projection's weights, as the kernel leaves it in the layers' stack. -/
@[expose] public section
noncomputable section
open Idealize.ShloMosaic Idealize.ShloMosaic.TcCoe Idealize.SL.Sem
open Idealize.ShloMosaic.Pipeline (Dat)
namespace Cert.Kernel3Ideal.Product
open Cert.Kernel3Ideal Cert.Kernel3Ideal.Gen

variable (m : (ℓ : Loc nD τ sig) → Buf (Elt Ideal) ℓ)

/-- The product over one block of the contracted rows. -/
theorem first (x0 : Vec Ideal S4096x1024 .bf16) (x1 : Vec Ideal S4096x1024 .bf16) (j : S1024x1024.Idx) :
    k0_pay2 x0 x1 j = 0 + ∑ k : Fin 4096, x0 (ix2 k (j 0)) * x1 (ix2 k (j 1)) := by
  pointwise [k0_pay2, k0_pay1]

/-- The product over a block of the contracted rows, added to what stands. -/
theorem next (x0 : Vec Ideal S4096x1024 .bf16) (x1 : Vec Ideal S4096x1024 .bf16) (a : Vec Ideal S1024x1024 .f32) (j : S1024x1024.Idx) :
    k0_pay3 x0 x1 a j = a j + ∑ k : Fin 4096, x0 (ix2 k (j 0)) * x1 (ix2 k (j 1)) := by
  pointwise [k0_pay3, k0_pay1]

/-- Which block each window takes at a point. -/
theorem idx : ∀ t : Fin cfg0.N, win0_0.index t = ![t.val % 2, t.val / 16] ∧ win0_1.index t = ![t.val % 2, t.val / 2 % 8] ∧ win0_2.index t = ![0, t.val / 16, t.val / 2 % 8] :=
  (by decide +kernel : ∀ t : Fin grid0.N, _)

/-- At a run's last point the block written is the sum carried. -/
theorem last_eq (c : Dev nD) (t : Fin cfg0.N) (h : t.val % 2 = 1) (y : S1x1024x1024.Idx) :
    (outsAt0 m c t.val t.isLt).1 y = (outsAt0 m c t.val t.isLt).2 (ix2 (y 1) (y 2)) := by
  rw [outsAt0_B m c t (by omega) h h]
  dsimp only
  frame_out
  pointwise [k0_pay4]

/-- The product of the gradient: a column of the input against a column of the output's gradient. -/
def slab (A : FVec Ideal S8192x2048 .bf16) (B : FVec Ideal S8192x8192 .bf16) (p : Fin 2048) (q : Fin 8192) : EReal :=
  ∑ k : Fin 8192, A (ix2 k p) * B (ix2 k q)

/-- The result's buffer holds the third argument before the grid runs. -/
theorem entry_eq (c : Dev nD) : V m c main_v0 = m ((c : Thread nD τ).loc main_arg2) := by
  unfold V
  after_results
  try rfl

/-- A written block holds the product at its place. -/
theorem point (c : Dev nD) (t : Fin cfg0.N) (h2 : t.val % 2 = 1) (y : S1x1024x1024.Idx) (p : Fin 2048) (q : Fin 8192)
    (hp : p.val = t.val / 16 * 1024 + (y 1).val) (hq : q.val = t.val / 2 % 8 * 1024 + (y 2).val) :
    (outsAt0 m c t.val t.isLt).1 y = slab (m ((c : Thread nD τ).loc main_arg0)) (m ((c : Thread nD τ).loc main_arg1)) p q := by
  rw [last_eq m c t h2, Pipeline.eq_sum_fin_of_reset_step_apply_of_flush (fun n h => (outsAt0 m c n h).2) 2 (fun _ => 0)
    (fun t j => ∑ k : Fin 4096, (show FVec Ideal S4096x1024 .bf16 from iblk m c 0 t) (ix2 k (j 0)) * (show FVec Ideal S4096x1024 .bf16 from iblk m c 1 t) (ix2 k (j 1)))
    (fun t h j => by rw [outsAt0_A m c t h (by omega) (by omega)]; dsimp only; frame_out; rw [first])
    (fun t h j => by rw [outsAt0_B m c t h (by omega) (by omega)]; dsimp only; frame_out; rw [next]; exact congrArg (· + _) (congrFun ((Memref.isWhole_whole cc0_scratch0).read_unread _) j))
    t h2 _, zero_add]
  unfold slab
  refine Fin.sum_mul_add_congr fun s k hl => ?_
  blk_point [iblk, V, idx t, idx ⟨_, Pipeline.run_point_lt_of_flush t h2 s⟩]

/-- The whole array: the product in the first slab, the other slabs as they were. -/
theorem array (c : Dev nD) : (dats m 0 c).arrAt 2 (cfgs 0).N = fun i =>
    if (i 0 : ℕ) = 0 then slab (m ((c : Thread nD τ).loc main_arg0)) (m ((c : Thread nD τ).loc main_arg1)) (i 1) (i 2) else V m c main_v0 i := by
  refine (dats m 0 c).arrAt_eq_of_coversWhere 2 _ (fun β => β 0 = 0) (by decide +kernel) (fun t hf y => ?_)
    (fun j => by blk_simp [Pipeline.Window.cell_apply]; try omega)
  blk_simp
  rw [after0_2]
  refine point m c t ((flush0_2 t).mp hf) y _ _ ?_ ?_ <;> (blk_simp [idx t] <;> try omega)

end Cert.Kernel3Ideal.Product
-- ==== Proof.OutDy.lean ====
module
public import proofs.«01_k».proof.Proof.Gen.Kernel4Ideal.Frame
public import Idealize.ShloMosaic.Lib.Pipeline.ValueKit
/-! The gradient of the output projection's input, as the kernel leaves it. -/
@[expose] public section
noncomputable section
open Idealize.ShloMosaic Idealize.ShloMosaic.TcCoe Idealize.SL.Sem
open Idealize.ShloMosaic.Pipeline (Dat)
namespace Cert.Kernel4Ideal.Product
open Cert.Kernel4Ideal Cert.Kernel4Ideal.Gen

variable (m : (ℓ : Loc nD τ sig) → Buf (Elt Ideal) ℓ)

/-- What one grid point computes, element by element. -/
theorem block (x0 : Vec Ideal S512x2048 .f32) (x1 : Vec Ideal S2048x2048 .bf16) (j : S512x2048.Idx) :
    k0_pay1 x0 x1 j = (∑ k : Fin 2048, x0 (ix2 (j 0) k) * x1 (ix2 (j 1) k)) := by
  pointwise [k0_pay1]

/-- Which block each window takes at a point. -/
theorem idx : ∀ t : Fin cfg0.N, win0_0.index t = ![t.val, 0] ∧ win0_1.index t = ![0, 0] ∧ win0_2.index t = ![t.val, 0] :=
  (by decide +kernel : ∀ t : Fin grid0.N, _)

/-- The whole array, element by element. -/
theorem array (c : Dev nD) : (dats m 0 c).arrAt 2 cfg0.N = fun i : S8192x2048.Idx =>
    (∑ k : Fin 2048, (show FVec Ideal S8192x2048 .f32 from m ((c : Thread nD τ).loc main_arg0)) (ix2 (i 0) k)
      * (show FVec Ideal S2048x2048 .bf16 from m ((c : Thread nD τ).loc main_arg1)) (ix2 (i 1) k)) := by
  refine (dats m 0 c).arrAt_eq_of_covers 2 _ (by decide +kernel) fun t _ y => ?_
  blk_simp
  rw [after0_2]
  frame_out
  rw [block]
  blk_point [iblk, V, idx t]

end Cert.Kernel4Ideal.Product
-- ==== Proof.OutDw.lean ====
module
public import proofs.«01_k».proof.Proof.Gen.Kernel5Ideal.Frame
public import Idealize.ShloMosaic.Lib.Pipeline.ValueKit
/-! The gradient of the output projection's weights, as the kernel leaves it in the layers' stack. -/
@[expose] public section
noncomputable section
open Idealize.ShloMosaic Idealize.ShloMosaic.TcCoe Idealize.SL.Sem
open Idealize.ShloMosaic.Pipeline (Dat)
namespace Cert.Kernel5Ideal.Product
open Cert.Kernel5Ideal Cert.Kernel5Ideal.Gen

variable (m : (ℓ : Loc nD τ sig) → Buf (Elt Ideal) ℓ)

/-- The product over one block of the contracted rows. -/
theorem first (x0 : Vec Ideal S2048x1024 .bf16) (x1 : Vec Ideal S2048x1024 .f32) (j : S1024x1024.Idx) :
    k0_pay2 x0 x1 j = 0 + ∑ k : Fin 2048, x0 (ix2 k (j 0)) * x1 (ix2 k (j 1)) := by
  pointwise [k0_pay2, k0_pay1]

/-- The product over a block of the contracted rows, added to what stands. -/
theorem next (x0 : Vec Ideal S2048x1024 .bf16) (x1 : Vec Ideal S2048x1024 .f32) (a : Vec Ideal S1024x1024 .f32) (j : S1024x1024.Idx) :
    k0_pay3 x0 x1 a j = a j + ∑ k : Fin 2048, x0 (ix2 k (j 0)) * x1 (ix2 k (j 1)) := by
  pointwise [k0_pay3, k0_pay1]

/-- Which block each window takes at a point. -/
theorem idx : ∀ t : Fin cfg0.N, win0_0.index t = ![t.val % 4, t.val / 8] ∧ win0_1.index t = ![t.val % 4, t.val / 4 % 2] ∧ win0_2.index t = ![0, t.val / 8, t.val / 4 % 2] :=
  (by decide +kernel : ∀ t : Fin grid0.N, _)

/-- What is carried past a run's first point: the product of the point's blocks added to what was carried before. -/
theorem carry (c : Dev nD) (t : Fin cfg0.N) (h : ¬t.val % 4 = 0) : (outsAt0 m c t.val t.isLt).2
    = k0_pay3 (iblk m c 0 t) (iblk m c 1 t) (outsAt0 m c (t.val - 1) (Nat.lt_of_le_of_lt (Nat.sub_le _ _) t.isLt)).2 := by
  have ht : t.val < 16 := lt_of_lt_of_eq t.isLt N_0
  by_cases h3 : t.val % 4 = 3
  · rw [outsAt0_C m c t h (by omega) h3]
    dsimp only
    frame_out
    exact congrArg (k0_pay3 _ _) ((Memref.isWhole_whole cc0_scratch0).read_unread _)
  · rw [outsAt0_B m c t h (by omega) h3]
    dsimp only
    frame_out
    exact congrArg (k0_pay3 _ _) ((Memref.isWhole_whole cc0_scratch0).read_unread _)

/-- At a run's last point the block written is the sum carried. -/
theorem last_eq (c : Dev nD) (t : Fin cfg0.N) (h : t.val % 4 = 3) (y : S1x1024x1024.Idx) :
    (outsAt0 m c t.val t.isLt).1 y = (outsAt0 m c t.val t.isLt).2 (ix2 (y 1) (y 2)) := by
  rw [outsAt0_C m c t (by omega) (by omega) h]
  dsimp only
  frame_out
  pointwise [k0_pay4]

/-- The product of the gradient: a column of the input against a column of the output's gradient. -/
def slab (A : FVec Ideal S8192x2048 .bf16) (B : FVec Ideal S8192x2048 .f32) (p : Fin 2048) (q : Fin 2048) : EReal :=
  ∑ k : Fin 8192, A (ix2 k p) * B (ix2 k q)

/-- The result's buffer holds the third argument before the grid runs. -/
theorem entry_eq (c : Dev nD) : V m c main_v0 = m ((c : Thread nD τ).loc main_arg2) := by
  unfold V
  after_results
  try rfl

/-- A written block holds the product at its place. -/
theorem point (c : Dev nD) (t : Fin cfg0.N) (h2 : t.val % 4 = 3) (y : S1x1024x1024.Idx) (p : Fin 2048) (q : Fin 2048)
    (hp : p.val = t.val / 8 * 1024 + (y 1).val) (hq : q.val = t.val / 4 % 2 * 1024 + (y 2).val) :
    (outsAt0 m c t.val t.isLt).1 y = slab (m ((c : Thread nD τ).loc main_arg0)) (m ((c : Thread nD τ).loc main_arg1)) p q := by
  rw [last_eq m c t h2, Pipeline.eq_sum_fin_of_reset_step_apply_of_flush (fun n h => (outsAt0 m c n h).2) 4 (fun _ => 0)
    (fun t j => ∑ k : Fin 2048, (show FVec Ideal S2048x1024 .bf16 from iblk m c 0 t) (ix2 k (j 0)) * (show FVec Ideal S2048x1024 .f32 from iblk m c 1 t) (ix2 k (j 1)))
    (fun t h j => by rw [outsAt0_A m c t h (by omega) (by omega)]; dsimp only; frame_out; rw [first])
    (fun t h j => by rw [carry m c t h, next])
    t h2 _, zero_add]
  unfold slab
  refine Fin.sum_mul_add_congr fun s k hl => ?_
  blk_point [iblk, V, idx t, idx ⟨_, Pipeline.run_point_lt_of_flush t h2 s⟩]

/-- The whole array: the product in the first slab, the other slabs as they were. -/
theorem array (c : Dev nD) : (dats m 0 c).arrAt 2 (cfgs 0).N = fun i =>
    if (i 0 : ℕ) = 0 then slab (m ((c : Thread nD τ).loc main_arg0)) (m ((c : Thread nD τ).loc main_arg1)) (i 1) (i 2) else V m c main_v0 i := by
  refine (dats m 0 c).arrAt_eq_of_coversWhere 2 _ (fun β => β 0 = 0) (by decide +kernel) (fun t hf y => ?_)
    (fun j => by blk_simp [Pipeline.Window.cell_apply]; try omega)
  blk_simp
  rw [after0_2]
  refine point m c t ((flush0_2 t).mp hf) y _ _ ?_ ?_ <;> (blk_simp [idx t] <;> try omega)

end Cert.Kernel5Ideal.Product
-- ==== Proof.PwDx.lean ====
module
public import proofs.«01_k».proof.Proof.Gen.Kernel6Ideal.Frame
public import Idealize.ShloMosaic.Lib.Pipeline.ValueKit
/-! The gradient of the pointwise projection's input, as the kernel leaves it. -/
@[expose] public section
noncomputable section
open Idealize.ShloMosaic Idealize.ShloMosaic.TcCoe Idealize.SL.Sem
open Idealize.ShloMosaic.Pipeline (Dat)
namespace Cert.Kernel6Ideal.Product
open Cert.Kernel6Ideal Cert.Kernel6Ideal.Gen

variable (m : (ℓ : Loc nD τ sig) → Buf (Elt Ideal) ℓ)

/-- What one grid point computes, element by element. -/
theorem block (x0 : Vec Ideal S1024x512 .f32) (x1 : Vec Ideal S512x512 .bf16) (j : S1024x512.Idx) :
    k0_pay1 x0 x1 j = (∑ k : Fin 512, x0 (ix2 (j 0) k) * x1 (ix2 (j 1) k)) := by
  pointwise [k0_pay1]

/-- Which block each window takes at a point. -/
theorem idx : ∀ t : Fin cfg0.N, win0_0.index t = ![t.val, 0] ∧ win0_1.index t = ![0, 0] ∧ win0_2.index t = ![t.val, 0] :=
  (by decide +kernel : ∀ t : Fin grid0.N, _)

/-- The whole array, element by element. -/
theorem array (c : Dev nD) : (dats m 0 c).arrAt 2 cfg0.N = fun i : S8192x512.Idx =>
    (∑ k : Fin 512, (show FVec Ideal S8192x512 .f32 from m ((c : Thread nD τ).loc main_arg0)) (ix2 (i 0) k)
      * (show FVec Ideal S512x512 .bf16 from m ((c : Thread nD τ).loc main_arg1)) (ix2 (i 1) k)) := by
  refine (dats m 0 c).arrAt_eq_of_covers 2 _ (by decide +kernel) fun t _ y => ?_
  blk_simp
  rw [after0_2]
  frame_out
  rw [block]
  blk_point [iblk, V, idx t]

end Cert.Kernel6Ideal.Product
-- ==== Proof.PwDw.lean ====
module
public import proofs.«01_k».proof.Proof.Gen.Kernel7Ideal.Frame
public import Idealize.ShloMosaic.Lib.Pipeline.ValueKit
/-! The gradient of the pointwise projection's weights, as the kernel leaves it in the layers' stack. -/
@[expose] public section
noncomputable section
open Idealize.ShloMosaic Idealize.ShloMosaic.TcCoe Idealize.SL.Sem
open Idealize.ShloMosaic.Pipeline (Dat)
namespace Cert.Kernel7Ideal.Product
open Cert.Kernel7Ideal Cert.Kernel7Ideal.Gen

variable (m : (ℓ : Loc nD τ sig) → Buf (Elt Ideal) ℓ)

/-- The product over one block of the contracted rows. -/
theorem first (x0 : Vec Ideal S1024x512 .bf16) (x1 : Vec Ideal S1024x512 .f32) (j : S512x512.Idx) :
    k0_pay2 x0 x1 j = 0 + ∑ k : Fin 1024, x0 (ix2 k (j 0)) * x1 (ix2 k (j 1)) := by
  pointwise [k0_pay2, k0_pay1]

/-- The product over a block of the contracted rows, added to what stands. -/
theorem next (x0 : Vec Ideal S1024x512 .bf16) (x1 : Vec Ideal S1024x512 .f32) (a : Vec Ideal S512x512 .f32) (j : S512x512.Idx) :
    k0_pay3 x0 x1 a j = a j + ∑ k : Fin 1024, x0 (ix2 k (j 0)) * x1 (ix2 k (j 1)) := by
  pointwise [k0_pay3, k0_pay1]

/-- Which block each window takes at a point. -/
theorem idx : ∀ t : Fin cfg0.N, win0_0.index t = ![t.val, 0] ∧ win0_1.index t = ![t.val, 0] ∧ win0_2.index t = ![0, 0, 0] :=
  (by decide +kernel : ∀ t : Fin grid0.N, _)

/-- What is carried past a run's first point: the product of the point's blocks added to what was carried before. -/
theorem carry (c : Dev nD) (t : Fin cfg0.N) (h : ¬t.val % 8 = 0) : (outsAt0 m c t.val t.isLt).2
    = k0_pay3 (iblk m c 0 t) (iblk m c 1 t) (outsAt0 m c (t.val - 1) (Nat.lt_of_le_of_lt (Nat.sub_le _ _) t.isLt)).2 := by
  have ht : t.val < 8 := lt_of_lt_of_eq t.isLt N_0
  by_cases h3 : t.val % 8 = 7
  · rw [outsAt0_C m c t h (by omega) h3]
    dsimp only
    frame_out
    exact congrArg (k0_pay3 _ _) ((Memref.isWhole_whole cc0_scratch0).read_unread _)
  · rw [outsAt0_B m c t h (by omega) h3]
    dsimp only
    frame_out
    exact congrArg (k0_pay3 _ _) ((Memref.isWhole_whole cc0_scratch0).read_unread _)

/-- At a run's last point the block written is the sum carried. -/
theorem last_eq (c : Dev nD) (t : Fin cfg0.N) (h : t.val % 8 = 7) (y : S1x512x512.Idx) :
    (outsAt0 m c t.val t.isLt).1 y = (outsAt0 m c t.val t.isLt).2 (ix2 (y 1) (y 2)) := by
  rw [outsAt0_C m c t (by omega) (by omega) h]
  dsimp only
  frame_out
  pointwise [k0_pay4]

/-- The product of the gradient: a column of the input against a column of the output's gradient. -/
def slab (A : FVec Ideal S8192x512 .bf16) (B : FVec Ideal S8192x512 .f32) (p : Fin 512) (q : Fin 512) : EReal :=
  ∑ k : Fin 8192, A (ix2 k p) * B (ix2 k q)

/-- The result's buffer holds the third argument before the grid runs. -/
theorem entry_eq (c : Dev nD) : V m c main_v0 = m ((c : Thread nD τ).loc main_arg2) := by
  unfold V
  after_results
  try rfl

/-- A written block holds the product at its place. -/
theorem point (c : Dev nD) (t : Fin cfg0.N) (h2 : t.val % 8 = 7) (y : S1x512x512.Idx) (p : Fin 512) (q : Fin 512)
    (hp : p.val = t.val / 8 * 512 + (y 1).val) (hq : q.val = t.val / 8 % 1 * 512 + (y 2).val) :
    (outsAt0 m c t.val t.isLt).1 y = slab (m ((c : Thread nD τ).loc main_arg0)) (m ((c : Thread nD τ).loc main_arg1)) p q := by
  have ht : t.val < 8 := lt_of_lt_of_eq t.isLt N_0
  rw [last_eq m c t h2, Pipeline.eq_sum_fin_of_reset_step_apply_of_flush (fun n h => (outsAt0 m c n h).2) 8 (fun _ => 0)
    (fun t j => ∑ k : Fin 1024, (show FVec Ideal S1024x512 .bf16 from iblk m c 0 t) (ix2 k (j 0)) * (show FVec Ideal S1024x512 .f32 from iblk m c 1 t) (ix2 k (j 1)))
    (fun t h j => by have ht : t.val < 8 := lt_of_lt_of_eq t.isLt N_0; rw [outsAt0_A m c t h (by omega) (by omega)]; dsimp only; frame_out; rw [first])
    (fun t h j => by rw [carry m c t h, next])
    t h2 _, zero_add]
  unfold slab
  refine Fin.sum_mul_add_congr fun s k hl => ?_
  blk_point [iblk, V, idx t, idx ⟨_, Pipeline.run_point_lt_of_flush t h2 s⟩]

/-- The whole array: the product in the first slab, the other slabs as they were. -/
theorem array (c : Dev nD) : (dats m 0 c).arrAt 2 (cfgs 0).N = fun i =>
    if (i 0 : ℕ) = 0 then slab (m ((c : Thread nD τ).loc main_arg0)) (m ((c : Thread nD τ).loc main_arg1)) (i 1) (i 2) else V m c main_v0 i := by
  refine (dats m 0 c).arrAt_eq_of_coversWhere 2 _ (fun β => β 0 = 0) (by decide +kernel) (fun t hf y => ?_)
    (fun j => by blk_simp [Pipeline.Window.cell_apply]; try omega)
  blk_simp
  have ht : t.val < 8 := lt_of_lt_of_eq t.isLt N_0
  rw [after0_2]
  refine point m c t ((flush0_2 t).mp hf) y _ _ ?_ ?_ <;> (blk_simp [idx t] <;> try omega)

end Cert.Kernel7Ideal.Product
-- ==== Proof.InProj.lean ====
module
public import proofs.«01_k».proof.Proof.Gen.Kernel8Ideal.Frame
public import Idealize.ShloMosaic.Lib.Pipeline.ValueKit
/-! The input projection, as the kernel leaves it. -/
@[expose] public section
noncomputable section
open Idealize.ShloMosaic Idealize.ShloMosaic.TcCoe Idealize.SL.Sem
open Idealize.ShloMosaic.Pipeline (Dat)
namespace Cert.Kernel8Ideal.Product
open Cert.Kernel8Ideal Cert.Kernel8Ideal.Gen

variable (m : (ℓ : Loc nD τ sig) → Buf (Elt Ideal) ℓ)

/-- What one grid point computes, element by element. -/
theorem block (x0 : Vec Ideal S1024x2048 .bf16) (x1 : Vec Ideal S2048x1024 .bf16) (j : S1024x1024.Idx) :
    k0_pay1 x0 x1 j = (∑ k : Fin 2048, x0 (ix2 (j 0) k) * x1 (ix2 k (j 1))) := by
  pointwise [k0_pay1]

/-- Which block each window takes at a point. -/
theorem idx : ∀ t : Fin cfg0.N, win0_0.index t = ![t.val / 8, 0] ∧ win0_1.index t = ![0, t.val % 8] ∧ win0_2.index t = ![t.val / 8, t.val % 8] :=
  (by decide +kernel : ∀ t : Fin grid0.N, _)

/-- The whole array, element by element. -/
theorem array (c : Dev nD) : (dats m 0 c).arrAt 2 cfg0.N = fun i : S8192x8192.Idx =>
    (∑ k : Fin 2048, (show FVec Ideal S8192x2048 .bf16 from m ((c : Thread nD τ).loc main_arg0)) (ix2 (i 0) k)
      * (show FVec Ideal S2048x8192 .bf16 from m ((c : Thread nD τ).loc main_arg1)) (ix2 k (i 1))) := by
  refine (dats m 0 c).arrAt_eq_of_covers 2 _ (by decide +kernel) fun t _ y => ?_
  blk_simp
  rw [after0_2]
  frame_out
  rw [block]
  blk_point [iblk, V, idx t]

end Cert.Kernel8Ideal.Product
-- ==== Proof.OutProj.lean ====
module
public import proofs.«01_k».proof.Proof.Gen.Kernel9Ideal.Frame
public import Idealize.ShloMosaic.Lib.Pipeline.ValueKit
/-! The output projection added to the residual stream, as the kernel leaves it. -/
@[expose] public section
noncomputable section
open Idealize.ShloMosaic Idealize.ShloMosaic.TcCoe Idealize.SL.Sem
open Idealize.ShloMosaic.Pipeline (Dat)
namespace Cert.Kernel9Ideal.Product
open Cert.Kernel9Ideal Cert.Kernel9Ideal.Gen

variable (m : (ℓ : Loc nD τ sig) → Buf (Elt Ideal) ℓ)

/-- What one grid point computes, element by element. -/
theorem block (x0 : Vec Ideal S512x2048 .bf16) (x1 : Vec Ideal S2048x2048 .bf16) (x2 : Vec Ideal S512x2048 .f32) (j : S512x2048.Idx) :
    k0_pay1 x0 x1 x2 j = (∑ k : Fin 2048, x0 (ix2 (j 0) k) * x1 (ix2 k (j 1))) + x2 j := by
  pointwise [k0_pay1]

/-- Which block each window takes at a point. -/
theorem idx : ∀ t : Fin cfg0.N, win0_0.index t = ![t.val, 0] ∧ win0_1.index t = ![0, 0] ∧ win0_2.index t = ![t.val, 0] ∧ win0_3.index t = ![t.val, 0] :=
  (by decide +kernel : ∀ t : Fin grid0.N, _)

/-- The whole array, element by element. -/
theorem array (c : Dev nD) : (dats m 0 c).arrAt 3 cfg0.N = fun i : S8192x2048.Idx =>
    (∑ k : Fin 2048, (show FVec Ideal S8192x2048 .bf16 from m ((c : Thread nD τ).loc main_arg0)) (ix2 (i 0) k)
      * (show FVec Ideal S2048x2048 .bf16 from m ((c : Thread nD τ).loc main_arg1)) (ix2 k (i 1))) + (show FVec Ideal S8192x2048 .f32 from m ((c : Thread nD τ).loc main_arg2)) i := by
  refine (dats m 0 c).arrAt_eq_of_covers 3 _ (by decide +kernel) fun t _ y => ?_
  blk_simp
  rw [after0_3]
  frame_out
  rw [block]
  blk_point [iblk, V, idx t]

end Cert.Kernel9Ideal.Product
-- ==== Proof.PwProj.lean ====
module
public import proofs.«01_k».proof.Proof.Gen.Kernel10Ideal.Frame
public import Idealize.ShloMosaic.Lib.Pipeline.ValueKit
/-! The pointwise projection, as the kernel leaves it. -/
@[expose] public section
noncomputable section
open Idealize.ShloMosaic Idealize.ShloMosaic.TcCoe Idealize.SL.Sem
open Idealize.ShloMosaic.Pipeline (Dat)
namespace Cert.Kernel10Ideal.Product
open Cert.Kernel10Ideal Cert.Kernel10Ideal.Gen

variable (m : (ℓ : Loc nD τ sig) → Buf (Elt Ideal) ℓ)

/-- What one grid point computes, element by element. -/
theorem block (x0 : Vec Ideal S1024x512 .bf16) (x1 : Vec Ideal S512x512 .bf16) (j : S1024x512.Idx) :
    k0_pay1 x0 x1 j = (∑ k : Fin 512, x0 (ix2 (j 0) k) * x1 (ix2 k (j 1))) := by
  pointwise [k0_pay1]

/-- Which block each window takes at a point. -/
theorem idx : ∀ t : Fin cfg0.N, win0_0.index t = ![t.val, 0] ∧ win0_1.index t = ![0, 0] ∧ win0_2.index t = ![t.val, 0] :=
  (by decide +kernel : ∀ t : Fin grid0.N, _)

/-- The whole array, element by element. -/
theorem array (c : Dev nD) : (dats m 0 c).arrAt 2 cfg0.N = fun i : S8192x512.Idx =>
    (∑ k : Fin 512, (show FVec Ideal S8192x512 .bf16 from m ((c : Thread nD τ).loc main_arg0)) (ix2 (i 0) k)
      * (show FVec Ideal S512x512 .bf16 from m ((c : Thread nD τ).loc main_arg1)) (ix2 k (i 1))) := by
  refine (dats m 0 c).arrAt_eq_of_covers 2 _ (by decide +kernel) fun t _ y => ?_
  blk_simp
  rw [after0_2]
  frame_out
  rw [block]
  blk_point [iblk, V, idx t]

end Cert.Kernel10Ideal.Product
-- ==== Proof.Products.lean ====
module
public import proofs.«01_k».proof.Defs
public import Idealize.ShloMosaic.Lib.Claim
public import Idealize.ShloMosaic.Lib.Pointwise
public import proofs.«01_k».proof.Proof.InDx
public import proofs.«01_k».proof.Proof.Gen.Reference2Ideal
public import proofs.«01_k».proof.Proof.InDw
public import proofs.«01_k».proof.Proof.Gen.Reference3Ideal
public import proofs.«01_k».proof.Proof.OutDy
public import proofs.«01_k».proof.Proof.Gen.Reference4Ideal
public import proofs.«01_k».proof.Proof.OutDw
public import proofs.«01_k».proof.Proof.Gen.Reference5Ideal
public import proofs.«01_k».proof.Proof.PwDx
public import proofs.«01_k».proof.Proof.Gen.Reference6Ideal
public import proofs.«01_k».proof.Proof.PwDw
public import proofs.«01_k».proof.Proof.Gen.Reference7Ideal
public import proofs.«01_k».proof.Proof.InProj
public import proofs.«01_k».proof.Proof.Gen.Reference8Ideal
public import proofs.«01_k».proof.Proof.OutProj
public import proofs.«01_k».proof.Proof.Gen.Reference9Ideal
public import proofs.«01_k».proof.Proof.PwProj
public import proofs.«01_k».proof.Proof.Gen.Reference10Ideal
/-! The claims on the step's products: the references run, and each kernel leaves what its reference leaves. -/
@[expose] public section
noncomputable section
namespace Cert.Products
open Idealize.ShloMosaic Idealize.ShloMosaic.TcCoe Idealize.SL.Sem

/-- The reference runs and keeps its arguments. -/
theorem run2 : Cert.quiescent_Reference2Ideal (hReference2Ideal := Cert.Reference2Ideal.Gen.facts) := by
  intro m g _
  hlo_run
  · exact fun _ => by simp only [and_self]
  · exact sem_eq_zero_of_no_sems (by decide) _

/-- The gradient of the input projection's input: kernel and reference leave the same array. -/
theorem same2 : Cert.algebraic_Kernel2Ideal_Reference2Ideal (hKernel2Ideal := Cert.Kernel2Ideal.Gen.facts)
    (hReference2Ideal := Cert.Reference2Ideal.Gen.facts) := by
  pair_intro
  · run_from Cert.Kernel2Ideal.Gen.run_main m g
  · hlo_run
    refine Eq.trans ?_ (Cert.Kernel2Ideal.Product.array m c).symm
    funext i
    pointwise

/-- The reference runs and keeps its arguments. -/
theorem run3 : Cert.quiescent_Reference3Ideal (hReference3Ideal := Cert.Reference3Ideal.Gen.facts) := by
  intro m g _
  hlo_run
  · exact fun _ => by simp only [and_self]
  · exact sem_eq_zero_of_no_sems (by decide) _

/-- The gradient of the input projection's weights: kernel and reference leave the same array. -/
theorem same3 : Cert.algebraic_Kernel3Ideal_Reference3Ideal (hKernel3Ideal := Cert.Kernel3Ideal.Gen.facts)
    (hReference3Ideal := Cert.Reference3Ideal.Gen.facts) := by
  pair_intro
  · run_from Cert.Kernel3Ideal.Gen.run_main m g
  · hlo_run
    refine Eq.trans ?_ (Cert.Kernel3Ideal.Product.array m c).symm
    funext i
    rw [Cert.Kernel3Ideal.Product.entry_eq]
    pointwise [Cert.Kernel3Ideal.Product.slab]
    by_cases h : (i 0 : ℕ) = 0
    · rw [dif_pos (by omega : (i 0 : ℕ) < 1), if_pos h]
      exact Fin.sum_fin_congr fun k => mul_comm (G := EReal) _ _
    · rw [dif_neg (by omega : ¬(i 0 : ℕ) < 1), if_neg h, (hagree c).2.2]
      blk_point [] <;> omega

/-- The reference runs and keeps its arguments. -/
theorem run4 : Cert.quiescent_Reference4Ideal (hReference4Ideal := Cert.Reference4Ideal.Gen.facts) := by
  intro m g _
  hlo_run
  · exact fun _ => by simp only [and_self]
  · exact sem_eq_zero_of_no_sems (by decide) _

/-- The gradient of the output projection's input: kernel and reference leave the same array. -/
theorem same4 : Cert.algebraic_Kernel4Ideal_Reference4Ideal (hKernel4Ideal := Cert.Kernel4Ideal.Gen.facts)
    (hReference4Ideal := Cert.Reference4Ideal.Gen.facts) := by
  pair_intro
  · run_from Cert.Kernel4Ideal.Gen.run_main m g
  · hlo_run
    refine Eq.trans ?_ (Cert.Kernel4Ideal.Product.array m c).symm
    funext i
    pointwise

/-- The reference runs and keeps its arguments. -/
theorem run5 : Cert.quiescent_Reference5Ideal (hReference5Ideal := Cert.Reference5Ideal.Gen.facts) := by
  intro m g _
  hlo_run
  · exact fun _ => by simp only [and_self]
  · exact sem_eq_zero_of_no_sems (by decide) _

/-- The gradient of the output projection's weights: kernel and reference leave the same array. -/
theorem same5 : Cert.algebraic_Kernel5Ideal_Reference5Ideal (hKernel5Ideal := Cert.Kernel5Ideal.Gen.facts)
    (hReference5Ideal := Cert.Reference5Ideal.Gen.facts) := by
  pair_intro
  · run_from Cert.Kernel5Ideal.Gen.run_main m g
  · hlo_run
    refine Eq.trans ?_ (Cert.Kernel5Ideal.Product.array m c).symm
    funext i
    rw [Cert.Kernel5Ideal.Product.entry_eq]
    pointwise [Cert.Kernel5Ideal.Product.slab]
    by_cases h : (i 0 : ℕ) = 0
    · rw [dif_pos (by omega : (i 0 : ℕ) < 1), if_pos h]
      exact Fin.sum_fin_congr fun k => mul_comm (G := EReal) _ _
    · rw [dif_neg (by omega : ¬(i 0 : ℕ) < 1), if_neg h, (hagree c).2.2]
      blk_point [] <;> omega

/-- The reference runs and keeps its arguments. -/
theorem run6 : Cert.quiescent_Reference6Ideal (hReference6Ideal := Cert.Reference6Ideal.Gen.facts) := by
  intro m g _
  hlo_run
  · exact fun _ => by simp only [and_self]
  · exact sem_eq_zero_of_no_sems (by decide) _

/-- The gradient of the pointwise projection's input: kernel and reference leave the same array. -/
theorem same6 : Cert.algebraic_Kernel6Ideal_Reference6Ideal (hKernel6Ideal := Cert.Kernel6Ideal.Gen.facts)
    (hReference6Ideal := Cert.Reference6Ideal.Gen.facts) := by
  pair_intro
  · run_from Cert.Kernel6Ideal.Gen.run_main m g
  · hlo_run
    refine Eq.trans ?_ (Cert.Kernel6Ideal.Product.array m c).symm
    funext i
    pointwise

/-- The reference runs and keeps its arguments. -/
theorem run7 : Cert.quiescent_Reference7Ideal (hReference7Ideal := Cert.Reference7Ideal.Gen.facts) := by
  intro m g _
  hlo_run
  · exact fun _ => by simp only [and_self]
  · exact sem_eq_zero_of_no_sems (by decide) _

/-- The gradient of the pointwise projection's weights: kernel and reference leave the same array. -/
theorem same7 : Cert.algebraic_Kernel7Ideal_Reference7Ideal (hKernel7Ideal := Cert.Kernel7Ideal.Gen.facts)
    (hReference7Ideal := Cert.Reference7Ideal.Gen.facts) := by
  pair_intro
  · run_from Cert.Kernel7Ideal.Gen.run_main m g
  · hlo_run
    refine Eq.trans ?_ (Cert.Kernel7Ideal.Product.array m c).symm
    funext i
    rw [Cert.Kernel7Ideal.Product.entry_eq]
    pointwise [Cert.Kernel7Ideal.Product.slab]
    by_cases h : (i 0 : ℕ) = 0
    · rw [dif_pos (by omega : (i 0 : ℕ) < 1), if_pos h]
      exact Fin.sum_fin_congr fun k => mul_comm (G := EReal) _ _
    · rw [dif_neg (by omega : ¬(i 0 : ℕ) < 1), if_neg h, (hagree c).2.2]
      blk_point [] <;> omega

/-- The reference runs and keeps its arguments. -/
theorem run8 : Cert.quiescent_Reference8Ideal (hReference8Ideal := Cert.Reference8Ideal.Gen.facts) := by
  intro m g _
  hlo_run
  · exact fun _ => by simp only [and_self]
  · exact sem_eq_zero_of_no_sems (by decide) _

/-- The input projection: kernel and reference leave the same array. -/
theorem same8 : Cert.algebraic_Kernel8Ideal_Reference8Ideal (hKernel8Ideal := Cert.Kernel8Ideal.Gen.facts)
    (hReference8Ideal := Cert.Reference8Ideal.Gen.facts) := by
  pair_intro
  · run_from Cert.Kernel8Ideal.Gen.run_main m g
  · hlo_run
    refine Eq.trans ?_ (Cert.Kernel8Ideal.Product.array m c).symm
    funext i
    pointwise

/-- The reference runs and keeps its arguments. -/
theorem run9 : Cert.quiescent_Reference9Ideal (hReference9Ideal := Cert.Reference9Ideal.Gen.facts) := by
  intro m g _
  hlo_run
  · exact fun _ => by simp only [and_self]
  · exact sem_eq_zero_of_no_sems (by decide) _

/-- The output projection: kernel and reference leave the same array. -/
theorem same9 : Cert.algebraic_Kernel9Ideal_Reference9Ideal (hKernel9Ideal := Cert.Kernel9Ideal.Gen.facts)
    (hReference9Ideal := Cert.Reference9Ideal.Gen.facts) := by
  pair_intro
  · run_from Cert.Kernel9Ideal.Gen.run_main m g
  · hlo_run
    refine Eq.trans ?_ (Cert.Kernel9Ideal.Product.array m c).symm
    funext i
    pointwise
    exact add_comm (G := EReal) _ _

/-- The reference runs and keeps its arguments. -/
theorem run10 : Cert.quiescent_Reference10Ideal (hReference10Ideal := Cert.Reference10Ideal.Gen.facts) := by
  intro m g _
  hlo_run
  · exact fun _ => by simp only [and_self]
  · exact sem_eq_zero_of_no_sems (by decide) _

/-- The pointwise projection: kernel and reference leave the same array. -/
theorem same10 : Cert.algebraic_Kernel10Ideal_Reference10Ideal (hKernel10Ideal := Cert.Kernel10Ideal.Gen.facts)
    (hReference10Ideal := Cert.Reference10Ideal.Gen.facts) := by
  pair_intro
  · run_from Cert.Kernel10Ideal.Gen.run_main m g
  · hlo_run
    refine Eq.trans ?_ (Cert.Kernel10Ideal.Product.array m c).symm
    funext i
    pointwise

end Cert.Products

end
-- ==== Proof.NormMath.lean ====
module
public import proofs.«01_k».proof.Proof.Math
/-! The gradient through a root-mean-square norm of a row, in plain formulas, and the same gradient as differentiation
writes it. -/
@[expose] public section
noncomputable section
namespace Cert.NormMath
open scoped BigOperators
open Idealize.ShloMosaic Cert.ScanMath

/-- One over the root of the mean square of a row. -/
def scale (x : Fin 2048 → EReal) : EReal :=
  Ideal.rsqrt (Ideal.div (∑ k, x k * x k) (Ideal.ofBits .f32 0x45000000#32) + Ideal.ofBits .f32 0x358637BD#32)

/-- The gradient of a row's element through the norm, added to what comes past the norm. -/
def back (x dh w : Fin 2048 → EReal) (dres : EReal) (j : Fin 2048) : EReal :=
  dres + scale x * (dh j * w j - x j * scale x * Ideal.div (∑ k, dh k * w k * (x k * scale x)) (Ideal.ofBits .f32 0x45000000#32))

/-- The word of 2048. -/
theorem word2048 : Ideal.ofBits .f32 0x45000000#32 = ((2048 : ℝ) : EReal) := by
  simp [Ideal.ofBits, Ideal.ieee, -EReal.coe_mul]; norm_num

/-- The word of the norm's small constant. -/
theorem wordEps : Ideal.ofBits .f32 0x358637BD#32 = ((8796093 / 8796093022208 : ℝ) : EReal) := by
  simp [Ideal.ofBits, Ideal.ieee, -EReal.coe_mul]; norm_num

/-- The word of minus one half. -/
theorem wordNegHalf : Ideal.ofBits .f32 0xBF000000#32 = ((-1 / 2 : ℝ) : EReal) := by
  simp [Ideal.ofBits, Ideal.ieee, -EReal.coe_mul]; norm_num

/-- Of a positive real number: one over its root. -/
theorem rsqrt_pos {v : ℝ} (h : 0 < v) : Ideal.rsqrt (v : EReal) = (((Real.sqrt v)⁻¹ : ℝ) : EReal) := by
  rw [Ideal.rsqrt_coe, if_neg (not_lt.mpr h.le), if_neg h.ne']

/-- The mean square of a row of real numbers, and the small constant. -/
def mean (x : Fin 2048 → ℝ) : ℝ := (∑ k, x k * x k) * (1 / 2048) + 8796093 / 8796093022208

/-- It is positive. -/
theorem mean_pos (x : Fin 2048 → ℝ) : 0 < mean x := by
  have h : 0 ≤ ∑ k, x k * x k := Finset.sum_nonneg fun k _ => mul_self_nonneg _
  unfold mean
  positivity

/-- What stands under the root, of a row of real numbers. -/
theorem mean_coe (x : Fin 2048 → ℝ) : Ideal.div (∑ k, (x k : EReal) * (x k : EReal)) (Ideal.ofBits .f32 0x45000000#32)
    + Ideal.ofBits .f32 0x358637BD#32 = ((mean x : ℝ) : EReal) := by
  have hs : ∑ k, (x k : EReal) * (x k : EReal) = ((∑ k, x k * x k : ℝ) : EReal) := by
    rw [coe_sum]; exact Finset.sum_congr rfl fun k _ => (EReal.coe_mul _ _).symm
  rw [hs, word2048, wordEps, Ideal.div_coe (by norm_num), ← EReal.coe_mul, ← EReal.coe_add]
  rfl

/-- Of a row of real numbers, the inverse is a real number. -/
theorem scale_coe (x : Fin 2048 → ℝ) : scale (fun k => (x k : EReal)) = (((Real.sqrt (mean x))⁻¹ : ℝ) : EReal) := by
  unfold scale
  rw [mean_coe, rsqrt_pos (mean_pos x)]

/-- The gradient as differentiation writes it: the product's two equal halves, through the mean of squares. -/
def vjp (x dh w : Fin 2048 → EReal) (dres : EReal) (j : Fin 2048) : EReal :=
  dres + dh j * w j * scale x
    + x j * Ideal.div ((∑ k, x k * (dh k * w k)) * (Ideal.ofBits .f32 0xBF000000#32 * Ideal.div (scale x)
        (Ideal.div (∑ k, x k * x k) (Ideal.ofBits .f32 0x45000000#32) + Ideal.ofBits .f32 0x358637BD#32))) (Ideal.ofBits .f32 0x45000000#32)
    + Ideal.div ((∑ k, x k * (dh k * w k)) * (Ideal.ofBits .f32 0xBF000000#32 * Ideal.div (scale x)
        (Ideal.div (∑ k, x k * x k) (Ideal.ofBits .f32 0x45000000#32) + Ideal.ofBits .f32 0x358637BD#32))) (Ideal.ofBits .f32 0x45000000#32) * x j

/-- The identity over the real numbers. -/
theorem real_eq (v r x g s : ℝ) (hr : r * r * v = 1) (hv : v ≠ 0) :
    r * (g - x * r * (s * r * (1 / 2048)))
      = g * r + x * (s * (-1 / 2 * (r * (1 / v))) * (1 / 2048)) + s * (-1 / 2 * (r * (1 / v))) * (1 / 2048) * x := by
  have h : 1 / v = r * r := by field_simp; linarith
  rw [h]
  ring

/-- Of rows of real numbers the two gradients are the same. -/
theorem back_eq {x dh w : Fin 2048 → EReal} (hx : ∀ k, Fin' (x k)) (hh : ∀ k, Fin' (dh k)) (hw : ∀ k, Fin' (w k)) (dres : EReal)
    (j : Fin 2048) : vjp x dh w dres j = back x dh w dres j := by
  choose X hX using hx
  choose H hH using hh
  choose W hW using hw
  obtain rfl : x = fun k => (X k : EReal) := funext hX
  obtain rfl : dh = fun k => (H k : EReal) := funext hH
  obtain rfl : w = fun k => (W k : EReal) := funext hW
  have hr : (Real.sqrt (mean X))⁻¹ * (Real.sqrt (mean X))⁻¹ * mean X = 1 := by
    have h0 := mean_pos X
    have h1 := Real.mul_self_sqrt h0.le
    have h2 : Real.sqrt (mean X) ≠ 0 := (Real.sqrt_pos.mpr h0).ne'
    field_simp
    nlinarith [h1]
  have hs1 : ∑ k, (X k : EReal) * ((H k : EReal) * (W k : EReal)) = ((∑ k, H k * W k * X k : ℝ) : EReal) := by
    rw [coe_sum]
    refine Finset.sum_congr rfl fun k _ => ?_
    rw [← EReal.coe_mul, ← EReal.coe_mul]
    exact congrArg _ (by ring)
  have hs2 : ∑ k, (H k : EReal) * (W k : EReal) * ((X k : EReal) * (((Real.sqrt (mean X))⁻¹ : ℝ) : EReal))
      = (((∑ k, H k * W k * X k) * (Real.sqrt (mean X))⁻¹ : ℝ) : EReal) := by
    rw [Finset.sum_mul, coe_sum]
    refine Finset.sum_congr rfl fun k _ => ?_
    rw [← EReal.coe_mul, ← EReal.coe_mul, ← EReal.coe_mul]
    exact congrArg _ (by ring)
  unfold vjp back
  rw [scale_coe, mean_coe, hs1, hs2, word2048, wordNegHalf]
  simp only [Ideal.div_coe (show (2048 : ℝ) ≠ 0 by norm_num), Ideal.div_coe (mean_pos X).ne']
  simp only [← EReal.coe_mul, ← EReal.coe_sub]
  rw [add_assoc, add_assoc, ← EReal.coe_add, ← EReal.coe_add, real_eq _ _ _ _ _ hr (mean_pos X).ne']
  refine congrArg (fun z : ℝ => dres + (z : EReal)) ?_
  ring

/-- The gradient of a row's element through the norm alone. -/
def back0 (x dh w : Fin 2048 → EReal) (j : Fin 2048) : EReal :=
  scale x * (dh j * w j - x j * scale x * Ideal.div (∑ k, dh k * w k * (x k * scale x)) (Ideal.ofBits .f32 0x45000000#32))

/-- The same as differentiation writes it. -/
def vjp0 (x dh w : Fin 2048 → EReal) (j : Fin 2048) : EReal :=
  dh j * w j * scale x
    + x j * Ideal.div ((∑ k, x k * (dh k * w k)) * (Ideal.ofBits .f32 0xBF000000#32 * Ideal.div (scale x)
        (Ideal.div (∑ k, x k * x k) (Ideal.ofBits .f32 0x45000000#32) + Ideal.ofBits .f32 0x358637BD#32))) (Ideal.ofBits .f32 0x45000000#32)
    + Ideal.div ((∑ k, x k * (dh k * w k)) * (Ideal.ofBits .f32 0xBF000000#32 * Ideal.div (scale x)
        (Ideal.div (∑ k, x k * x k) (Ideal.ofBits .f32 0x45000000#32) + Ideal.ofBits .f32 0x358637BD#32))) (Ideal.ofBits .f32 0x45000000#32) * x j

/-- Of rows of real numbers the two are the same. -/
theorem back0_eq {x dh w : Fin 2048 → EReal} (hx : ∀ k, Fin' (x k)) (hh : ∀ k, Fin' (dh k)) (hw : ∀ k, Fin' (w k))
    (j : Fin 2048) : vjp0 x dh w j = back0 x dh w j := by
  have h := back_eq hx hh hw 0 j
  unfold vjp back at h
  rw [zero_add, zero_add] at h
  exact h

/-- The norm's output less the target. -/
def err (x w t : Fin 2048 → EReal) (j : Fin 2048) : EReal := x j * scale x * w j - t j

/-- The loss's slope at an error, as the kernel writes it. -/
def lossSlope (e : EReal) : EReal := e * Ideal.ofBits .f32 0x3A000000#32

/-- An error's square. -/
def square (e : EReal) : EReal := e * e

/-- The loss's slope at an error, as differentiation writes it. -/
def lossSlope' (e : EReal) : EReal :=
  Ideal.div (Ideal.ofBits .f32 0x3F000000#32 * Ideal.ofBits .f32 0x3F800000#32) (Ideal.ofBits .f32 0x45000000#32)
    * (Ideal.ofBits .f32 0x40000000#32 * e)

/-- Of a row of real numbers the inverse is real. -/
theorem scale_fin {x : Fin 2048 → EReal} (hx : ∀ k, Fin' (x k)) : Fin' (scale x) := by
  choose X hX using hx
  obtain rfl : x = fun k => (X k : EReal) := funext hX
  exact ⟨_, scale_coe X⟩

/-- With real arguments the error is real. -/
theorem err_fin {x w t : Fin 2048 → EReal} (hx : ∀ k, Fin' (x k)) (hw : ∀ k, Fin' (w k)) (ht : ∀ k, Fin' (t k)) (j : Fin 2048) :
    Fin' (err x w t j) := by
  unfold err
  rw [sub_eq_add_neg]
  exact (((hx j).mul (scale_fin hx)).mul (hw j)).add (ht j).neg

/-- The word of one half. -/
theorem wordHalf : Ideal.ofBits .f32 0x3F000000#32 = ((1 / 2 : ℝ) : EReal) := by
  simp [Ideal.ofBits, Ideal.ieee, -EReal.coe_mul]; norm_num

/-- The word of one. -/
theorem wordOne : Ideal.ofBits .f32 0x3F800000#32 = ((1 : ℝ) : EReal) := by
  simp [Ideal.ofBits, Ideal.ieee, -EReal.coe_mul]; norm_num

/-- The word of two. -/
theorem wordTwo : Ideal.ofBits .f32 0x40000000#32 = ((2 : ℝ) : EReal) := by
  simp [Ideal.ofBits, Ideal.ieee, -EReal.coe_mul]; norm_num

/-- The word of 1/2048. -/
theorem wordInv : Ideal.ofBits .f32 0x3A000000#32 = ((1 / 2048 : ℝ) : EReal) := by
  simp [Ideal.ofBits, Ideal.ieee, -EReal.coe_mul]; norm_num

/-- The word of 1/4096. -/
theorem wordHalfInv : Ideal.ofBits .f32 0x39800000#32 = ((1 / 4096 : ℝ) : EReal) := by
  simp [Ideal.ofBits, Ideal.ieee, -EReal.coe_mul]; norm_num

/-- The two slopes of a real error are the same. -/
theorem lossSlope_eq {e : EReal} (h : Fin' e) : lossSlope' e = lossSlope e := by
  obtain ⟨r, rfl⟩ := h
  unfold lossSlope' lossSlope
  rw [wordHalf, wordOne, word2048, wordTwo, wordInv, ← EReal.coe_mul, Ideal.div_coe (by norm_num), ← EReal.coe_mul, ← EReal.coe_mul,
    ← EReal.coe_mul, ← EReal.coe_mul]
  exact congrArg _ (by ring)

/-- The slope of a real error is real. -/
theorem lossSlope_fin {e : EReal} (h : Fin' e) : Fin' (lossSlope e) := h.mul ⟨_, wordInv⟩

/-- Half the sum of the rows' mean squares is the sum of all squares over 4096. -/
theorem loss_eq {f : Fin 8192 → Fin 2048 → EReal} (h : ∀ r l, Fin' (f r l)) :
    Ideal.ofBits .f32 0x3F000000#32 * ∑ r, Ideal.div (∑ l, f r l) (Ideal.ofBits .f32 0x45000000#32)
      = (∑ l, ∑ r, f r l) * Ideal.ofBits .f32 0x39800000#32 := by
  choose g hg using h
  obtain rfl : f = fun r l => (g r l : EReal) := funext fun r => funext fun l => hg r l
  rw [Finset.sum_comm, wordHalf, word2048, wordHalfInv]
  have h1 : ∑ r, ∑ l, (g r l : EReal) = ((∑ r, ∑ l, g r l : ℝ) : EReal) := by
    rw [coe_sum]
    exact Finset.sum_congr rfl fun r _ => (coe_sum _).symm
  have h2 : ∑ r, Ideal.div (∑ l, (g r l : EReal)) ((2048 : ℝ) : EReal) = (((∑ r, ∑ l, g r l) * (1 / 2048) : ℝ) : EReal) := by
    rw [Finset.sum_mul, coe_sum]
    refine Finset.sum_congr rfl fun r _ => ?_
    rw [Ideal.div_coe (by norm_num), ← coe_sum, ← EReal.coe_mul]
  rw [h1, h2, ← EReal.coe_mul, ← EReal.coe_mul]
  exact congrArg _ (by ring)

/-- Row `b` of group `s` lies in a block of 512. -/
theorem lt512 (s : Fin 64) (b : Fin 8) : s.val * 8 + b.val < 512 := by omega

/-- Row `b` of group `s` lies in a block of 256. -/
theorem lt256 (s : Fin 32) (b : Fin 8) : s.val * 8 + b.val < 256 := by omega

/-- The rows of 16 blocks of 64 groups of 8, summed in the order group's row, block, group. -/
theorem sum_groups (f : Fin 8192 → EReal) :
    ∑ b : Fin 8, ∑ t : Fin 16, ∑ s : Fin 64, f ⟨t.val * 512 + (s.val * 8 + b.val), by omega⟩ = ∑ r, f r := by
  rw [← Finset.sum_congr rfl fun b _ => (Fintype.sum_prod_type (fun p : Fin 16 × Fin 64 => f ⟨p.1.val * 512 + (p.2.val * 8 + b.val), by omega⟩)),
    ← Fintype.sum_prod_type (fun p : Fin 8 × Fin 16 × Fin 64 => f ⟨p.2.1.val * 512 + (p.2.2.val * 8 + p.1.val), by omega⟩)]
  refine Fintype.sum_equiv ⟨fun p => ⟨p.2.1.val * 512 + (p.2.2.val * 8 + p.1.val), by omega⟩,
    fun r => (⟨r.val % 8, by omega⟩, ⟨r.val / 512, by omega⟩, ⟨r.val / 8 % 64, by omega⟩), fun p => ?_, fun r => ?_⟩ _ _ fun p => rfl
  · refine Prod.ext (Fin.ext ?_) (Prod.ext (Fin.ext ?_) (Fin.ext ?_)) <;> dsimp only <;> omega
  · refine Fin.ext ?_
    dsimp only
    omega

/-- The rows of 32 blocks of 32 groups of 8, summed in the order group's row, block, group. -/
theorem sum_groups32 (f : Fin 8192 → EReal) :
    ∑ b : Fin 8, ∑ t : Fin 32, ∑ s : Fin 32, f ⟨t.val * 256 + (s.val * 8 + b.val), by omega⟩ = ∑ r, f r := by
  rw [← Finset.sum_congr rfl fun b _ => (Fintype.sum_prod_type (fun p : Fin 32 × Fin 32 => f ⟨p.1.val * 256 + (p.2.val * 8 + b.val), by omega⟩)),
    ← Fintype.sum_prod_type (fun p : Fin 8 × Fin 32 × Fin 32 => f ⟨p.2.1.val * 256 + (p.2.2.val * 8 + p.1.val), by omega⟩)]
  refine Fintype.sum_equiv ⟨fun p => ⟨p.2.1.val * 256 + (p.2.2.val * 8 + p.1.val), by omega⟩,
    fun r => (⟨r.val % 8, by omega⟩, ⟨r.val / 256, by omega⟩, ⟨r.val / 8 % 32, by omega⟩), fun p => ?_, fun r => ?_⟩ _ _ fun p => rfl
  · refine Prod.ext (Fin.ext ?_) (Prod.ext (Fin.ext ?_) (Fin.ext ?_)) <;> dsimp only <;> omega
  · refine Fin.ext ?_
    dsimp only
    omega

end Cert.NormMath

end
-- ==== Proof.RmsBwd.lean ====
module
public import proofs.«01_k».proof.Proof.Gen.Kernel11Ideal.Frame
public import proofs.«01_k».proof.Proof.NormMath
public import Idealize.ShloMosaic.Lib.Pipeline.ValueKit
/-! The gradient through a root-mean-square norm, as the kernel leaves it. -/
@[expose] public section
noncomputable section
open Idealize.ShloMosaic Idealize.ShloMosaic.TcCoe Idealize.SL.Sem
open Idealize.ShloMosaic.Pipeline (Dat)
namespace Cert.Kernel11Ideal.Norm
open Cert.Kernel11Ideal Cert.Kernel11Ideal.Gen Cert.NormMath

variable (m : (ℓ : Loc nD τ sig) → Buf (Elt Ideal) ℓ)

/-- Which block each window takes at a point. -/
theorem idx : ∀ t : Fin cfg0.N, win0_0.index t = ![t.val, 0] ∧ win0_1.index t = ![t.val, 0] ∧ win0_2.index t = ![0, 0]
    ∧ win0_3.index t = ![t.val, 0] ∧ win0_4.index t = ![t.val, 0] ∧ win0_5.index t = ![0, 0] :=
  (by decide +kernel : ∀ t : Fin grid0.N, _)

/-- The four arguments. -/
abbrev aX (c : Dev nD) : FVec Ideal S8192x2048 .f32 := m ((c : Thread nD τ).loc main_arg0)
/-- The gradient of the norm's output. -/
abbrev aH (c : Dev nD) : FVec Ideal S8192x2048 .f32 := m ((c : Thread nD τ).loc main_arg1)
/-- The norm's weights. -/
abbrev aW (c : Dev nD) : FVec Ideal S1x2048 .f32 := m ((c : Thread nD τ).loc main_arg2)
/-- The gradient that comes past the norm. -/
abbrev aR (c : Dev nD) : FVec Ideal S8192x2048 .f32 := m ((c : Thread nD τ).loc main_arg3)

/-- A block's gradient of the norm's input. -/
theorem block (x h : FVec Ideal S512x2048 .f32) (w : FVec Ideal S1x2048 .f32) (d : FVec Ideal S512x2048 .f32) (j : S512x2048.Idx) :
    (k0_pay6 x h w d : FVec Ideal S512x2048 .f32) j = back (fun k => x (ix2 (j 0) k)) (fun k => h (ix2 (j 0) k)) (fun k => w (ix2 0 k)) (d j) (j 1) := by
  unfold back scale
  pointwise [k0_pay6, k0_pay5, k0_pay4]

/-- What a block adds to the eight rows carried. -/
theorem added (x h : FVec Ideal S512x2048 .f32) (a : FVec Ideal S8x2048 .f32) (j : S8x2048.Idx) :
    (k0_pay1 (k0_pay7 x h a) : FVec Ideal S8x2048 .f32) j = a j + ∑ s : Fin 64, h (ix2 ⟨s.val * 8 + (j 0).val, lt512 s (j 0)⟩ (j 1))
      * (x (ix2 ⟨s.val * 8 + (j 0).val, lt512 s (j 0)⟩ (j 1)) * scale fun k => x (ix2 ⟨s.val * 8 + (j 0).val, lt512 s (j 0)⟩ k)) := by
  unfold scale
  pointwise [k0_pay1, k0_pay7, k0_pay5, k0_pay4]

/-- The rows carried start at zero. -/
theorem start (j : S8x2048.Idx) : (k0_pay3 (F := Ideal)) j = 0 := by
  pointwise [k0_pay3]

/-- The eight rows' sum. -/
theorem rows (a : FVec Ideal S8x2048 .f32) (j : S1x2048.Idx) : (k0_pay2 a : FVec Ideal S1x2048 .f32) j = ∑ b : Fin 8, a (ix2 b (j 1)) := by
  pointwise [k0_pay2]

/-- The block of the input's gradient after a point. -/
theorem after_dx (c : Dev nD) (t : Fin cfg0.N) :
    (outsAt0 m c t.val t.isLt).1 = k0_pay6 (iblk m c 0 t) (iblk m c 1 t) (iblk m c 2 t) (iblk m c 3 t) := by
  by_cases h0 : t.val % 16 = 0
  · rw [outsAt0_A m c t h0 (by omega)]
    dsimp only
    frame_out
  · by_cases h1 : t.val % 16 = 15
    · rw [outsAt0_C m c t h0 h1]
      dsimp only
      frame_out
    · rw [outsAt0_B m c t h0 h1]
      dsimp only
      frame_out

/-- The input's gradient. -/
theorem array4 (c : Dev nD) : (dats m 0 c).arrAt 4 cfg0.N = fun i : S8192x2048.Idx =>
    back (fun k => aX m c (ix2 (i 0) k)) (fun k => aH m c (ix2 (i 0) k)) (fun k => aW m c (ix2 0 k)) (aR m c i) (i 1) := by
  refine (dats m 0 c).arrAt_eq_of_covers 4 _ (by decide +kernel) fun t _ y => ?_
  blk_simp
  rw [after0_4, after_dx, block]
  unfold aX aH aW aR
  blk_point [iblk, V, idx t]

/-- The eight rows carried after a point: the terms of the blocks so far. -/
def term (c : Dev nD) (t : Fin cfg0.N) (j : S8x2048.Idx) : EReal :=
  ∑ s : Fin 64, (show FVec Ideal S512x2048 .f32 from iblk m c 1 t) (ix2 ⟨s.val * 8 + (j 0).val, lt512 s (j 0)⟩ (j 1))
      * ((show FVec Ideal S512x2048 .f32 from iblk m c 0 t) (ix2 ⟨s.val * 8 + (j 0).val, lt512 s (j 0)⟩ (j 1))
        * scale fun k => (show FVec Ideal S512x2048 .f32 from iblk m c 0 t) (ix2 ⟨s.val * 8 + (j 0).val, lt512 s (j 0)⟩ k))

/-- At the last point the weights' gradient is the sum of the rows carried. -/
theorem last_eq (c : Dev nD) (t : Fin cfg0.N) (h : t.val % 16 = 15) (j : S1x2048.Idx) :
    (outsAt0 m c t.val t.isLt).2.1 j = ∑ b : Fin 8, (outsAt0 m c t.val t.isLt).2.2 (ix2 b (j 1)) := by
  rw [outsAt0_C m c t (by omega) h]
  dsimp only
  frame_out
  rw [rows]

/-- The weights' gradient. -/
theorem array5 (c : Dev nD) : (dats m 0 c).arrAt 5 cfg0.N = fun i : S1x2048.Idx =>
    ∑ r : Fin 8192, aH m c (ix2 r (i 1)) * (aX m c (ix2 r (i 1)) * scale fun k => aX m c (ix2 r k)) := by
  refine (dats m 0 c).arrAt_eq_of_covers 5 _ (by decide +kernel) fun t hf y => ?_
  have h2 : t.val % 16 = 16 - 1 := (flush0_5 t).mp hf
  blk_simp
  rw [after0_5]
  refine Eq.trans ?_ (sum_groups _)
  refine (last_eq m c t h2 y).trans ?_
  refine Finset.sum_congr rfl fun b _ => ?_
  rw [Pipeline.eq_sum_fin_of_reset_step_apply_of_flush (fun n h => (outsAt0 m c n h).2.2) 16 (fun _ => 0) (term m c)
    (fun t h j => by rw [outsAt0_A m c t h (by omega)]; dsimp only; frame_out; rw [added, start]; rfl)
    (fun t h j => by
      by_cases h1 : t.val % 16 = 15
      · rw [outsAt0_C m c t h h1]; dsimp only; frame_out; rw [added]
        exact congrArg (· + _) (congrFun ((Memref.isWhole_whole cc0_scratch0).read_unread _) j)
      · rw [outsAt0_B m c t h h1]; dsimp only; frame_out; rw [added]
        exact congrArg (· + _) (congrFun ((Memref.isWhole_whole cc0_scratch0).read_unread _) j))
    t h2 _, zero_add]
  refine Finset.sum_congr rfl fun s _ => Finset.sum_congr rfl fun k _ => ?_
  unfold aX aH
  blk_point [iblk, V, idx t, idx ⟨_, Pipeline.run_point_lt_of_flush t h2 s⟩]

end Cert.Kernel11Ideal.Norm

end
-- ==== Proof.RmsClaim.lean ====
module
public import proofs.«01_k».proof.Defs
public import Idealize.ShloMosaic.Lib.Claim
public import Idealize.ShloMosaic.Lib.Pointwise
public import proofs.«01_k».proof.Proof.Finite
public import proofs.«01_k».proof.Proof.RmsBwd
public import proofs.«01_k».proof.Proof.Gen.Reference11Ideal
/-! The claims on the gradient through the root-mean-square norm. -/
@[expose] public section
set_option maxRecDepth 16384
noncomputable section
open Idealize.ShloMosaic Idealize.ShloMosaic.TcCoe Idealize.SL.Sem

namespace Cert.Pre_rms_finite.Read
open Cert.Pre_rms_finite Cert.ScanMath Cert.Pre_finite.Read

/-- The side conditions of the precondition's operations. -/
theorem facts : Cert.Pre_rms_finite.Facts where
  concatenates_S8192x2048_S8192x2048_S1x2048_S16385x2048_d0 := by decide
  bcast_S_S16385x2048 := by decide

variable [Cert.Pre_rms_finite.Facts]
variable {x0 x1 : FVec Ideal S8192x2048 .f32} {x2 : FVec Ideal S1x2048 .f32} {x3 : FVec Ideal S8192x2048 .f32}

/-- Every element of argument 0 is real. -/
theorem fin0 (h : Cert.Pre_rms_finite.fn (F := Ideal) x0 x1 x2 x3 = fun _ => 1#1) (r : Fin 8192) (l : Fin 2048) : Fin' (x0 (ix2 r l)) := by
  have h := congrFun h (ix2 ⟨0 + r.val, by omega⟩ l)
  pointwise [Cert.Pre_rms_finite.fn] at h
  haveI := Cert.Pre_finite.Read.facts
  exact fin_of_cmp h

/-- Every element of argument 1 is real. -/
theorem fin1 (h : Cert.Pre_rms_finite.fn (F := Ideal) x0 x1 x2 x3 = fun _ => 1#1) (r : Fin 8192) (l : Fin 2048) : Fin' (x1 (ix2 r l)) := by
  have h := congrFun h (ix2 ⟨8192 + r.val, by omega⟩ l)
  pointwise [Cert.Pre_rms_finite.fn] at h
  haveI := Cert.Pre_finite.Read.facts
  exact fin_of_cmp h

/-- Every element of argument 2 is real. -/
theorem fin2 (h : Cert.Pre_rms_finite.fn (F := Ideal) x0 x1 x2 x3 = fun _ => 1#1) (l : Fin 2048) : Fin' (x2 (ix2 0 l)) := by
  have h := congrFun h (ix2 ⟨16384, by omega⟩ l)
  pointwise [Cert.Pre_rms_finite.fn] at h
  haveI := Cert.Pre_finite.Read.facts
  exact fin_of_cmp h
end Cert.Pre_rms_finite.Read

namespace Cert.RmsClaim
open Cert.NormMath Cert.Kernel11Ideal.Norm

/-- The reference runs and keeps its arguments. -/
theorem run : Cert.quiescent_Reference11Ideal (hReference11Ideal := Cert.Reference11Ideal.Gen.facts) := by
  intro m g _
  hlo_run
  · exact fun _ => by simp only [and_self]
  · exact sem_eq_zero_of_no_sems (by decide) _

set_option maxHeartbeats 1600000 in
/-- Kernel and reference leave the same two gradients. -/
theorem same : Cert.algebraic_Kernel11Ideal_Reference11Ideal_pre_rms_finite (hKernel11Ideal := Cert.Kernel11Ideal.Gen.facts)
    (hReference11Ideal := Cert.Reference11Ideal.Gen.facts) (hPre_rms_finite := Cert.Pre_rms_finite.Read.facts) := by
  letI := Cert.Pre_rms_finite.Read.facts
  intro m g m' g' hp hagree
  repeat' (refine Exists.intro ?_ ?_)
  rotate_right
  refine And.intro ?_ ?_
  · run_from Cert.Kernel11Ideal.Gen.run_main m g
  · hlo_run
    · refine Eq.trans ?_ (array4 m c).symm
      funext i
      refine Eq.trans ?_ (back_eq (fun k => Cert.Pre_rms_finite.Read.fin0 (hp c) (i 0) k) (fun k => Cert.Pre_rms_finite.Read.fin1 (hp c) (i 0) k)
        (fun k => Cert.Pre_rms_finite.Read.fin2 (hp c) k) _ (i 1))
      unfold vjp scale aR
      pointwise
      rw [Fin.sum_univ_one]
    · refine Eq.trans ?_ (array5 m c).symm
      funext i
      unfold scale aX aH
      pointwise
      rw [Fin.sum_univ_one]
      exact Finset.sum_congr rfl fun _ _ => mul_comm _ _
end Cert.RmsClaim

end
-- ==== Proof.LnMath.lean ====
module
public import proofs.«01_k».proof.Proof.NormMath
/-! The gradient through a layer norm and a swish of a row, in plain formulas, and the same gradient as differentiation
writes it. -/
@[expose] public section
noncomputable section
namespace Cert.LnMath
open scoped BigOperators
open Idealize.ShloMosaic Cert.ScanMath Cert.NormMath

/-- A row's mean. -/
def mid (x : Fin 512 → EReal) : EReal := Ideal.div (∑ k, x k) (Ideal.ofBits .f32 0x44000000#32)

/-- A row's element less the mean. -/
def cen (x : Fin 512 → EReal) (j : Fin 512) : EReal := x j - mid x

/-- The row's variance and the small constant. -/
def var (x : Fin 512 → EReal) : EReal :=
  Ideal.div (∑ k, cen x k * cen x k) (Ideal.ofBits .f32 0x44000000#32) + Ideal.ofBits .f32 0x3727C5AC#32

/-- One over the row's deviation. -/
def inv (x : Fin 512 → EReal) : EReal := Ideal.rsqrt (var x)

/-- The normalised row. -/
def nrm (x : Fin 512 → EReal) (j : Fin 512) : EReal := cen x j * inv x

/-- The norm's output. -/
def pre (x w b : Fin 512 → EReal) (j : Fin 512) : EReal := nrm x j * w j + b j

/-- The swish's gate, as the kernel writes it. -/
def gate (y : EReal) : EReal :=
  Ideal.ofBits .f32 0x3F000000#32 * Ideal.tanh (Ideal.ofBits .f32 0x3F000000#32 * y) + Ideal.ofBits .f32 0x3F000000#32

/-- The gradient through the swish, as the kernel writes it. -/
def swish (y d : EReal) : EReal :=
  d * (gate y * (Ideal.ofBits .f32 0x3F800000#32 + y * (Ideal.ofBits .f32 0x3F800000#32 - gate y)))

/-- The gradient through the norm of a row, from the gradient of the normalised row. -/
def lnBack (x g : Fin 512 → EReal) (j : Fin 512) : EReal :=
  inv x * (g j - Ideal.div (∑ k, g k) (Ideal.ofBits .f32 0x44000000#32)
    - nrm x j * Ideal.div (∑ k, g k * nrm x k) (Ideal.ofBits .f32 0x44000000#32))

/-- The gate, as the reference writes it. -/
def gate' (y : EReal) : EReal :=
  Ideal.div (Ideal.ofBits .f32 0x3F800000#32) (Ideal.ofBits .f32 0x3F800000#32 + Ideal.exp (-y))

/-- The gradient through the swish, as differentiation writes it. -/
def swish' (y d : EReal) : EReal :=
  d * gate' y + y * d * (gate' y * (Ideal.ofBits .f32 0x3F800000#32 - gate' y))

/-- The slope that comes to the variance's root, over the row's length. -/
def part (x g : Fin 512 → EReal) : EReal :=
  Ideal.div ((∑ k, cen x k * g k) * (Ideal.ofBits .f32 0xBF000000#32 * Ideal.div (inv x) (var x))) (Ideal.ofBits .f32 0x44000000#32)

/-- The gradient through the norm, as differentiation writes it. -/
def lnVjp (x g : Fin 512 → EReal) (j : Fin 512) : EReal :=
  g j * inv x + part x g * (Ideal.ofBits .f32 0x40000000#32 * cen x j)
    + Ideal.div (∑ k, -(g k * inv x) + ∑ k, -(part x g * (Ideal.ofBits .f32 0x40000000#32 * cen x k))) (Ideal.ofBits .f32 0x44000000#32)

/-- The word of 512. -/
theorem word512 : Ideal.ofBits .f32 0x44000000#32 = ((512 : ℝ) : EReal) := by
  simp [Ideal.ofBits, Ideal.ieee, -EReal.coe_mul]; norm_num

/-- The word of the norm's small constant is a positive real number. -/
theorem wordEps5 : ∃ e : ℝ, 0 < e ∧ Ideal.ofBits .f32 0x3727C5AC#32 = (e : EReal) := by
  refine ⟨10995116 / 1099511627776, by norm_num, ?_⟩
  simp [Ideal.ofBits, Ideal.ieee, -EReal.coe_mul]; norm_num

section Real
variable (X : Fin 512 → ℝ)

/-- A real row's element less the mean. -/
def rcen (j : Fin 512) : ℝ := X j - (∑ k, X k) * (1 / 512)

/-- These sum to zero. -/
theorem rcen_sum : ∑ k, rcen X k = 0 := by
  unfold rcen
  rw [Finset.sum_sub_distrib, Finset.sum_const, Finset.card_univ, Fintype.card_fin, nsmul_eq_mul]
  push_cast
  ring

theorem cen_coe (j : Fin 512) : cen (fun k => (X k : EReal)) j = ((rcen X j : ℝ) : EReal) := by
  unfold cen mid rcen
  rw [← coe_sum, word512, Ideal.div_coe (by norm_num), ← EReal.coe_mul, ← EReal.coe_sub]

/-- The variance and the small constant, of a real row: a positive number. -/
theorem var_coe : ∃ v : ℝ, 0 < v ∧ var (fun k => (X k : EReal)) = (v : EReal) := by
  obtain ⟨e, he, hw⟩ := wordEps5
  refine ⟨(∑ k, rcen X k * rcen X k) * (1 / 512) + e, ?_, ?_⟩
  · have h : 0 ≤ ∑ k, rcen X k * rcen X k := Finset.sum_nonneg fun k _ => mul_self_nonneg _
    positivity
  · unfold var
    rw [Finset.sum_congr rfl fun k _ => show cen (fun k => (X k : EReal)) k * cen (fun k => (X k : EReal)) k
      = ((rcen X k * rcen X k : ℝ) : EReal) by rw [cen_coe, EReal.coe_mul]]
    rw [← coe_sum, word512, Ideal.div_coe (by norm_num), ← EReal.coe_mul, hw, ← EReal.coe_add]

/-- Its root's inverse: a real number whose square is the inverse of the variance. -/
theorem inv_coe : ∃ v r : ℝ, r * r * v = 1 ∧ v ≠ 0 ∧ var (fun k => (X k : EReal)) = (v : EReal) ∧ inv (fun k => (X k : EReal)) = (r : EReal) := by
  obtain ⟨v, hv, h⟩ := var_coe X
  refine ⟨v, (Real.sqrt v)⁻¹, ?_, hv.ne', h, ?_⟩
  · have h1 := Real.mul_self_sqrt hv.le
    have h2 : Real.sqrt v ≠ 0 := (Real.sqrt_pos.mpr hv).ne'
    field_simp
    nlinarith [h1]
  · unfold inv
    rw [h, rsqrt_pos hv]
end Real

/-- Of rows of real numbers the two gradients through the norm are the same. -/
theorem lnBack_eq {x g : Fin 512 → EReal} (hx : ∀ k, Fin' (x k)) (hg : ∀ k, Fin' (g k)) (j : Fin 512) :
    lnVjp x g j = lnBack x g j := by
  choose X hX using hx
  choose G hG using hg
  obtain rfl : x = fun k => (X k : EReal) := funext hX
  obtain rfl : g = fun k => (G k : EReal) := funext hG
  obtain ⟨v, r, hr, hv, hvar, hinv⟩ := inv_coe X
  have h1 : ∑ k, (G k : EReal) * nrm (fun k => (X k : EReal)) k = (((∑ k, rcen X k * G k) * r : ℝ) : EReal) := by
    rw [Finset.sum_mul, coe_sum]
    refine Finset.sum_congr rfl fun k _ => ?_
    unfold nrm
    rw [cen_coe, hinv, ← EReal.coe_mul, ← EReal.coe_mul]
    exact congrArg _ (by ring)
  have h2 : ∑ k, cen (fun k => (X k : EReal)) k * (G k : EReal) = ((∑ k, rcen X k * G k : ℝ) : EReal) := by
    rw [coe_sum]
    refine Finset.sum_congr rfl fun k _ => ?_
    rw [cen_coe, ← EReal.coe_mul]
  have hq : part (fun k => (X k : EReal)) (fun k => (G k : EReal)) = (((∑ k, rcen X k * G k) * (-1 / 2 * (r * (1 / v))) * (1 / 512) : ℝ) : EReal) := by
    unfold part
    rw [h2, hvar, hinv, wordNegHalf, word512, Ideal.div_coe hv, Ideal.div_coe (by norm_num)]
    simp only [← EReal.coe_mul]
  have h3 : ∑ k, -((G k : EReal) * (r : EReal)) = ((-((∑ k, G k) * r) : ℝ) : EReal) := by
    rw [Finset.sum_mul, ← Finset.sum_neg_distrib, coe_sum]
    refine Finset.sum_congr rfl fun k _ => ?_
    rw [← EReal.coe_mul, ← EReal.coe_neg]
  have h4 (q : ℝ) : ∑ k, -((q : EReal) * (((2 : ℝ) : EReal) * cen (fun k => (X k : EReal)) k)) = ((0 : ℝ) : EReal) := by
    have h : ∑ k, -(q * (2 * rcen X k)) = 0 := by
      rw [Finset.sum_neg_distrib, ← Finset.mul_sum, ← Finset.mul_sum, rcen_sum, mul_zero, mul_zero, neg_zero]
    rw [← h, coe_sum]
    refine Finset.sum_congr rfl fun k _ => ?_
    rw [cen_coe, ← EReal.coe_mul, ← EReal.coe_mul, ← EReal.coe_neg]
  unfold lnVjp lnBack
  rw [h1, hq, hinv, h3, wordTwo, h4, word512, ← coe_sum]
  unfold nrm
  rw [cen_coe, hinv]
  simp only [Ideal.div_coe (show (512 : ℝ) ≠ 0 by norm_num), ← EReal.coe_mul, ← EReal.coe_sub, ← EReal.coe_add]
  refine congrArg _ ?_
  have h : 1 / v = r * r := by field_simp; linarith
  rw [h]
  ring

/-- The normalised row of a real row is real. -/
theorem nrm_fin {x : Fin 512 → EReal} (hx : ∀ k, Fin' (x k)) (j : Fin 512) : Fin' (nrm x j) := by
  choose X hX using hx
  obtain rfl : x = fun k => (X k : EReal) := funext hX
  obtain ⟨v, r, _, _, _, hinv⟩ := inv_coe X
  unfold nrm
  rw [cen_coe, hinv]
  exact Fin'.mul ⟨_, rfl⟩ ⟨_, rfl⟩

/-- The norm's output is real. -/
theorem pre_fin {x w b : Fin 512 → EReal} (hx : ∀ k, Fin' (x k)) (hw : ∀ k, Fin' (w k)) (hb : ∀ k, Fin' (b k)) (j : Fin 512) :
    Fin' (pre x w b j) := ((nrm_fin hx j).mul (hw j)).add (hb j)

/-- The logistic function by the hyperbolic tangent of the half. -/
theorem logistic_real (y : ℝ) : 1 / 2 * Real.tanh (1 / 2 * y) + 1 / 2 = 1 * (1 / (1 + Real.exp (-y))) := by
  have h : Real.exp (-y) = Real.exp (-(1 / 2 * y)) * Real.exp (-(1 / 2 * y)) := by rw [← Real.exp_add]; exact congrArg _ (by ring)
  have h' : Real.exp (1 / 2 * y) * Real.exp (-(1 / 2 * y)) = 1 := by rw [← Real.exp_add, add_neg_cancel, Real.exp_zero]
  rw [Real.tanh_eq_sinh_div_cosh, Real.sinh_eq, Real.cosh_eq, h]
  have ha := Real.exp_pos (1 / 2 * y)
  have hb := Real.exp_pos (-(1 / 2 * y))
  generalize Real.exp (1 / 2 * y) = a at *
  generalize Real.exp (-(1 / 2 * y)) = b at *
  have hc : a + b ≠ 0 := by positivity
  have hd : 1 + b * b ≠ 0 := by positivity
  field_simp
  linear_combination (2 * b) * h'

/-- At a real number the two gates are the same real number. -/
theorem gate_eq {y : EReal} (hy : Fin' y) : gate' y = gate y ∧ Fin' (gate y) := by
  obtain ⟨y, rfl⟩ := hy
  have h : gate (y : EReal) = ((1 / 2 * Real.tanh (1 / 2 * y) + 1 / 2 : ℝ) : EReal) := by
    unfold gate
    rw [wordHalf, ← EReal.coe_mul, Ideal.tanh_coe, ← EReal.coe_mul, ← EReal.coe_add]
  refine ⟨?_, _, h⟩
  rw [h, logistic_real]
  unfold gate'
  rw [wordOne, ← EReal.coe_neg, Ideal.exp_coe, ← EReal.coe_add, Ideal.div_coe (by positivity), ← EReal.coe_mul]

/-- At real numbers the two gradients through the swish are the same real number. -/
theorem swish_eq {y d : EReal} (hy : Fin' y) (hd : Fin' d) : swish' y d = swish y d ∧ Fin' (swish y d) := by
  obtain ⟨h, s, hs⟩ := gate_eq hy
  obtain ⟨y, rfl⟩ := hy
  obtain ⟨d, rfl⟩ := hd
  unfold swish' swish
  rw [h, hs, wordOne]
  simp only [← EReal.coe_mul, ← EReal.coe_sub, ← EReal.coe_add]
  exact ⟨congrArg _ (by ring), _, rfl⟩

/-- The rows of 32 blocks of 256. -/
theorem sum_blocks32 (f : Fin 8192 → EReal) : ∑ t : Fin 32, ∑ s : Fin 256, f ⟨t.val * 256 + s.val, by omega⟩ = ∑ r, f r := by
  rw [← Fintype.sum_prod_type (fun p : Fin 32 × Fin 256 => f ⟨p.1.val * 256 + p.2.val, by omega⟩)]
  refine Fintype.sum_equiv ⟨fun p => ⟨p.1.val * 256 + p.2.val, by omega⟩,
    fun r => (⟨r.val / 256, by omega⟩, ⟨r.val % 256, by omega⟩), fun p => ?_, fun r => ?_⟩ _ _ fun p => rfl
  · refine Prod.ext (Fin.ext ?_) (Fin.ext ?_) <;> dsimp only <;> omega
  · refine Fin.ext ?_
    dsimp only
    omega

end Cert.LnMath

end
-- ==== Proof.LnBwd.lean ====
module
public import proofs.«01_k».proof.Proof.Gen.Kernel12Ideal.Frame
public import proofs.«01_k».proof.Proof.LnMath
public import Idealize.ShloMosaic.Lib.Pipeline.ValueKit
public import Idealize.ShloMosaic.Lib.WritesUnit
public import Idealize.ShloMosaic.Lib.Pipeline.ReadBack
/-! The gradient through a layer norm and a swish, as the kernel leaves it. -/
@[expose] public section
noncomputable section
open Idealize.ShloMosaic Idealize.ShloMosaic.TcCoe Idealize.SL.Sem
open Idealize.ShloMosaic.Pipeline (Dat)
namespace Cert.Kernel12Ideal.Norm
open Cert.Kernel12Ideal Cert.Kernel12Ideal.Gen Cert.LnMath

variable (m : (ℓ : Loc nD τ sig) → Buf (Elt Ideal) ℓ)

/-- Which block each window takes at a point. -/
theorem idx : ∀ t : Fin cfg0.N, win0_0.index t = ![t.val, 0] ∧ win0_1.index t = ![t.val, 0] ∧ win0_2.index t = ![0, 0]
    ∧ win0_3.index t = ![0, 0] ∧ win0_4.index t = ![t.val, 0] ∧ win0_5.index t = ![0, 0] :=
  (by decide +kernel : ∀ t : Fin grid0.N, _)

/-- The gradient of the swish's output. -/
abbrev aD (c : Dev nD) : FVec Ideal S8192x512 .f32 := m ((c : Thread nD τ).loc main_arg0)
/-- The convolution's output. -/
abbrev aX (c : Dev nD) : FVec Ideal S8192x512 .f32 := m ((c : Thread nD τ).loc main_arg1)
/-- The norm's weight. -/
abbrev aW (c : Dev nD) : FVec Ideal S1x512 .f32 := m ((c : Thread nD τ).loc main_arg2)
/-- The norm's bias. -/
abbrev aB (c : Dev nD) : FVec Ideal S1x512 .f32 := m ((c : Thread nD τ).loc main_arg3)

/-- Of a block: the gradient of the norm's output at a row and a lane. -/
def out (d x : FVec Ideal S256x512 .f32) (w b : FVec Ideal S1x512 .f32) (r : Fin 256) (l : Fin 512) : EReal :=
  swish (pre (fun k => x (ix2 r k)) (fun k => w (ix2 0 k)) (fun k => b (ix2 0 k)) l) (d (ix2 r l))

/-- A block's normalised rows. -/
theorem block5 (x : FVec Ideal S256x512 .f32) (j : S256x512.Idx) :
    (k0_pay5 x : FVec Ideal S256x512 .f32) j = nrm (fun k => x (ix2 (j 0) k)) (j 1) := by
  unfold nrm LnMath.inv var cen mid
  pointwise [k0_pay5, k0_pay4, k0_pay3]

/-- A block's inverse deviations. -/
theorem block4 (x : FVec Ideal S256x512 .f32) (j : S256x1.Idx) :
    (k0_pay4 x : FVec Ideal S256x1 .f32) j = LnMath.inv (fun k => x (ix2 (j 0) k)) := by
  unfold LnMath.inv var cen mid
  pointwise [k0_pay4, k0_pay3]

/-- A block's norm output. -/
theorem block6 (x : FVec Ideal S256x512 .f32) (w b : FVec Ideal S1x512 .f32) (j : S256x512.Idx) :
    (k0_pay6 x w b : FVec Ideal S256x512 .f32) j = pre (fun k => x (ix2 (j 0) k)) (fun k => w (ix2 0 k)) (fun k => b (ix2 0 k)) (j 1) := by
  unfold pre
  rw [← block5]
  pointwise [k0_pay6]

/-- A block's gradient of the norm's output. -/
theorem block10 (d x : FVec Ideal S256x512 .f32) (w b : FVec Ideal S1x512 .f32) (j : S256x512.Idx) :
    (k0_pay10 d (k0_pay7 x w b) (k0_pay8 x w b) k0_pay9 : FVec Ideal S256x512 .f32) j = out d x w b (j 0) (j 1) := by
  unfold out swish gate
  have h := block6 x w b j
  rw [← h]
  pointwise [k0_pay10, k0_pay9, k0_pay8, k0_pay7]

/-- A block's gradient of the convolution's output. -/
theorem block11 (d x : FVec Ideal S256x512 .f32) (w b : FVec Ideal S1x512 .f32) (j : S256x512.Idx) :
    (k0_pay11 (k0_pay4 x) (k0_pay5 x) w d (k0_pay7 x w b) (k0_pay8 x w b) k0_pay9 : FVec Ideal S256x512 .f32) j
      = lnBack (fun k => x (ix2 (j 0) k)) (fun k => out d x w b (j 0) k * w (ix2 0 k)) (j 1) := by
  unfold lnBack
  pointwise [k0_pay11, block4, block5, block10]

/-- What a block adds to the first row carried. -/
theorem row0 (d x : FVec Ideal S256x512 .f32) (w b a : FVec Ideal S1x512 .f32) (l : Fin 512) :
    (k0_pay12 (k0_pay5 x) d (k0_pay7 x w b) (k0_pay8 x w b) k0_pay9 a : FVec Ideal S1x512 .f32) (ix2 0 l)
      = a (ix2 0 l) + ∑ r : Fin 256, out d x w b r l * nrm (fun k => x (ix2 r k)) l := by
  pointwise [k0_pay12, block5, block10]

/-- What a block adds to the second row carried. -/
theorem row1 (d x : FVec Ideal S256x512 .f32) (w b a : FVec Ideal S1x512 .f32) (l : Fin 512) :
    (k0_pay13 d (k0_pay7 x w b) (k0_pay8 x w b) k0_pay9 a : FVec Ideal S1x512 .f32) (ix2 0 l)
      = a (ix2 0 l) + ∑ r : Fin 256, out d x w b r l := by
  pointwise [k0_pay13, block10]

/-- What a block adds to the third row carried. -/
theorem row2 (d x : FVec Ideal S256x512 .f32) (w b a : FVec Ideal S1x512 .f32) (l : Fin 512) :
    (k0_pay1 (k0_pay14 a) (k0_pay15 (k0_pay4 x) (k0_pay5 x) w d (k0_pay7 x w b) (k0_pay8 x w b) k0_pay9) : FVec Ideal S1x512 .f32) (ix2 0 l)
      = a (ix2 0 l) + ∑ r : Fin 256, lnBack (fun k => x (ix2 r k)) (fun k => out d x w b r k * w (ix2 0 k)) l := by
  pointwise [k0_pay1, k0_pay14, k0_pay15, block11]

/-- The term a point adds to the first row. -/
def term0 (c : Dev nD) (t : Fin cfg0.N) (l : Fin 512) : EReal :=
  ∑ r : Fin 256, out (iblk m c 0 t) (iblk m c 1 t) (iblk m c 2 t) (iblk m c 3 t) r l
    * nrm (fun k => (show FVec Ideal S256x512 .f32 from iblk m c 1 t) (ix2 r k)) l

/-- The term a point adds to the second row. -/
def term1 (c : Dev nD) (t : Fin cfg0.N) (l : Fin 512) : EReal :=
  ∑ r : Fin 256, out (iblk m c 0 t) (iblk m c 1 t) (iblk m c 2 t) (iblk m c 3 t) r l

/-- The term a point adds to the third row. -/
def term2 (c : Dev nD) (t : Fin cfg0.N) (l : Fin 512) : EReal :=
  ∑ r : Fin 256, lnBack (fun k => (show FVec Ideal S256x512 .f32 from iblk m c 1 t) (ix2 r k))
    (fun k => out (iblk m c 0 t) (iblk m c 1 t) (iblk m c 2 t) (iblk m c 3 t) r k
      * (show FVec Ideal S1x512 .f32 from iblk m c 2 t) (ix2 0 k)) l

/-- A later step adds its term to the first row. -/
theorem stepB0 (c : Dev nD) (t : Fin cfg0.N) (h0 : ¬ t.val % 32 = 0) (l : Fin 512) :
    (outsAt0 m c t.val t.isLt).2 (ix2 0 l) = (outsAt0 m c (t.val - 1) (Nat.lt_of_le_of_lt (Nat.sub_le _ _) t.isLt)).2 (ix2 0 l) + term0 m c t l := by
  rw [outsAt0_B m c t h0]
  dsimp only
  frame_out
  refine (View.read_writes_cons_rows_of_not_mem (o := 2) (W := 1) _ _ _ _ _ _ rfl rfl (Or.inl (show (0 : ℕ) < 2 by decide))).trans ?_
  refine (View.read_writes_cons_rows_of_not_mem (o := 1) (W := 1) _ _ _ _ _ _ rfl rfl (Or.inl (show (0 : ℕ) < 1 by decide))).trans ?_
  refine (View.read_writes_cons_rows_of_mem (o := 0) _ _ _ _ _ _ (ix2 0 l) rfl (by rfl) (by rfl)).trans ?_
  refine (row0 _ _ _ _ _ l).trans ?_
  refine congrArg (· + _) ?_
  pointwise

/-- A later step adds its term to the second row. -/
theorem stepB1 (c : Dev nD) (t : Fin cfg0.N) (h0 : ¬ t.val % 32 = 0) (l : Fin 512) :
    (outsAt0 m c t.val t.isLt).2 (ix2 1 l) = (outsAt0 m c (t.val - 1) (Nat.lt_of_le_of_lt (Nat.sub_le _ _) t.isLt)).2 (ix2 1 l) + term1 m c t l := by
  rw [outsAt0_B m c t h0]
  dsimp only
  frame_out
  refine (View.read_writes_cons_rows_of_not_mem (o := 2) (W := 1) _ _ _ _ _ _ rfl rfl (Or.inl (show (1 : ℕ) < 2 by decide))).trans ?_
  refine (View.read_writes_cons_rows_of_mem (o := 1) _ _ _ _ _ _ (ix2 0 l) rfl (by rfl) (by rfl)).trans ?_
  refine (row1 _ _ _ _ _ l).trans ?_
  refine congrArg (· + _) ?_
  pointwise

/-- A later step adds its term to the third row. -/
theorem stepB2 (c : Dev nD) (t : Fin cfg0.N) (h0 : ¬ t.val % 32 = 0) (l : Fin 512) :
    (outsAt0 m c t.val t.isLt).2 (ix2 2 l) = (outsAt0 m c (t.val - 1) (Nat.lt_of_le_of_lt (Nat.sub_le _ _) t.isLt)).2 (ix2 2 l) + term2 m c t l := by
  rw [outsAt0_B m c t h0]
  dsimp only
  frame_out
  refine (View.read_writes_cons_rows_of_mem (o := 2) _ _ _ _ _ _ (ix2 0 l) rfl (by rfl) (by rfl)).trans ?_
  refine (row2 _ _ _ _ _ l).trans ?_
  refine congrArg (· + _) ?_
  pointwise

/-- The buffer is filled with zeros first. -/
theorem zero (j : S8x512.Idx) : (k0_pay2 (F := Ideal)) j = 0 := by
  pointwise [k0_pay2]

/-- The first step leaves its term in the first row. -/
theorem stepA0 (c : Dev nD) (t : Fin cfg0.N) (h0 : t.val % 32 = 0) (l : Fin 512) :
    (outsAt0 m c t.val t.isLt).2 (ix2 0 l) = 0 + term0 m c t l := by
  rw [outsAt0_A m c t h0]
  dsimp only
  frame_out
  refine (View.read_writes_junk_apply_eq_canon (ms0_5 t).view _ _).symm.trans ?_
  refine (View.read_writes_cons_rows_of_not_mem (o := 2) (W := 1) _ _ _ _ _ _ rfl rfl (Or.inl (show (0 : ℕ) < 2 by decide))).trans ?_
  refine (View.read_writes_cons_rows_of_not_mem (o := 1) (W := 1) _ _ _ _ _ _ rfl rfl (Or.inl (show (0 : ℕ) < 1 by decide))).trans ?_
  refine (View.read_writes_cons_rows_of_mem (o := 0) _ _ _ _ _ _ (ix2 0 l) rfl (by rfl) (by rfl)).trans ?_
  refine (row0 _ _ _ _ _ l).trans ?_
  refine congrArg (· + _) ?_
  rw [View.readCov_fill (h := by decide)]
  exact zero _

/-- The first step leaves its term in the second row. -/
theorem stepA1 (c : Dev nD) (t : Fin cfg0.N) (h0 : t.val % 32 = 0) (l : Fin 512) :
    (outsAt0 m c t.val t.isLt).2 (ix2 1 l) = 0 + term1 m c t l := by
  rw [outsAt0_A m c t h0]
  dsimp only
  frame_out
  refine (View.read_writes_junk_apply_eq_canon (ms0_5 t).view _ _).symm.trans ?_
  refine (View.read_writes_cons_rows_of_not_mem (o := 2) (W := 1) _ _ _ _ _ _ rfl rfl (Or.inl (show (1 : ℕ) < 2 by decide))).trans ?_
  refine (View.read_writes_cons_rows_of_mem (o := 1) _ _ _ _ _ _ (ix2 0 l) rfl (by rfl) (by rfl)).trans ?_
  refine (row1 _ _ _ _ _ l).trans ?_
  refine congrArg (· + _) ?_
  rw [View.readCov_skip (h := by decide), View.readCov_fill (h := by decide)]
  exact zero _

/-- The first step leaves its term in the third row. -/
theorem stepA2 (c : Dev nD) (t : Fin cfg0.N) (h0 : t.val % 32 = 0) (l : Fin 512) :
    (outsAt0 m c t.val t.isLt).2 (ix2 2 l) = 0 + term2 m c t l := by
  rw [outsAt0_A m c t h0]
  dsimp only
  frame_out
  refine (View.read_writes_junk_apply_eq_canon (ms0_5 t).view _ _).symm.trans ?_
  refine (View.read_writes_cons_rows_of_mem (o := 2) _ _ _ _ _ _ (ix2 0 l) rfl (by rfl) (by rfl)).trans ?_
  refine (row2 _ _ _ _ _ l).trans ?_
  refine congrArg (· + _) ?_
  rw [View.readCov_skip (h := by decide), View.readCov_skip (h := by decide), View.readCov_fill (h := by decide)]
  exact zero _

/-- The block of the convolution's gradient after a point. -/
theorem after_dx (c : Dev nD) (t : Fin cfg0.N) :
    (outsAt0 m c t.val t.isLt).1 = k0_pay11 (k0_pay4 (iblk m c 1 t)) (k0_pay5 (iblk m c 1 t)) (iblk m c 2 t) (iblk m c 0 t)
      (k0_pay7 (iblk m c 1 t) (iblk m c 2 t) (iblk m c 3 t)) (k0_pay8 (iblk m c 1 t) (iblk m c 2 t) (iblk m c 3 t)) k0_pay9 := by
  by_cases h0 : t.val % 32 = 0
  · rw [outsAt0_A m c t h0]
    dsimp only
    frame_out
  · rw [outsAt0_B m c t h0]
    dsimp only
    frame_out

/-- The gradient of the norm's output at a token and a channel. -/
def dy (c : Dev nD) (r : Fin 8192) (l : Fin 512) : EReal :=
  swish (pre (fun k => aX m c (ix2 r k)) (fun k => aW m c (ix2 0 k)) (fun k => aB m c (ix2 0 k)) l) (aD m c (ix2 r l))

/-- The gradient of the convolution's output at a token and a channel. -/
def dx (c : Dev nD) (r : Fin 8192) (l : Fin 512) : EReal :=
  lnBack (fun k => aX m c (ix2 r k)) (fun k => dy m c r k * aW m c (ix2 0 k)) l

/-- The convolution's gradient. -/
theorem array4 (c : Dev nD) : (dats m 0 c).arrAt 4 cfg0.N = fun i : S8192x512.Idx => dx m c (i 0) (i 1) := by
  refine (dats m 0 c).arrAt_eq_of_covers 4 _ (by decide +kernel) fun t _ y => ?_
  blk_simp
  rw [after0_4, after_dx, block11]
  unfold dx dy out aX aW aB aD
  blk_point [iblk, V, idx t]
  refine congrArg _ (Fin.ext ?_)
  blk_point [idx t]

/-- The last point. -/
def last : Fin cfg0.N := ⟨31, by decide⟩

/-- The array of sums is what the last point leaves. -/
theorem array5 (c : Dev nD) : (dats m 0 c).arrAt 5 cfg0.N = fun i : S8x512.Idx => (outsAt0 m c last.val last.isLt).2 i := by
  refine (dats m 0 c).arrAt_eq_of_covers 5 _ (by decide +kernel) fun t hf y => ?_
  have h2 : t.val % 32 = 32 - 1 := (flush0_5 t).mp hf
  have ht : t = last := Fin.ext (by
    have h : t.val < 32 := lt_of_lt_of_eq t.isLt (by decide)
    show t.val = 31
    omega)
  subst ht
  blk_simp
  rw [after0_5]
  blk_point [idx last]

/-- The gradient of the norm's weight. -/
theorem sums0 (c : Dev nD) (l : Fin 512) : (outsAt0 m c last.val last.isLt).2 (ix2 0 l)
    = ∑ r : Fin 8192, dy m c r l * nrm (fun k => aX m c (ix2 r k)) l := by
  refine Eq.trans ?_ (sum_blocks32 _)
  refine (Pipeline.eq_sum_fin_of_reset_step_apply_of_flush (fun n h (l : Fin 512) => (outsAt0 m c n h).2 (ix2 0 l)) 32 (fun _ => 0) (term0 m c)
    (stepA0 m c) (stepB0 m c) last (by decide) l).trans ?_
  refine (zero_add _).trans ?_
  refine Finset.sum_congr rfl fun s _ => Finset.sum_congr rfl fun r _ => ?_
  unfold dy out aX aW aB aD
  blk_point [iblk, V, idx ⟨_, Pipeline.run_point_lt_of_flush last (by decide) s⟩]
  all_goals (have hl : last.val = 31 := rfl; omega)

/-- The gradient of the norm's bias. -/
theorem sums1 (c : Dev nD) (l : Fin 512) : (outsAt0 m c last.val last.isLt).2 (ix2 1 l) = ∑ r : Fin 8192, dy m c r l := by
  refine Eq.trans ?_ (sum_blocks32 _)
  refine (Pipeline.eq_sum_fin_of_reset_step_apply_of_flush (fun n h (l : Fin 512) => (outsAt0 m c n h).2 (ix2 1 l)) 32 (fun _ => 0) (term1 m c)
    (stepA1 m c) (stepB1 m c) last (by decide) l).trans ?_
  refine (zero_add _).trans ?_
  refine Finset.sum_congr rfl fun s _ => Finset.sum_congr rfl fun r _ => ?_
  unfold dy out aX aW aB aD
  blk_point [iblk, V, idx ⟨_, Pipeline.run_point_lt_of_flush last (by decide) s⟩]
  all_goals (have hl : last.val = 31 := rfl; omega)

/-- The gradient of the convolution's bias. -/
theorem sums2 (c : Dev nD) (l : Fin 512) : (outsAt0 m c last.val last.isLt).2 (ix2 2 l) = ∑ r : Fin 8192, dx m c r l := by
  refine Eq.trans ?_ (sum_blocks32 _)
  refine (Pipeline.eq_sum_fin_of_reset_step_apply_of_flush (fun n h (l : Fin 512) => (outsAt0 m c n h).2 (ix2 2 l)) 32 (fun _ => 0) (term2 m c)
    (stepA2 m c) (stepB2 m c) last (by decide) l).trans ?_
  refine (zero_add _).trans ?_
  refine Finset.sum_congr rfl fun s _ => Finset.sum_congr rfl fun r _ => ?_
  unfold dx dy out aX aW aB aD
  blk_point [iblk, V, idx ⟨_, Pipeline.run_point_lt_of_flush last (by decide) s⟩]
  all_goals (have hl : last.val = 31 := rfl; omega)

end Cert.Kernel12Ideal.Norm

end
-- ==== Proof.LnClaim.lean ====
module
public import proofs.«01_k».proof.Defs
public import Idealize.ShloMosaic.Lib.Claim
public import Idealize.ShloMosaic.Lib.Pointwise
public import proofs.«01_k».proof.Proof.Finite
public import proofs.«01_k».proof.Proof.LnBwd
public import proofs.«01_k».proof.Proof.Gen.Reference12Ideal
/-! The claims on the gradient through a layer norm and a swish. -/
@[expose] public section
set_option maxRecDepth 16384
noncomputable section
open Idealize.ShloMosaic Idealize.ShloMosaic.TcCoe Idealize.SL.Sem

namespace Cert.Pre_ln_finite.Read
open Cert.Pre_ln_finite Cert.ScanMath Cert.Pre_finite.Read

/-- The side conditions of the precondition's operations. -/
theorem facts : Cert.Pre_ln_finite.Facts where
  concatenates_S8192x512_S8192x512_S1x512_S1x512_S16386x512_d0 := by decide
  bcast_S_S16386x512 := by decide

variable [Cert.Pre_ln_finite.Facts]
variable {x0 : FVec Ideal S8192x512 .f32} {x1 : FVec Ideal S8192x512 .f32} {x2 x3 : FVec Ideal S1x512 .f32}

/-- Every element of argument 0 is real. -/
theorem fin0 (h : Cert.Pre_ln_finite.fn (F := Ideal) x0 x1 x2 x3 = fun _ => 1#1) (r : Fin 8192) (l : Fin 512) : Fin' (x0 (ix2 r l)) := by
  have h := congrFun h (ix2 ⟨0 + r.val, by omega⟩ l)
  pointwise [Cert.Pre_ln_finite.fn] at h
  haveI := Cert.Pre_finite.Read.facts
  exact fin_of_cmp h

/-- Every element of argument 1 is real. -/
theorem fin1 (h : Cert.Pre_ln_finite.fn (F := Ideal) x0 x1 x2 x3 = fun _ => 1#1) (r : Fin 8192) (l : Fin 512) : Fin' (x1 (ix2 r l)) := by
  have h := congrFun h (ix2 ⟨8192 + r.val, by omega⟩ l)
  pointwise [Cert.Pre_ln_finite.fn] at h
  haveI := Cert.Pre_finite.Read.facts
  exact fin_of_cmp h

/-- Every element of argument 2 is real. -/
theorem fin2 (h : Cert.Pre_ln_finite.fn (F := Ideal) x0 x1 x2 x3 = fun _ => 1#1) (l : Fin 512) : Fin' (x2 (ix2 0 l)) := by
  have h := congrFun h (ix2 ⟨16384, by omega⟩ l)
  pointwise [Cert.Pre_ln_finite.fn] at h
  haveI := Cert.Pre_finite.Read.facts
  exact fin_of_cmp h

/-- Every element of argument 3 is real. -/
theorem fin3 (h : Cert.Pre_ln_finite.fn (F := Ideal) x0 x1 x2 x3 = fun _ => 1#1) (l : Fin 512) : Fin' (x3 (ix2 0 l)) := by
  have h := congrFun h (ix2 ⟨16385, by omega⟩ l)
  pointwise [Cert.Pre_ln_finite.fn] at h
  haveI := Cert.Pre_finite.Read.facts
  exact fin_of_cmp h
end Cert.Pre_ln_finite.Read

namespace Cert.LnClaim
open Cert.LnMath Cert.Kernel12Ideal.Norm Cert.Pre_ln_finite Cert.ScanMath

/-- The reference runs and keeps its arguments. -/
theorem run : Cert.quiescent_Reference12Ideal (hReference12Ideal := Cert.Reference12Ideal.Gen.facts) := by
  intro m g _
  hlo_run
  · exact fun _ => by simp only [and_self]
  · exact sem_eq_zero_of_no_sems (by decide) _

/-- A value handed to a function of the reference is the buffer's contents. -/
theorem arg_d (h1 h2 h3) (v : FVec Ideal Cert.Reference12Ideal.S8192x512 .f32) :
    (StableHlo.TRef.of (T := ⟨Cert.Reference12Ideal.S8192x512, .f32⟩) Cert.Reference12Ideal.main_arg0 h1 h2 h3).ofBuf (Val := Elt Ideal) v = v := rfl
/-- The same of the norm's output. -/
theorem arg_y (h1 h2 h3) (v : FVec Ideal Cert.Reference12Ideal.S8192x512 .f32) :
    (StableHlo.TRef.of (T := ⟨Cert.Reference12Ideal.S8192x512, .f32⟩) Cert.Reference12Ideal.main_v34 h1 h2 h3).ofBuf (Val := Elt Ideal) v = v := rfl
/-- And a function's result is what its buffer holds. -/
theorem res_v (h1 h2 h3) (v : FVec Ideal Cert.Reference12Ideal.S8192x512 .f32) :
    (StableHlo.TRef.of (T := ⟨Cert.Reference12Ideal.S8192x512, .f32⟩) Cert.Reference12Ideal.main_v36 h1 h2 h3).toBuf (Val := Elt Ideal) v = v := rfl

variable (m : (ℓ : Loc Cert.Kernel12Ideal.nD Cert.Kernel12Ideal.τ Cert.Kernel12Ideal.sig) → Buf (Elt Ideal) ℓ) (c : Dev Cert.Kernel12Ideal.nD)

/-- The first row of sums as the host takes it after the kernel. -/
theorem tail0 : Pipeline.afterTail₀ Cert.Kernel12Ideal.cfgs (Cert.Kernel12Ideal.Gen.dats m) 0 (Cert.Kernel12Ideal.Gen.V0 m)
      [Cert.Kernel12Ideal.Gen.hostOps1] c Cert.Kernel12Ideal.main_v1
    = fun i : Cert.Kernel12Ideal.S1x512.Idx => ∑ r : Fin 8192, dy m c r (i 1) * nrm (fun k => aX m c (ix2 r k)) (i 1) := by
  unfold Pipeline.afterTail₀ Cert.Kernel12Ideal.Gen.hostOps1
  simp only [List.flatten_cons, List.flatten_nil, List.append_nil]
  after_results
  erw [Pipeline.withArrays_arr Cert.Kernel12Ideal.spec0 (by decide) c _ _ 5]
  erw [array5 m c]
  funext i
  refine Eq.trans ?_ (sums0 m c (i 1))
  pointwise

/-- The second row of sums. -/
theorem tail1 : Pipeline.afterTail₀ Cert.Kernel12Ideal.cfgs (Cert.Kernel12Ideal.Gen.dats m) 0 (Cert.Kernel12Ideal.Gen.V0 m)
      [Cert.Kernel12Ideal.Gen.hostOps1] c Cert.Kernel12Ideal.main_v2
    = fun i : Cert.Kernel12Ideal.S1x512.Idx => ∑ r : Fin 8192, dy m c r (i 1) := by
  unfold Pipeline.afterTail₀ Cert.Kernel12Ideal.Gen.hostOps1
  simp only [List.flatten_cons, List.flatten_nil, List.append_nil]
  after_results
  erw [Pipeline.withArrays_arr Cert.Kernel12Ideal.spec0 (by decide) c _ _ 5]
  erw [array5 m c]
  funext i
  refine Eq.trans ?_ (sums1 m c (i 1))
  pointwise

/-- The third row of sums. -/
theorem tail2 : Pipeline.afterTail₀ Cert.Kernel12Ideal.cfgs (Cert.Kernel12Ideal.Gen.dats m) 0 (Cert.Kernel12Ideal.Gen.V0 m)
      [Cert.Kernel12Ideal.Gen.hostOps1] c Cert.Kernel12Ideal.main_v3
    = fun i : Cert.Kernel12Ideal.S1x512.Idx => ∑ r : Fin 8192, dx m c r (i 1) := by
  unfold Pipeline.afterTail₀ Cert.Kernel12Ideal.Gen.hostOps1
  simp only [List.flatten_cons, List.flatten_nil, List.append_nil]
  after_results
  erw [Pipeline.withArrays_arr Cert.Kernel12Ideal.spec0 (by decide) c _ _ 5]
  erw [array5 m c]
  funext i
  refine Eq.trans ?_ (sums2 m c (i 1))
  pointwise

/-- With real arguments: the gradient of the norm's output as differentiation writes it, and it is real. -/
theorem dy_eq [Cert.Pre_ln_finite.Facts] (h : Cert.Pre_ln_finite.fn (F := Ideal) (aD m c) (aX m c) (aW m c) (aB m c) = fun _ => 1#1)
    (r : Fin 8192) (l : Fin 512) :
    swish' (pre (fun k => aX m c (ix2 r k)) (fun k => aW m c (ix2 0 k)) (fun k => aB m c (ix2 0 k)) l) (aD m c (ix2 r l)) = dy m c r l
      ∧ Fin' (dy m c r l) := by
  exact swish_eq (pre_fin (fun k => Read.fin1 h r k) (fun k => Read.fin2 h k) (fun k => Read.fin3 h k) l) (Read.fin0 h r l)

/-- With real arguments: the gradient of the convolution's output as differentiation writes it. -/
theorem dx_eq [Cert.Pre_ln_finite.Facts] (h : Cert.Pre_ln_finite.fn (F := Ideal) (aD m c) (aX m c) (aW m c) (aB m c) = fun _ => 1#1)
    (r : Fin 8192) (l : Fin 512) :
    lnVjp (fun k => aX m c (ix2 r k)) (fun k => swish' (pre (fun k => aX m c (ix2 r k)) (fun k => aW m c (ix2 0 k)) (fun k => aB m c (ix2 0 k)) k)
      (aD m c (ix2 r k)) * aW m c (ix2 0 k)) l = dx m c r l := by
  simp only [(dy_eq m c h _ _).1]
  exact lnBack_eq (fun k => Read.fin1 h r k) (fun k => (dy_eq m c h r k).2.mul (Read.fin2 h k)) l

set_option maxHeartbeats 1600000 in
/-- Kernel and reference leave the same four gradients. -/
theorem same : Cert.algebraic_Kernel12Ideal_Reference12Ideal_pre_ln_finite (hKernel12Ideal := Cert.Kernel12Ideal.Gen.facts)
    (hReference12Ideal := Cert.Reference12Ideal.Gen.facts) (hPre_ln_finite := Cert.Pre_ln_finite.Read.facts) := by
  letI := Cert.Pre_ln_finite.Read.facts
  intro m g m' g' hp hagree
  repeat' (refine Exists.intro ?_ ?_)
  rotate_right
  refine And.intro ?_ ?_
  · run_from Cert.Kernel12Ideal.Gen.run_main m g
  · hlo_run
    · simp only [StableHlo.TRef.ofBuf_toBuf]
      simp only [arg_d, arg_y, res_v]
      refine Eq.trans ?_ (array4 m c).symm
      funext i
      refine Eq.trans ?_ (dx_eq m c (hp c) (i 0) (i 1))
      unfold lnVjp LnMath.part swish' gate' pre nrm LnMath.inv var cen mid aD aX aW aB
      pointwise
      simp only [Fin.sum_univ_one]
    · simp only [StableHlo.TRef.ofBuf_toBuf]
      simp only [arg_d, arg_y, res_v]
      refine Eq.trans ?_ (tail0 m c).symm
      funext i
      refine Eq.trans ?_ (Finset.sum_congr rfl fun r _ => congrArg (· * _) (dy_eq m c (hp c) r (i 1)).1)
      unfold swish' gate' pre nrm LnMath.inv var cen mid aD aX aW aB
      pointwise
      rw [Fin.sum_univ_one]
      exact Finset.sum_congr rfl fun _ _ => mul_comm _ _
    · simp only [StableHlo.TRef.ofBuf_toBuf]
      simp only [arg_d, arg_y, res_v]
      refine Eq.trans ?_ (tail1 m c).symm
      funext i
      refine Eq.trans ?_ (Finset.sum_congr rfl fun r _ => (dy_eq m c (hp c) r (i 1)).1)
      unfold swish' gate' pre nrm LnMath.inv var cen mid aD aX aW aB
      pointwise
      simp only [Fin.sum_univ_one]
    · simp only [StableHlo.TRef.ofBuf_toBuf]
      simp only [arg_d, arg_y, res_v]
      refine Eq.trans ?_ (tail2 m c).symm
      funext i
      refine Eq.trans ?_ (Finset.sum_congr rfl fun r _ => dx_eq m c (hp c) r (i 1))
      unfold lnVjp LnMath.part swish' gate' pre nrm LnMath.inv var cen mid aD aX aW aB
      pointwise
      simp only [Fin.sum_univ_one]
end Cert.LnClaim

end
-- ==== Proof.LossHead.lean ====
module
public import proofs.«01_k».proof.Proof.Gen.Kernel13Ideal.Frame
public import proofs.«01_k».proof.Proof.NormMath
public import Idealize.ShloMosaic.Lib.Pipeline.ValueKit
/-! The loss and its gradients through the last norm, as the kernel leaves them. -/
@[expose] public section
noncomputable section
open Idealize.ShloMosaic Idealize.ShloMosaic.TcCoe Idealize.SL.Sem
open Idealize.ShloMosaic.Pipeline (Dat)
namespace Cert.Kernel13Ideal.Loss
open Cert.Kernel13Ideal Cert.Kernel13Ideal.Gen Cert.NormMath

variable (m : (ℓ : Loc nD τ sig) → Buf (Elt Ideal) ℓ)

/-- Which block each window takes at a point. -/
theorem idx : ∀ t : Fin cfg0.N, win0_0.index t = ![t.val, 0] ∧ win0_1.index t = ![0, 0] ∧ win0_2.index t = ![t.val, 0]
    ∧ win0_3.index t = ![t.val, 0] ∧ win0_4.index t = ![0, 0] ∧ win0_5.index t = ![0, 0] :=
  (by decide +kernel : ∀ t : Fin grid0.N, _)

/-- The norm's input. -/
abbrev aX (c : Dev nD) : FVec Ideal S8192x2048 .f32 := m ((c : Thread nD τ).loc main_arg0)
/-- The norm's weights. -/
abbrev aW (c : Dev nD) : FVec Ideal S1x2048 .f32 := m ((c : Thread nD τ).loc main_arg1)
/-- The targets. -/
abbrev aT (c : Dev nD) : FVec Ideal S8192x2048 .f32 := m ((c : Thread nD τ).loc main_arg2)

/-- A block's gradient of the norm's input. -/
theorem block (x : FVec Ideal S256x2048 .f32) (w : FVec Ideal S1x2048 .f32) (t : FVec Ideal S256x2048 .f32) (j : S256x2048.Idx) :
    (k0_pay1 (k0_pay7 x) (k0_pay12 x w t) (k0_pay13 x w t) : FVec Ideal S256x2048 .f32) j
      = back0 (fun k => x (ix2 (j 0) k)) (fun k => lossSlope (err (fun k => x (ix2 (j 0) k)) (fun k => w (ix2 0 k)) (fun k => t (ix2 (j 0) k)) k))
        (fun k => w (ix2 0 k)) (j 1) := by
  unfold back0 lossSlope err scale
  pointwise [k0_pay1, k0_pay13, k0_pay12, k0_pay11, k0_pay9, k0_pay8, k0_pay7]

/-- What a block adds to the eight rows of the weights' gradient. -/
theorem added (x : FVec Ideal S256x2048 .f32) (w : FVec Ideal S1x2048 .f32) (t : FVec Ideal S256x2048 .f32) (a : FVec Ideal S8x2048 .f32)
    (j : S8x2048.Idx) : (k0_pay2 (k0_pay8 x) (k0_pay11 x w t) a : FVec Ideal S8x2048 .f32) j = a j
      + ∑ s : Fin 32, lossSlope (err (fun k => x (ix2 ⟨s.val * 8 + (j 0).val, lt256 s (j 0)⟩ k)) (fun k => w (ix2 0 k))
          (fun k => t (ix2 ⟨s.val * 8 + (j 0).val, lt256 s (j 0)⟩ k)) (j 1))
        * (x (ix2 ⟨s.val * 8 + (j 0).val, lt256 s (j 0)⟩ (j 1)) * scale fun k => x (ix2 ⟨s.val * 8 + (j 0).val, lt256 s (j 0)⟩ k)) := by
  unfold lossSlope err scale
  pointwise [k0_pay2, k0_pay11, k0_pay9, k0_pay8, k0_pay7]

/-- What a block adds to the eight rows of squares. -/
theorem squares (x : FVec Ideal S256x2048 .f32) (w : FVec Ideal S1x2048 .f32) (t : FVec Ideal S256x2048 .f32) (a : FVec Ideal S8x2048 .f32)
    (j : S8x2048.Idx) : (k0_pay10 x w t a : FVec Ideal S8x2048 .f32) j = a j
      + ∑ s : Fin 32, square (err (fun k => x (ix2 ⟨s.val * 8 + (j 0).val, lt256 s (j 0)⟩ k)) (fun k => w (ix2 0 k))
          (fun k => t (ix2 ⟨s.val * 8 + (j 0).val, lt256 s (j 0)⟩ k)) (j 1)) := by
  unfold square err scale
  pointwise [k0_pay10, k0_pay9, k0_pay8, k0_pay7]

/-- The rows carried start at zero. -/
theorem start (j : S8x2048.Idx) : (k0_pay5 (F := Ideal)) j = 0 := by
  pointwise [k0_pay5]

/-- The rows of squares start at zero. -/
theorem start' (j : S8x2048.Idx) : (k0_pay6 (F := Ideal)) j = 0 := by
  pointwise [k0_pay6]

/-- The eight rows' sum. -/
theorem rows (a : FVec Ideal S8x2048 .f32) (j : S1x2048.Idx) : (k0_pay3 a : FVec Ideal S1x2048 .f32) j = ∑ b : Fin 8, a (ix2 b (j 1)) := by
  pointwise [k0_pay3]

/-- The loss from the eight rows of squares. -/
theorem total (a : FVec Ideal S8x2048 .f32) (j : S1x128.Idx) : (k0_pay4 a : FVec Ideal S1x128 .f32) j
    = (∑ l : Fin 2048, ∑ b : Fin 8, a (ix2 b l)) * Ideal.ofBits .f32 0x39800000#32 := by
  pointwise [k0_pay4]

/-- The block of the input's gradient after a point. -/
theorem after_dx (c : Dev nD) (t : Fin cfg0.N) : (outsAt0 m c t.val t.isLt).1
    = k0_pay1 (k0_pay7 (iblk m c 0 t)) (k0_pay12 (iblk m c 0 t) (iblk m c 1 t) (iblk m c 2 t)) (k0_pay13 (iblk m c 0 t) (iblk m c 1 t) (iblk m c 2 t)) := by
  by_cases h0 : t.val % 32 = 0
  · rw [outsAt0_A m c t h0 (by omega)]
    dsimp only
    frame_out
  · by_cases h1 : t.val % 32 = 31
    · rw [outsAt0_C m c t h0 h1]
      dsimp only
      frame_out
    · rw [outsAt0_B m c t h0 h1]
      dsimp only
      frame_out

/-- The input's gradient. -/
theorem array3 (c : Dev nD) : (dats m 0 c).arrAt 3 cfg0.N = fun i : S8192x2048.Idx =>
    back0 (fun k => aX m c (ix2 (i 0) k))
      (fun k => lossSlope (err (fun k => aX m c (ix2 (i 0) k)) (fun k => aW m c (ix2 0 k)) (fun k => aT m c (ix2 (i 0) k)) k))
      (fun k => aW m c (ix2 0 k)) (i 1) := by
  refine (dats m 0 c).arrAt_eq_of_covers 3 _ (by decide +kernel) fun t _ y => ?_
  blk_simp
  rw [after0_3, after_dx, block]
  unfold aX aW aT
  blk_point [iblk, V, idx t]

/-- What a point adds to the rows of the weights' gradient. -/
def term (c : Dev nD) (t : Fin cfg0.N) (j : S8x2048.Idx) : EReal :=
  ∑ s : Fin 32, lossSlope (err (fun k => (show FVec Ideal S256x2048 .f32 from iblk m c 0 t) (ix2 ⟨s.val * 8 + (j 0).val, lt256 s (j 0)⟩ k))
      (fun k => (show FVec Ideal S1x2048 .f32 from iblk m c 1 t) (ix2 0 k))
      (fun k => (show FVec Ideal S256x2048 .f32 from iblk m c 2 t) (ix2 ⟨s.val * 8 + (j 0).val, lt256 s (j 0)⟩ k)) (j 1))
    * ((show FVec Ideal S256x2048 .f32 from iblk m c 0 t) (ix2 ⟨s.val * 8 + (j 0).val, lt256 s (j 0)⟩ (j 1))
      * scale fun k => (show FVec Ideal S256x2048 .f32 from iblk m c 0 t) (ix2 ⟨s.val * 8 + (j 0).val, lt256 s (j 0)⟩ k))

/-- What a point adds to the rows of squares. -/
def term' (c : Dev nD) (t : Fin cfg0.N) (j : S8x2048.Idx) : EReal :=
  ∑ s : Fin 32, square (err (fun k => (show FVec Ideal S256x2048 .f32 from iblk m c 0 t) (ix2 ⟨s.val * 8 + (j 0).val, lt256 s (j 0)⟩ k))
      (fun k => (show FVec Ideal S1x2048 .f32 from iblk m c 1 t) (ix2 0 k))
      (fun k => (show FVec Ideal S256x2048 .f32 from iblk m c 2 t) (ix2 ⟨s.val * 8 + (j 0).val, lt256 s (j 0)⟩ k)) (j 1))

/-- At the last point the weights' gradient is the sum of the rows carried. -/
theorem last_eq (c : Dev nD) (t : Fin cfg0.N) (h : t.val % 32 = 31) (j : S1x2048.Idx) :
    (outsAt0 m c t.val t.isLt).2.1 j = ∑ b : Fin 8, (outsAt0 m c t.val t.isLt).2.2.2.1 (ix2 b (j 1)) := by
  rw [outsAt0_C m c t (by omega) h]
  dsimp only
  frame_out
  rw [rows]

/-- At the last point the loss is the sum of the rows of squares, scaled. -/
theorem last_eq' (c : Dev nD) (t : Fin cfg0.N) (h : t.val % 32 = 31) (j : S1x128.Idx) :
    (outsAt0 m c t.val t.isLt).2.2.1 j
      = (∑ l : Fin 2048, ∑ b : Fin 8, (outsAt0 m c t.val t.isLt).2.2.2.2 (ix2 b l)) * Ideal.ofBits .f32 0x39800000#32 := by
  rw [outsAt0_C m c t (by omega) h]
  dsimp only
  frame_out
  rw [total]

/-- The weights' gradient. -/
theorem array4 (c : Dev nD) : (dats m 0 c).arrAt 4 cfg0.N = fun i : S1x2048.Idx =>
    ∑ r : Fin 8192, lossSlope (err (fun k => aX m c (ix2 r k)) (fun k => aW m c (ix2 0 k)) (fun k => aT m c (ix2 r k)) (i 1))
      * (aX m c (ix2 r (i 1)) * scale fun k => aX m c (ix2 r k)) := by
  refine (dats m 0 c).arrAt_eq_of_covers 4 _ (by decide +kernel) fun t hf y => ?_
  have h2 : t.val % 32 = 32 - 1 := (flush0_4 t).mp hf
  blk_simp
  rw [after0_4]
  refine Eq.trans ?_ (sum_groups32 _)
  refine (last_eq m c t h2 y).trans ?_
  refine Finset.sum_congr rfl fun b _ => ?_
  rw [Pipeline.eq_sum_fin_of_reset_step_apply_of_flush (fun n h => (outsAt0 m c n h).2.2.2.1) 32 (fun _ => 0) (term m c)
    (fun t h j => by rw [outsAt0_A m c t h (by omega)]; dsimp only; frame_out; rw [added, start]; rfl)
    (fun t h j => by
      by_cases h1 : t.val % 32 = 31
      · rw [outsAt0_C m c t h h1]; dsimp only; frame_out; rw [added]
        exact congrArg (· + _) (congrFun ((Memref.isWhole_whole cc0_scratch0).read_unread _) j)
      · rw [outsAt0_B m c t h h1]; dsimp only; frame_out; rw [added]
        exact congrArg (· + _) (congrFun ((Memref.isWhole_whole cc0_scratch0).read_unread _) j))
    t h2 _, zero_add]
  refine Finset.sum_congr rfl fun s _ => Finset.sum_congr rfl fun k _ => ?_
  unfold aX aW aT
  blk_point [iblk, V, idx t, idx ⟨_, Pipeline.run_point_lt_of_flush t h2 s⟩]

/-- The loss, in every lane. -/
theorem array5 (c : Dev nD) : (dats m 0 c).arrAt 5 cfg0.N = fun _ : S1x128.Idx =>
    (∑ l : Fin 2048, ∑ r : Fin 8192, square (err (fun k => aX m c (ix2 r k)) (fun k => aW m c (ix2 0 k)) (fun k => aT m c (ix2 r k)) l))
      * Ideal.ofBits .f32 0x39800000#32 := by
  refine (dats m 0 c).arrAt_eq_of_covers 5 _ (by decide +kernel) fun t hf y => ?_
  have h2 : t.val % 32 = 32 - 1 := (flush0_5 t).mp hf
  blk_simp
  rw [after0_5]
  refine (last_eq' m c t h2 y).trans ?_
  refine congrArg (· * _) (Finset.sum_congr rfl fun l _ => ?_)
  refine Eq.trans ?_ (sum_groups32 _)
  refine Finset.sum_congr rfl fun b _ => ?_
  rw [Pipeline.eq_sum_fin_of_reset_step_apply_of_flush (fun n h => (outsAt0 m c n h).2.2.2.2) 32 (fun _ => 0) (term' m c)
    (fun t h j => by rw [outsAt0_A m c t h (by omega)]; dsimp only; frame_out; rw [squares, start']; rfl)
    (fun t h j => by
      by_cases h1 : t.val % 32 = 31
      · rw [outsAt0_C m c t h h1]; dsimp only; frame_out; rw [squares]
        exact congrArg (· + _) (congrFun ((Memref.isWhole_whole cc0_scratch1).read_unread _) j)
      · rw [outsAt0_B m c t h h1]; dsimp only; frame_out; rw [squares]
        exact congrArg (· + _) (congrFun ((Memref.isWhole_whole cc0_scratch1).read_unread _) j))
    t h2 _, zero_add]
  refine Finset.sum_congr rfl fun s _ => Finset.sum_congr rfl fun k _ => ?_
  unfold aX aW aT
  blk_point [iblk, V, idx t, idx ⟨_, Pipeline.run_point_lt_of_flush t h2 s⟩]

end Cert.Kernel13Ideal.Loss

end
-- ==== Proof.LossClaim.lean ====
module
public import proofs.«01_k».proof.Defs
public import Idealize.ShloMosaic.Lib.Claim
public import Idealize.ShloMosaic.Lib.Pointwise
public import proofs.«01_k».proof.Proof.Finite
public import proofs.«01_k».proof.Proof.LossHead
public import proofs.«01_k».proof.Proof.Gen.Reference13Ideal
/-! The claims on the loss and its gradients. -/
@[expose] public section
set_option maxRecDepth 16384
noncomputable section
open Idealize.ShloMosaic Idealize.ShloMosaic.TcCoe Idealize.SL.Sem

namespace Cert.Pre_loss_finite.Read
open Cert.Pre_loss_finite Cert.ScanMath Cert.Pre_finite.Read

/-- The side conditions of the precondition's operations. -/
theorem facts : Cert.Pre_loss_finite.Facts where
  concatenates_S8192x2048_S1x2048_S8192x2048_S16385x2048_d0 := by decide
  bcast_S_S16385x2048 := by decide

variable [Cert.Pre_loss_finite.Facts]
variable {x0 : FVec Ideal S8192x2048 .f32} {x1 : FVec Ideal S1x2048 .f32} {x2 : FVec Ideal S8192x2048 .f32}

/-- Every element of argument 0 is real. -/
theorem fin0 (h : Cert.Pre_loss_finite.fn (F := Ideal) x0 x1 x2 = fun _ => 1#1) (r : Fin 8192) (l : Fin 2048) : Fin' (x0 (ix2 r l)) := by
  have h := congrFun h (ix2 ⟨0 + r.val, by omega⟩ l)
  pointwise [Cert.Pre_loss_finite.fn] at h
  haveI := Cert.Pre_finite.Read.facts
  exact fin_of_cmp h

/-- Every element of argument 1 is real. -/
theorem fin1 (h : Cert.Pre_loss_finite.fn (F := Ideal) x0 x1 x2 = fun _ => 1#1) (l : Fin 2048) : Fin' (x1 (ix2 0 l)) := by
  have h := congrFun h (ix2 ⟨8192, by omega⟩ l)
  pointwise [Cert.Pre_loss_finite.fn] at h
  haveI := Cert.Pre_finite.Read.facts
  exact fin_of_cmp h

/-- Every element of argument 2 is real. -/
theorem fin2 (h : Cert.Pre_loss_finite.fn (F := Ideal) x0 x1 x2 = fun _ => 1#1) (r : Fin 8192) (l : Fin 2048) : Fin' (x2 (ix2 r l)) := by
  have h := congrFun h (ix2 ⟨8193 + r.val, by omega⟩ l)
  pointwise [Cert.Pre_loss_finite.fn] at h
  rw [dif_neg (by omega), dif_neg (by omega)] at h
  haveI := Cert.Pre_finite.Read.facts
  refine fin_of_cmp (Eq.trans (congrArg (fun i => BitVec.ofBool (decide (FloatOps.absf (F := Ideal) (φ := .f32) (x2 i) < Ideal.ofBits FTy.f32 2139095040#32))) ?_) h)
  exact congrArg (ix2 · l) (Fin.ext (by dsimp only; omega))
end Cert.Pre_loss_finite.Read

namespace Cert.LossClaim
open Cert.NormMath Cert.Kernel13Ideal.Loss Cert.Pre_loss_finite

/-- The reference runs and keeps its arguments. -/
theorem run : Cert.quiescent_Reference13Ideal (hReference13Ideal := Cert.Reference13Ideal.Gen.facts) := by
  intro m g _
  hlo_run
  · exact fun _ => by simp only [and_self]
  · exact sem_eq_zero_of_no_sems (by decide) _

/-- The loss as the host reads it after the kernel: its first lane. -/
theorem tail (m : (ℓ : Loc Cert.Kernel13Ideal.nD Cert.Kernel13Ideal.τ Cert.Kernel13Ideal.sig) → Buf (Elt Ideal) ℓ) (c : Dev Cert.Kernel13Ideal.nD) :
    Pipeline.afterTail₀ Cert.Kernel13Ideal.cfgs (Cert.Kernel13Ideal.Gen.dats m) 0 (Cert.Kernel13Ideal.Gen.V0 m)
      [Cert.Kernel13Ideal.Gen.hostOps1] c Cert.Kernel13Ideal.main_v2
    = fun _ : Cert.Kernel13Ideal.S_.Idx => (∑ l : Fin 2048, ∑ r : Fin 8192, square (err (fun k => aX m c (ix2 r k)) (fun k => aW m c (ix2 0 k))
        (fun k => aT m c (ix2 r k)) l)) * Ideal.ofBits .f32 0x39800000#32 := by
  unfold Pipeline.afterTail₀ Cert.Kernel13Ideal.Gen.hostOps1
  simp only [List.flatten_cons, List.flatten_nil, List.append_nil]
  after_results
  erw [Pipeline.withArrays_arr Cert.Kernel13Ideal.spec0 (by decide) c _ _ 5]
  erw [array5 m c]
  funext i
  pointwise

set_option maxHeartbeats 1600000 in
/-- Kernel and reference leave the same loss and the same two gradients. -/
theorem same : Cert.algebraic_Kernel13Ideal_Reference13Ideal_pre_loss_finite (hKernel13Ideal := Cert.Kernel13Ideal.Gen.facts)
    (hReference13Ideal := Cert.Reference13Ideal.Gen.facts) (hPre_loss_finite := Cert.Pre_loss_finite.Read.facts) := by
  letI := Cert.Pre_loss_finite.Read.facts
  intro m g m' g' hp hagree
  repeat' (refine Exists.intro ?_ ?_)
  rotate_right
  refine And.intro ?_ ?_
  · run_from Cert.Kernel13Ideal.Gen.run_main m g
  · hlo_run
    · refine Eq.trans ?_ (array3 m c).symm
      funext i
      have hx := fun k => Read.fin0 (hp c) (i 0) k
      have hw := fun k => Read.fin1 (hp c) k
      have he := err_fin hx hw fun k => Read.fin2 (hp c) (i 0) k
      refine Eq.trans ?_ (back0_eq hx (fun k => lossSlope_fin (he k)) hw (i 1))
      simp only [← lossSlope_eq (he _)]
      unfold vjp0 lossSlope' err scale
      pointwise
      rw [Fin.sum_univ_one]
    · refine Eq.trans ?_ (array4 m c).symm
      funext i
      refine Eq.trans ?_ (Finset.sum_congr rfl fun r _ => congrArg (· * _) (lossSlope_eq (err_fin (fun k => Read.fin0 (hp c) r k)
        (fun k => Read.fin1 (hp c) k) (fun k => Read.fin2 (hp c) r k) (i 1))))
      unfold lossSlope' err scale
      pointwise
      rw [Fin.sum_univ_one]
      exact Finset.sum_congr rfl fun _ _ => mul_comm _ _
    · refine Eq.trans ?_ (tail m c).symm
      funext i
      refine Eq.trans ?_ (loss_eq fun r l => ((err_fin (fun k => Read.fin0 (hp c) r k)
        (fun k => Read.fin1 (hp c) k) (fun k => Read.fin2 (hp c) r k) l).mul (err_fin (fun k => Read.fin0 (hp c) r k)
        (fun k => Read.fin1 (hp c) k) (fun k => Read.fin2 (hp c) r k) l)))
      unfold square err scale aX aW aT
      pointwise
end Cert.LossClaim

end
-- ==== Proof.AdamStep.lean ====
module
public import Idealize.ShloMosaic.PureOps.Ideal
public import Idealize.ShloMosaic.PureOps.IdealRules
/-! One AdamW step of one weight, on the extended reals. -/
@[expose] public section
noncomputable section
open Idealize.ShloMosaic
namespace Cert.AdamStep

/-- The new first moment. -/
def newM (g a : EReal) : EReal := Ideal.ofBits FTy.f32 1063675494#32 * a + Ideal.ofBits FTy.f32 1036831949#32 * g

/-- The new second moment. -/
def newV (g v : EReal) : EReal := Ideal.ofBits FTy.f32 1065336439#32 * v + Ideal.ofBits FTy.f32 981668463#32 * (g * g)

/-- The change of the weight, the moments corrected by multiplying with the inverses. -/
def delta (w g a v : EReal) : EReal :=
  Ideal.ofBits FTy.f32 3129152111#32 * (Ideal.div (newM g a * ((8388608 / 5463681 : ℝ) : EReal))
    (Ideal.sqrt (newV g v * ((268435456 / 2672307 : ℝ) : EReal))
      + Ideal.ofBits FTy.f32 841731191#32) + Ideal.ofBits FTy.f32 1008981770#32 * w)

/-- The first moment's correction is this rational. -/
theorem first_eq : Ideal.ofBits FTy.f32 1059503362#32 = ((5463681 / 8388608 : ℝ) : EReal) := by
  simp [Ideal.ofBits, Ideal.ieee, -EReal.coe_mul]; norm_num

/-- The second moment's correction is this rational. -/
theorem second_eq : Ideal.ofBits FTy.f32 1008933580#32 = ((2672307 / 268435456 : ℝ) : EReal) := by
  simp [Ideal.ofBits, Ideal.ieee, -EReal.coe_mul]; norm_num

/-- Dividing by the first moment's correction is multiplying with its inverse. -/
theorem div_first (x : EReal) : Ideal.div x ((5463681 / 8388608 : ℝ) : EReal) = x * ((8388608 / 5463681 : ℝ) : EReal) := by
  rw [Ideal.div_coe (by norm_num)]
  congr 2
  norm_num

/-- Dividing by the second moment's correction is multiplying with its inverse. -/
theorem div_second (x : EReal) : Ideal.div x ((2672307 / 268435456 : ℝ) : EReal)
    = x * ((268435456 / 2672307 : ℝ) : EReal) := by
  rw [Ideal.div_coe (by norm_num)]
  congr 2
  norm_num

end Cert.AdamStep
-- ==== Proof.AdamOut.lean ====
module
public import proofs.«01_k».proof.Proof.Gen.Kernel15Ideal.Frame
public import proofs.«01_k».proof.Proof.AdamStep
public import Idealize.ShloMosaic.Lib.Pipeline.ValueKit
/-! The AdamW step of the output projection's weights, as the kernel leaves it. -/
@[expose] public section
noncomputable section
open Idealize.ShloMosaic Idealize.ShloMosaic.TcCoe Idealize.SL.Sem
open Idealize.ShloMosaic.Pipeline (Dat)
namespace Cert.Kernel15Ideal.Adam
open Cert.Kernel15Ideal Cert.Kernel15Ideal.Gen Cert.AdamStep

variable (m : (ℓ : Loc nD τ sig) → Buf (Elt Ideal) ℓ)

/-- The first correction's inverse, by its name. -/
theorem inv_first : Named.named (F := Ideal) κ "inv_first" (φ := .f32) 1069843973#32 = ((8388608 / 5463681 : ℝ) : EReal) :=
  IdealRules.named_const.ideal_named_scalar _ _ _ _ rfl

/-- The second correction's inverse, by its name. -/
theorem inv_second : Named.named (F := Ideal) κ "inv_second" (φ := .f32) 1120462547#32
    = ((268435456 / 2672307 : ℝ) : EReal) :=
  IdealRules.named_const.ideal_named_scalar _ _ _ _ rfl

/-- Which block each window takes at a point. -/
theorem idx : ∀ t : Fin cfg0.N, win0_0.index t = ![t.val / 2, t.val % 2, 0] ∧ win0_1.index t = ![t.val / 2, t.val % 2, 0] ∧ win0_2.index t = ![t.val / 2, t.val % 2, 0] ∧ win0_3.index t = ![t.val / 2, t.val % 2, 0] ∧ win0_4.index t = ![t.val / 2, t.val % 2, 0] ∧ win0_5.index t = ![t.val / 2, t.val % 2, 0] ∧ win0_6.index t = ![t.val / 2, t.val % 2, 0] :=
  (by decide +kernel : ∀ t : Fin grid0.N, _)

/-- The four arguments. -/
abbrev aW (c : Dev nD) : FVec Ideal S4x512x2048 .f32 := m ((c : Thread nD τ).loc main_arg0)
/-- The gradient. -/
abbrev aG (c : Dev nD) : FVec Ideal S4x512x2048 .f32 := m ((c : Thread nD τ).loc main_arg1)
/-- The first moment. -/
abbrev aM (c : Dev nD) : FVec Ideal S4x512x2048 .f32 := m ((c : Thread nD τ).loc main_arg2)
/-- The second moment. -/
abbrev aV (c : Dev nD) : FVec Ideal S4x512x2048 .f32 := m ((c : Thread nD τ).loc main_arg3)

/-- The changes of the weights. -/
theorem array4 (c : Dev nD) : (dats m 0 c).arrAt 4 cfg0.N = fun i : S4x512x2048.Idx => delta (aW m c i) (aG m c i) (aM m c i) (aV m c i) := by
  refine (dats m 0 c).arrAt_eq_of_covers 4 _ (by decide +kernel) fun t _ y => ?_
  blk_simp
  rw [after0_4]
  frame_out
  unfold delta newM newV aW aG aM aV
  pointwise [k0_pay1, k0_pay2, k0_pay3, k0_pay4, k0_pay5, inv_first, inv_second]
  blk_point [iblk, V, idx t]

/-- The new first moments. -/
theorem array5 (c : Dev nD) : (dats m 0 c).arrAt 5 cfg0.N = fun i : S4x512x2048.Idx => newM (aG m c i) (aM m c i) := by
  refine (dats m 0 c).arrAt_eq_of_covers 5 _ (by decide +kernel) fun t _ y => ?_
  blk_simp
  rw [after0_5]
  frame_out
  unfold newM aG aM
  pointwise [k0_pay1, k0_pay2, k0_pay3, k0_pay4, k0_pay5]
  blk_point [iblk, V, idx t]

/-- The new second moments. -/
theorem array6 (c : Dev nD) : (dats m 0 c).arrAt 6 cfg0.N = fun i : S4x512x2048.Idx => newV (aG m c i) (aV m c i) := by
  refine (dats m 0 c).arrAt_eq_of_covers 6 _ (by decide +kernel) fun t _ y => ?_
  blk_simp
  rw [after0_6]
  frame_out
  unfold newV aG aV
  pointwise [k0_pay1, k0_pay2, k0_pay3, k0_pay4, k0_pay5]
  blk_point [iblk, V, idx t]

end Cert.Kernel15Ideal.Adam
-- ==== Proof.AdamPw.lean ====
module
public import proofs.«01_k».proof.Proof.Gen.Kernel16Ideal.Frame
public import proofs.«01_k».proof.Proof.AdamStep
public import Idealize.ShloMosaic.Lib.Pipeline.ValueKit
/-! The AdamW step of the pointwise projection's weights, as the kernel leaves it. -/
@[expose] public section
noncomputable section
open Idealize.ShloMosaic Idealize.ShloMosaic.TcCoe Idealize.SL.Sem
open Idealize.ShloMosaic.Pipeline (Dat)
namespace Cert.Kernel16Ideal.Adam
open Cert.Kernel16Ideal Cert.Kernel16Ideal.Gen Cert.AdamStep

variable (m : (ℓ : Loc nD τ sig) → Buf (Elt Ideal) ℓ)

/-- The first correction's inverse, by its name. -/
theorem inv_first : Named.named (F := Ideal) κ "inv_first" (φ := .f32) 1069843973#32 = ((8388608 / 5463681 : ℝ) : EReal) :=
  IdealRules.named_const.ideal_named_scalar _ _ _ _ rfl

/-- The second correction's inverse, by its name. -/
theorem inv_second : Named.named (F := Ideal) κ "inv_second" (φ := .f32) 1120462547#32
    = ((268435456 / 2672307 : ℝ) : EReal) :=
  IdealRules.named_const.ideal_named_scalar _ _ _ _ rfl

/-- Which block each window takes at a point. -/
theorem idx : ∀ t : Fin cfg0.N, win0_0.index t = ![t.val, 0, 0] ∧ win0_1.index t = ![t.val, 0, 0] ∧ win0_2.index t = ![t.val, 0, 0] ∧ win0_3.index t = ![t.val, 0, 0] ∧ win0_4.index t = ![t.val, 0, 0] ∧ win0_5.index t = ![t.val, 0, 0] ∧ win0_6.index t = ![t.val, 0, 0] :=
  (by decide +kernel : ∀ t : Fin grid0.N, _)

/-- The four arguments. -/
abbrev aW (c : Dev nD) : FVec Ideal S4x128x512 .f32 := m ((c : Thread nD τ).loc main_arg0)
/-- The gradient. -/
abbrev aG (c : Dev nD) : FVec Ideal S4x128x512 .f32 := m ((c : Thread nD τ).loc main_arg1)
/-- The first moment. -/
abbrev aM (c : Dev nD) : FVec Ideal S4x128x512 .f32 := m ((c : Thread nD τ).loc main_arg2)
/-- The second moment. -/
abbrev aV (c : Dev nD) : FVec Ideal S4x128x512 .f32 := m ((c : Thread nD τ).loc main_arg3)

/-- The changes of the weights. -/
theorem array4 (c : Dev nD) : (dats m 0 c).arrAt 4 cfg0.N = fun i : S4x128x512.Idx => delta (aW m c i) (aG m c i) (aM m c i) (aV m c i) := by
  refine (dats m 0 c).arrAt_eq_of_covers 4 _ (by decide +kernel) fun t _ y => ?_
  blk_simp
  rw [after0_4]
  frame_out
  unfold delta newM newV aW aG aM aV
  pointwise [k0_pay1, k0_pay2, k0_pay3, k0_pay4, k0_pay5, inv_first, inv_second]
  blk_point [iblk, V, idx t]

/-- The new first moments. -/
theorem array5 (c : Dev nD) : (dats m 0 c).arrAt 5 cfg0.N = fun i : S4x128x512.Idx => newM (aG m c i) (aM m c i) := by
  refine (dats m 0 c).arrAt_eq_of_covers 5 _ (by decide +kernel) fun t _ y => ?_
  blk_simp
  rw [after0_5]
  frame_out
  unfold newM aG aM
  pointwise [k0_pay1, k0_pay2, k0_pay3, k0_pay4, k0_pay5]
  blk_point [iblk, V, idx t]

/-- The new second moments. -/
theorem array6 (c : Dev nD) : (dats m 0 c).arrAt 6 cfg0.N = fun i : S4x128x512.Idx => newV (aG m c i) (aV m c i) := by
  refine (dats m 0 c).arrAt_eq_of_covers 6 _ (by decide +kernel) fun t _ y => ?_
  blk_simp
  rw [after0_6]
  frame_out
  unfold newV aG aV
  pointwise [k0_pay1, k0_pay2, k0_pay3, k0_pay4, k0_pay5]
  blk_point [iblk, V, idx t]

end Cert.Kernel16Ideal.Adam
-- ==== Proof.AdamSmall.lean ====
module
public import proofs.«01_k».proof.Proof.Gen.Kernel17Ideal.Frame
public import proofs.«01_k».proof.Proof.AdamStep
public import Idealize.ShloMosaic.Lib.Pipeline.ValueKit
/-! The AdamW step of the small weights, packed, as the kernel leaves it. -/
@[expose] public section
noncomputable section
open Idealize.ShloMosaic Idealize.ShloMosaic.TcCoe Idealize.SL.Sem
open Idealize.ShloMosaic.Pipeline (Dat)
namespace Cert.Kernel17Ideal.Adam
open Cert.Kernel17Ideal Cert.Kernel17Ideal.Gen Cert.AdamStep

variable (m : (ℓ : Loc nD τ sig) → Buf (Elt Ideal) ℓ)

/-- The first correction's inverse, by its name. -/
theorem inv_first : Named.named (F := Ideal) κ "inv_first" (φ := .f32) 1069843973#32 = ((8388608 / 5463681 : ℝ) : EReal) :=
  IdealRules.named_const.ideal_named_scalar _ _ _ _ rfl

/-- The second correction's inverse, by its name. -/
theorem inv_second : Named.named (F := Ideal) κ "inv_second" (φ := .f32) 1120462547#32
    = ((268435456 / 2672307 : ℝ) : EReal) :=
  IdealRules.named_const.ideal_named_scalar _ _ _ _ rfl

/-- Which block each window takes at a point. -/
theorem idx : ∀ t : Fin cfg0.N, win0_0.index t = ![t.val, 0, 0] ∧ win0_1.index t = ![t.val, 0, 0] ∧ win0_2.index t = ![t.val, 0, 0] ∧ win0_3.index t = ![t.val, 0, 0] ∧ win0_4.index t = ![t.val, 0, 0] ∧ win0_5.index t = ![t.val, 0, 0] ∧ win0_6.index t = ![t.val, 0, 0] :=
  (by decide +kernel : ∀ t : Fin grid0.N, _)

/-- The four arguments. -/
abbrev aW (c : Dev nD) : FVec Ideal S1x336x128 .f32 := m ((c : Thread nD τ).loc main_arg0)
/-- The gradient. -/
abbrev aG (c : Dev nD) : FVec Ideal S1x336x128 .f32 := m ((c : Thread nD τ).loc main_arg1)
/-- The first moment. -/
abbrev aM (c : Dev nD) : FVec Ideal S1x336x128 .f32 := m ((c : Thread nD τ).loc main_arg2)
/-- The second moment. -/
abbrev aV (c : Dev nD) : FVec Ideal S1x336x128 .f32 := m ((c : Thread nD τ).loc main_arg3)

/-- The changes of the weights. -/
theorem array4 (c : Dev nD) : (dats m 0 c).arrAt 4 cfg0.N = fun i : S1x336x128.Idx => delta (aW m c i) (aG m c i) (aM m c i) (aV m c i) := by
  refine (dats m 0 c).arrAt_eq_of_covers 4 _ (by decide +kernel) fun t _ y => ?_
  blk_simp
  rw [after0_4]
  frame_out
  unfold delta newM newV aW aG aM aV
  pointwise [k0_pay1, k0_pay2, k0_pay3, k0_pay4, k0_pay5, inv_first, inv_second]
  blk_point [iblk, V, idx t]

/-- The new first moments. -/
theorem array5 (c : Dev nD) : (dats m 0 c).arrAt 5 cfg0.N = fun i : S1x336x128.Idx => newM (aG m c i) (aM m c i) := by
  refine (dats m 0 c).arrAt_eq_of_covers 5 _ (by decide +kernel) fun t _ y => ?_
  blk_simp
  rw [after0_5]
  frame_out
  unfold newM aG aM
  pointwise [k0_pay2]
  blk_point [iblk, V, idx t]

/-- The new second moments. -/
theorem array6 (c : Dev nD) : (dats m 0 c).arrAt 6 cfg0.N = fun i : S1x336x128.Idx => newV (aG m c i) (aV m c i) := by
  refine (dats m 0 c).arrAt_eq_of_covers 6 _ (by decide +kernel) fun t _ y => ?_
  blk_simp
  rw [after0_6]
  frame_out
  unfold newV aG aV
  pointwise [k0_pay3]
  blk_point [iblk, V, idx t]

end Cert.Kernel17Ideal.Adam
-- ==== Proof.Updates.lean ====
module
public import proofs.«01_k».proof.Defs
public import Idealize.ShloMosaic.Lib.Claim
public import Idealize.ShloMosaic.Lib.Pointwise
public import proofs.«01_k».proof.Proof.AdamOut
public import proofs.«01_k».proof.Proof.Gen.Reference15Ideal
public import proofs.«01_k».proof.Proof.AdamPw
public import proofs.«01_k».proof.Proof.Gen.Reference16Ideal
public import proofs.«01_k».proof.Proof.AdamSmall
public import proofs.«01_k».proof.Proof.Gen.Reference17Ideal
/-! The claims on the optimiser's steps: the references run, and each kernel leaves what its reference leaves. -/
@[expose] public section
noncomputable section
namespace Cert.Updates
open Idealize.ShloMosaic Idealize.ShloMosaic.TcCoe Idealize.SL.Sem Cert.AdamStep

/-- The kernel's two named constants have the values that their table gives. -/
theorem names15 : Cert.preserves_Kernel15_Kernel15Ideal :=
  ⟨IdealRules.named_const.statement Cert.Kernel15Ideal.κ "inv_first" .f32 0x3FC48605#32 _ rfl,
    IdealRules.named_const.statement Cert.Kernel15Ideal.κ "inv_second" .f32 0x42C8E6D3#32 _ rfl⟩

/-- The reference runs and keeps its arguments. -/
theorem run15 : Cert.quiescent_Reference15Ideal (hReference15Ideal := Cert.Reference15Ideal.Gen.facts) := by
  intro m g _
  hlo_run
  · exact fun _ => by simp only [and_self]
  · exact sem_eq_zero_of_no_sems (by decide) _

/-- The step of the output projection's weights: kernel and reference leave the same three arrays. -/
theorem same15 : Cert.algebraic_Kernel15Ideal_Reference15Ideal (hKernel15Ideal := Cert.Kernel15Ideal.Gen.facts)
    (hReference15Ideal := Cert.Reference15Ideal.Gen.facts) := by
  pair_intro
  · run_from Cert.Kernel15Ideal.Gen.run_main m g
  · hlo_run
    · refine Eq.trans ?_ (Cert.Kernel15Ideal.Adam.array4 m c).symm
      funext i
      unfold delta newM newV Cert.Kernel15Ideal.Adam.aW Cert.Kernel15Ideal.Adam.aG Cert.Kernel15Ideal.Adam.aM Cert.Kernel15Ideal.Adam.aV
      pointwise [first_eq, second_eq, div_first, div_second]
    · refine Eq.trans ?_ (Cert.Kernel15Ideal.Adam.array5 m c).symm
      funext i
      unfold newM
      pointwise
    · refine Eq.trans ?_ (Cert.Kernel15Ideal.Adam.array6 m c).symm
      funext i
      unfold newV
      pointwise

/-- The kernel's two named constants have the values that their table gives. -/
theorem names16 : Cert.preserves_Kernel16_Kernel16Ideal :=
  ⟨IdealRules.named_const.statement Cert.Kernel16Ideal.κ "inv_first" .f32 0x3FC48605#32 _ rfl,
    IdealRules.named_const.statement Cert.Kernel16Ideal.κ "inv_second" .f32 0x42C8E6D3#32 _ rfl⟩

/-- The reference runs and keeps its arguments. -/
theorem run16 : Cert.quiescent_Reference16Ideal (hReference16Ideal := Cert.Reference16Ideal.Gen.facts) := by
  intro m g _
  hlo_run
  · exact fun _ => by simp only [and_self]
  · exact sem_eq_zero_of_no_sems (by decide) _

/-- The step of the pointwise projection's weights: kernel and reference leave the same three arrays. -/
theorem same16 : Cert.algebraic_Kernel16Ideal_Reference16Ideal (hKernel16Ideal := Cert.Kernel16Ideal.Gen.facts)
    (hReference16Ideal := Cert.Reference16Ideal.Gen.facts) := by
  pair_intro
  · run_from Cert.Kernel16Ideal.Gen.run_main m g
  · hlo_run
    · refine Eq.trans ?_ (Cert.Kernel16Ideal.Adam.array4 m c).symm
      funext i
      unfold delta newM newV Cert.Kernel16Ideal.Adam.aW Cert.Kernel16Ideal.Adam.aG Cert.Kernel16Ideal.Adam.aM Cert.Kernel16Ideal.Adam.aV
      pointwise [first_eq, second_eq, div_first, div_second]
    · refine Eq.trans ?_ (Cert.Kernel16Ideal.Adam.array5 m c).symm
      funext i
      unfold newM
      pointwise
    · refine Eq.trans ?_ (Cert.Kernel16Ideal.Adam.array6 m c).symm
      funext i
      unfold newV
      pointwise

/-- The kernel's two named constants have the values that their table gives. -/
theorem names17 : Cert.preserves_Kernel17_Kernel17Ideal :=
  ⟨IdealRules.named_const.statement Cert.Kernel17Ideal.κ "inv_first" .f32 0x3FC48605#32 _ rfl,
    IdealRules.named_const.statement Cert.Kernel17Ideal.κ "inv_second" .f32 0x42C8E6D3#32 _ rfl⟩

/-- The reference runs and keeps its arguments. -/
theorem run17 : Cert.quiescent_Reference17Ideal (hReference17Ideal := Cert.Reference17Ideal.Gen.facts) := by
  intro m g _
  hlo_run
  · exact fun _ => by simp only [and_self]
  · exact sem_eq_zero_of_no_sems (by decide) _

/-- The step of the small weights: kernel and reference leave the same three arrays. -/
theorem same17 : Cert.algebraic_Kernel17Ideal_Reference17Ideal (hKernel17Ideal := Cert.Kernel17Ideal.Gen.facts)
    (hReference17Ideal := Cert.Reference17Ideal.Gen.facts) := by
  pair_intro
  · run_from Cert.Kernel17Ideal.Gen.run_main m g
  · hlo_run
    · refine Eq.trans ?_ (Cert.Kernel17Ideal.Adam.array4 m c).symm
      funext i
      unfold delta newM newV Cert.Kernel17Ideal.Adam.aW Cert.Kernel17Ideal.Adam.aG Cert.Kernel17Ideal.Adam.aM Cert.Kernel17Ideal.Adam.aV
      pointwise [first_eq, second_eq, div_first, div_second]
    · refine Eq.trans ?_ (Cert.Kernel17Ideal.Adam.array5 m c).symm
      funext i
      unfold newM
      pointwise
    · refine Eq.trans ?_ (Cert.Kernel17Ideal.Adam.array6 m c).symm
      funext i
      unfold newV
      pointwise

end Cert.Updates

end
-- ==== Proof.AttMath.lean ====
module
public import proofs.«01_k».proof.Proof.Math
/-! The mathematics of one query's attention: scores over 256 keys of which some are masked, their softmax, the mean of the
values and the logarithm of the weights' sum. -/
@[expose] public section
noncomputable section
open Idealize.ShloMosaic
namespace Cert.AttMath
open Cert.ScanMath

/-- The scores of a query over 256 keys: the inner product where the key is seen, minus infinity elsewhere. -/
def score (ok : Fin 256 → Prop) (q : Fin 64 → EReal) (K : Fin 256 → Fin 64 → EReal) (k : Fin 256) : EReal :=
  open Classical in if ok k then ∑ e, q e * K k e else ⊥

/-- The greatest score. -/
def top (s : Fin 256 → EReal) : EReal := Finset.fold max ⊥ s Finset.univ

/-- A key's weight. -/
def weight (s : Fin 256 → EReal) (k : Fin 256) : EReal := Ideal.exp (s k - top s)

/-- The weights' sum. -/
def total (s : Fin 256 → EReal) : EReal := ∑ k, weight s k

/-- The mean of the values, each weight divided by the sum. -/
def mean (s v : Fin 256 → EReal) : EReal := ∑ k, Ideal.div (weight s k) (total s) * v k

/-- The same, each weight multiplied by the sum's inverse. -/
def mean' (s v : Fin 256 → EReal) : EReal := ∑ k, weight s k * Ideal.div 1 (total s) * v k

/-- The logarithm of the sum of the scores' exponentials. -/
def lse (s : Fin 256 → EReal) : EReal := top s + Ideal.log (total s)

/-- Keys that are not seen do not matter to the scores. -/
theorem score_congr {ok ok' : Fin 256 → Prop} {q q' : Fin 64 → EReal} {K K' : Fin 256 → Fin 64 → EReal} (h : ∀ k, ok k ↔ ok' k)
    (hq : ∀ e, q e = q' e) (hK : ∀ k, ok k → ∀ e, K k e = K' k e) : score ok q K = score ok' q' K' := by
  funext k
  unfold score
  by_cases hk : ok k
  · rw [if_pos hk, if_pos ((h k).mp hk)]
    exact Finset.sum_congr rfl fun e _ => by rw [hq, hK k hk]
  · rw [if_neg hk, if_neg fun h' => hk ((h k).mpr h')]

/-- A key that is not seen has weight zero. -/
theorem weight_zero {ok : Fin 256 → Prop} {q : Fin 64 → EReal} {K : Fin 256 → Fin 64 → EReal} {k : Fin 256} (h : ¬ok k) :
    weight (score ok q K) k = 0 := by
  unfold weight
  rw [show score ok q K k = ⊥ from if_neg h, EReal.bot_sub, Ideal.exp_bot]

/-- Values of keys that are not seen do not matter to the mean. -/
theorem mean'_congr {ok : Fin 256 → Prop} {q : Fin 64 → EReal} {K : Fin 256 → Fin 64 → EReal} {v v' : Fin 256 → EReal}
    (h : ∀ k, ok k → v k = v' k) : mean' (score ok q K) v = mean' (score ok q K) v' := by
  refine Finset.sum_congr rfl fun k _ => ?_
  by_cases hk : ok k
  · rw [h k hk]
  · rw [weight_zero hk, zero_mul, zero_mul, zero_mul]

/-- No weight is negative. -/
theorem exp_nonneg (x : EReal) : 0 ≤ Ideal.exp x := by
  induction x with
  | bot => exact le_refl _
  | top => exact le_top
  | coe r => exact EReal.coe_nonneg.mpr (Real.exp_pos r).le

/-- Where some key is seen and every score of a seen key is real, the weights' sum is not zero. -/
theorem total_ne_zero {ok : Fin 256 → Prop} {q : Fin 64 → EReal} {K : Fin 256 → Fin 64 → EReal} (hq : ∀ e, Fin' (q e))
    (hK : ∀ k, ok k → ∀ e, Fin' (K k e)) {d : Fin 256} (hd : ok d) : total (score ok q K) ≠ 0 := by
  have hs : ∀ k, ok k → Fin' (score ok q K k) := fun k hk => by
    unfold score
    rw [if_pos hk]
    exact Fin'.sum fun e => (hq e).mul (hK k hk e)
  have htop : top (score ok q K) ≠ ⊤ := by
    refine ne_of_lt ?_
    unfold top
    refine (Finset.fold_max_lt _).mpr ⟨bot_lt_top, fun k _ => ?_⟩
    by_cases hk : ok k
    · obtain ⟨r, hr⟩ := hs k hk
      rw [hr]
      exact EReal.coe_lt_top r
    · rw [show score ok q K k = ⊥ from if_neg hk]
      exact bot_lt_top
  obtain ⟨r, hr⟩ := hs d hd
  have hbot : top (score ok q K) ≠ ⊥ := by
    refine ne_of_gt ((EReal.bot_lt_coe r).trans_le ?_)
    rw [← hr]
    exact (Finset.le_fold_max _).mpr (Or.inr ⟨d, Finset.mem_univ d, le_rfl⟩)
  obtain ⟨M, hM⟩ : Fin' (top (score ok q K)) := ⟨_, (EReal.coe_toReal htop hbot).symm⟩
  have hw : 0 < weight (score ok q K) d := by
    unfold weight
    rw [hr, hM, ← EReal.coe_sub]
    exact EReal.coe_pos.mpr (Real.exp_pos _)
  exact ne_of_gt (hw.trans_le (Finset.single_le_sum (f := weight (score ok q K)) (fun k _ => exp_nonneg _) (Finset.mem_univ d)))

/-- The two means agree where the weights' sum is not zero. -/
theorem mean_eq {s v : Fin 256 → EReal} (h : total s ≠ 0) : mean s v = mean' s v := by
  refine Finset.sum_congr rfl fun k _ => ?_
  unfold Ideal.div
  rw [if_neg h, if_neg h, one_mul]

end Cert.AttMath

end
-- ==== Proof.AttFwd.lean ====
module
public import proofs.«01_k».proof.Proof.Gen.Kernel19Ideal.Frame
public import proofs.«01_k».proof.Proof.AttMath
public import Idealize.ShloMosaic.Lib.Pipeline.ValueKit
public import Idealize.ShloMosaic.Lib.Pointwise
/-! One block of the attention's forward call. -/
@[expose] public section
noncomputable section
open Idealize.ShloMosaic Idealize.ShloMosaic.TcCoe Idealize.SL.Sem
open Idealize.ShloMosaic.Pipeline (Dat)
namespace Cert.Kernel19Ideal.Att
open Cert.Kernel19Ideal Cert.Kernel19Ideal.Gen Cert.AttMath

/-- The masked score is minus infinity. -/
theorem mask_eq : Named.named (F := Ideal) κ "mask" (φ := .f32) 0xF149F2CA#32 = (⊥ : EReal) :=
  IdealRules.named_const.ideal_named_scalar _ _ _ _ rfl

/-- Where the largest value starts. -/
theorem low_eq : Ideal.ofBits FTy.f32 0xFF800000#32 = (⊥ : EReal) := by first | rfl | decide | simp [Ideal.ofBits]

/-- Row a of head hf of a pair, in the stack of the pair's rows. -/
abbrev row (hf : Fin 2) (a : Fin 128) : Fin 256 := ⟨128 * hf.val + a.val, by omega⟩
/-- Lane e of head hf of a pair. -/
abbrev lane (hf : Fin 2) (e : Fin 64) : Fin 128 := ⟨64 * hf.val + e.val, by omega⟩

/-- A choice by a true condition. -/
theorem pick_true {α : Type} (x y : α) : Scalar.select (BitVec.ofBool true) x y = x := rfl
/-- A choice by a false condition. -/
theorem pick_false {α : Type} (x y : α) : Scalar.select (BitVec.ofBool false) x y = y := rfl

/-- Comparing a lane with 64. -/
theorem lane_cmp : ∀ l : Fin 128, IntOp.cmpi .slt (BitVec.ofNat 32 l.val) 64#32 = BitVec.ofBool (decide (l.val < 64))
    ∧ IntOp.cmpi .sge (BitVec.ofNat 32 l.val) 64#32 = BitVec.ofBool (decide (64 ≤ l.val)) := by decide +kernel

/-- The stack of the pair's rows: each head's lanes, zero in the other's. -/
theorem stack (q : FVec Ideal S128x128 .bf16) (hf : Fin 2) (a : Fin 128) (l : Fin 128) :
    (k0_pay7 q : FVec Ideal S256x128 .bf16) (ix2 (row hf a) l) = if l.val / 64 = hf.val then q (ix2 a l) else 0 := by
  pointwise [k0_pay7]
  have hl := l.isLt
  match hf with
  | ⟨0, _⟩ =>
    rw [dif_pos (by dsimp only; omega), (lane_cmp l).1]
    by_cases h : l.val < 64
    · rw [if_pos (show l.val / 64 = 0 by omega), decide_eq_true h]
      refine congrArg q (congrArg (ix2 · l) (Fin.ext ?_))
      dsimp only; omega
    · rw [if_neg (show ¬l.val / 64 = 0 by omega), decide_eq_false h]
      rfl
  | ⟨1, _⟩ =>
    rw [dif_neg (by dsimp only; omega), (lane_cmp l).2]
    by_cases h : 64 ≤ l.val
    · rw [if_pos (show l.val / 64 = 1 by omega), decide_eq_true h]
      refine congrArg q (congrArg (ix2 · l) (Fin.ext ?_))
      dsimp only; omega
    · rw [if_neg (show ¬l.val / 64 = 1 by omega), decide_eq_false h]
      rfl

/-- A sum over a pair's lanes where only one head's are not zero. -/
theorem sum_half (hf : Fin 2) (f g : Fin 128 → EReal) :
    (∑ l : Fin 128, (if l.val / 64 = hf.val then f l else 0) * g l) = ∑ e : Fin 64, f (lane hf e) * g (lane hf e) := by
  rw [Fin.sum_univ_add (a := 64) (b := 64)]
  match hf with
  | ⟨0, _⟩ =>
    rw [Finset.sum_eq_zero (s := Finset.univ) (f := fun i : Fin 64 => (if (Fin.natAdd 64 i).val / 64 = 0 then f (Fin.natAdd 64 i) else 0) * g (Fin.natAdd 64 i))
      (fun i _ => by rw [if_neg (by rw [Fin.val_natAdd]; omega), zero_mul]), add_zero]
    refine Finset.sum_congr rfl fun e _ => ?_
    rw [if_pos (show (Fin.castAdd 64 e : Fin 128).val / 64 = ((⟨0, by omega⟩ : Fin 2) : ℕ) from by show e.val / 64 = 0; omega)]
    have h : Fin.castAdd 64 e = lane ⟨0, by omega⟩ e := Fin.ext (by dsimp only [Fin.val_castAdd]; omega)
    rw [h]
  | ⟨1, _⟩ =>
    rw [Finset.sum_eq_zero (s := Finset.univ) (f := fun i : Fin 64 => (if (Fin.castAdd 64 i).val / 64 = 1 then f (Fin.castAdd 64 i) else 0) * g (Fin.castAdd 64 i))
      (fun i _ => by rw [if_neg (by rw [Fin.val_castAdd]; omega), zero_mul]), zero_add]
    refine Finset.sum_congr rfl fun e _ => ?_
    rw [if_pos (show (Fin.natAdd 64 e : Fin 128).val / 64 = ((⟨1, by omega⟩ : Fin 2) : ℕ) from by show (64 + e.val) / 64 = 1; omega)]
    have h : Fin.natAdd 64 e = lane ⟨1, by omega⟩ e := Fin.ext rfl
    rw [h]

variable (v : IVec S256x256 1) (kb vb : FVec Ideal S256x128 .bf16) (q : FVec Ideal S128x128 .bf16)

/-- The scores of one head's row over the block's keys. -/
abbrev sc (hf : Fin 2) (a : Fin 128) : Fin 256 → EReal :=
  score (fun k => v (ix2 (row hf a) k) = 1#1) (fun e => q (ix2 a (lane hf e))) fun k e => kb (ix2 k (lane hf e))

/-- The masked scores. -/
theorem scores_eq (hf : Fin 2) (a : Fin 128) (k : Fin 256) :
    (k0_pay8 v kb (k0_pay7 q) : FVec Ideal S256x256 .f32) (ix2 (row hf a) k) = sc v kb q hf a k := by
  pointwise [k0_pay8]
  simp only [stack, mask_eq]
  rw [sum_half]
  unfold sc score
  by_cases h : v (ix2 (row hf a) k) = 1#1
  · rw [if_pos h, h]; rfl
  · rw [if_neg h, show v (ix2 (row hf a) k) = 0#1 from by
      have := BitVec.eq_zero_or_eq_one (v (ix2 (row hf a) k)); tauto]
    rfl

/-- The largest score. -/
theorem top_eq (hf : Fin 2) (a : Fin 128) (z : Fin 1) :
    (k0_pay9 v kb (k0_pay7 q) : FVec Ideal S256x1 .f32) (ix2 (row hf a) z) = top (sc v kb q hf a) := by
  pointwise [k0_pay9]
  unfold top
  rw [low_eq]
  exact congrArg (Finset.fold max ⊥ · Finset.univ) (funext fun k => scores_eq v kb q hf a k)

/-- The weights. -/
theorem weight_eq (hf : Fin 2) (a : Fin 128) (k : Fin 256) :
    (k0_pay10 v kb (k0_pay7 q) : FVec Ideal S256x256 .f32) (ix2 (row hf a) k) = weight (sc v kb q hf a) k := by
  pointwise [k0_pay10]
  unfold weight
  exact congrArg Ideal.exp (congrArg₂ (· - ·) (scores_eq v kb q hf a k) (top_eq v kb q hf a 0))

/-- The weights' sum. -/
theorem total_eq (hf : Fin 2) (a : Fin 128) (z : Fin 1) :
    (k0_pay11 v kb (k0_pay7 q) : FVec Ideal S256x1 .f32) (ix2 (row hf a) z) = total (sc v kb q hf a) := by
  pointwise [k0_pay11]
  exact Finset.sum_congr rfl fun k _ => weight_eq v kb q hf a k

/-- The lanes' numbers. -/
abbrev lanes : IVec S128x128 32 := iota .tc S128x128 32 [1] iota_S128x128_d1_w32

/-- The means of the values, each head's in its lanes. -/
theorem out_eq (a b : Fin 128) :
    (k0_pay12 lanes v kb vb (k0_pay7 q) : FVec Ideal S128x128 .f32) (ix2 a b)
      = mean' (sc v kb q ⟨b.val / 64, by omega⟩ a) fun k => vb (ix2 k b) := by
  have hb := b.isLt
  have key : ∀ (hf : Fin 2), (∑ k, (k0_pay10 v kb (k0_pay7 q) : FVec Ideal S256x256 .f32) (ix2 (row hf a) k)
      * Ideal.div 1 ((k0_pay11 v kb (k0_pay7 q) : FVec Ideal S256x1 .f32) (ix2 (row hf a) 0)) * vb (ix2 k b))
      = mean' (sc v kb q hf a) fun k => vb (ix2 k b) := fun hf =>
    Finset.sum_congr rfl fun k _ => by rw [weight_eq, total_eq]
  pointwise [k0_pay12, lanes]
  rw [(lane_cmp b).1]
  by_cases h : b.val < 64
  · rw [decide_eq_true h, pick_true]
    refine Eq.trans ?_ ((key ⟨0, by omega⟩).trans ?_)
    · refine Finset.sum_congr rfl fun k _ => ?_
      have e : (⟨a.val, by omega⟩ : Fin 256) = row ⟨0, by omega⟩ a := Fin.ext (by dsimp only; omega)
      rw [e]
    · rw [show (⟨0, by omega⟩ : Fin 2) = ⟨b.val / 64, by omega⟩ from Fin.ext (by dsimp only; omega)]
  · rw [decide_eq_false h, pick_false]
    refine Eq.trans ?_ ((key ⟨1, by omega⟩).trans ?_)
    · refine Finset.sum_congr rfl fun k _ => ?_
      have e : (⟨128 + a.val, by omega⟩ : Fin 256) = row ⟨1, by omega⟩ a := Fin.ext (by dsimp only)
      rw [e]
    · rw [show (⟨1, by omega⟩ : Fin 2) = ⟨b.val / 64, by omega⟩ from Fin.ext (by dsimp only; omega)]

/-- What one pair of heads adds to the lanes of logarithms. -/
def lseAdd (h0 h1 : BitVec 32) (acc : FVec Ideal S128x128 .f32) (l : FVec Ideal S256x1 .f32) : FVec Ideal S128x128 .f32 :=
  addf (addf acc (select (cmpi .eq lanes (broadcast S128x128 h0))
    (broadcastTo S128x128 (shapeCast S128x1 (extractStridedSlice S128x1 ![0, 0] l slices_S256x1_o0_0_S128x1) shapeCasts_S128x1_S128x1) broadcasts_S128x1_S128x128)
    (broadcast S128x128 (Scalar.ofBits .f32 0x00000000#32))))
    (select (cmpi .eq lanes (broadcast S128x128 h1))
    (broadcastTo S128x128 (shapeCast S128x1 (extractStridedSlice S128x1 ![128, 0] l slices_S256x1_o128_0_S128x1) shapeCasts_S128x1_S128x1) broadcasts_S128x1_S128x128)
    (broadcast S128x128 (Scalar.ofBits .f32 0x00000000#32)))

/-- The logarithms of one pair of heads. -/
def lseRow : FVec Ideal S256x1 .f32 := addf (k0_pay9 v kb (k0_pay7 q)) (log (k0_pay11 v kb (k0_pay7 q)))

/-- The generated step is this one. -/
theorem pay13_eq (acc : FVec Ideal S128x128 .f32) : k0_pay13 lanes v acc kb (k0_pay7 q) = lseAdd 0#32 1#32 acc (lseRow v kb q) := rfl

/-- The logarithms of one pair of heads, row by row. -/
theorem lseRow_eq (hf : Fin 2) (a : Fin 128) (z : Fin 1) : lseRow v kb q (ix2 (row hf a) z) = lse (sc v kb q hf a) := by
  pointwise [lseRow]
  unfold lse
  exact congrArg₂ (· + ·) (top_eq v kb q hf a z) (congrArg Ideal.log (total_eq v kb q hf a z))

/-- Comparing a lane's number with a head's. -/
theorem head_cmp : ∀ (l : Fin 128) (h : Fin 12), IntOp.cmpi .eq (BitVec.ofNat 32 l.val) (BitVec.ofNat 32 h.val) = BitVec.ofBool (decide (l.val = h.val)) := by
  decide +kernel

/-- What one pair adds, lane by lane. -/
theorem lseAdd_eq (p : Fin 6) (acc : FVec Ideal S128x128 .f32) (l : FVec Ideal S256x1 .f32) (L : ℕ → Fin 128 → EReal)
    (hacc : ∀ a b : Fin 128, acc (ix2 a b) = if b.val < 2 * p.val then L b.val a else 0)
    (h0 : ∀ a, l (ix2 (row 0 a) 0) = L (2 * p.val) a) (h1 : ∀ a, l (ix2 (row 1 a) 0) = L (2 * p.val + 1) a) (a b : Fin 128) :
    lseAdd (BitVec.ofNat 32 (2 * p.val)) (BitVec.ofNat 32 (2 * p.val + 1)) acc l (ix2 a b) = if b.val < 2 * p.val + 2 then L b.val a else 0 := by
  have hp := p.isLt
  pointwise [lseAdd, lanes]
  rw [hacc, head_cmp b ⟨2 * p.val, by omega⟩, head_cmp b ⟨2 * p.val + 1, by omega⟩]
  have e0 : (⟨a.val, by omega⟩ : Fin 256) = row 0 a := Fin.ext (by show a.val = 128 * 0 + a.val; omega)
  have e1 : (⟨128 + a.val, by omega⟩ : Fin 256) = row 1 a := Fin.ext (by show 128 + a.val = 128 * 1 + a.val; omega)
  rw [e0, e1, h0, h1]
  rcases Nat.lt_trichotomy b.val (2 * p.val) with h | h | h
  · rw [if_pos h, if_pos (by omega), decide_eq_false (by dsimp only; omega), decide_eq_false (by dsimp only; omega)]
    exact (add_zero _).trans (add_zero _)
  · rw [if_neg (by omega), if_pos (by omega), decide_eq_true h, decide_eq_false (by dsimp only; omega), h]
    exact (add_zero _).trans (zero_add _)
  · rw [if_neg (by omega), decide_eq_false (by dsimp only; omega)]
    by_cases h' : b.val = 2 * p.val + 1
    · rw [if_pos (by omega), decide_eq_true h', h']
      exact (congrArg (· + _) (add_zero _)).trans (zero_add _)
    · rw [if_neg (by omega), decide_eq_false h']
      exact (add_zero _).trans (add_zero _)

/-- A key within the window of a query, by its distance. -/
theorem band_cmp : ∀ (a : Fin 128) (k : Fin 256),
    IntOp.andi (IntOp.cmpi .sge (IntOp.subi (IntOp.addi (BitVec.ofNat 32 a.val) 128#32) (BitVec.ofNat 32 k.val)) 0#32)
      (IntOp.cmpi .sle (IntOp.subi (IntOp.addi (BitVec.ofNat 32 a.val) 128#32) (BitVec.ofNat 32 k.val)) 128#32)
    = BitVec.ofBool (decide (a.val ≤ k.val ∧ k.val ≤ a.val + 128)) := by decide +kernel

/-- A key of the block itself, or any key after the first block. -/
theorem edge_cmp : ∀ (n : Fin 8) (k : Fin 256),
    IntOp.ori (IntOp.cmpi .sge (BitVec.ofNat 32 k.val) 128#32) (Scalar.cmpi .sgt (BitVec.ofNat 32 n.val) 0#32)
    = BitVec.ofBool (decide (128 ≤ k.val ∨ 0 < n.val)) := by decide +kernel

/-- Two decided conditions together. -/
theorem and_ofBool (b c : Bool) : IntOp.andi (BitVec.ofBool b) (BitVec.ofBool c) = BitVec.ofBool (b && c) := by
  cases b <;> cases c <;> rfl

/-- A decided condition holds. -/
theorem ofBool_one (b : Bool) : BitVec.ofBool b = 1#1 ↔ b = true := by cases b <;> decide

/-- Key `k` of the two blocks that end with block `j` is seen by query `a` of that block: within the window, and in the sequence. -/
def seen (j a k : ℕ) : Prop := (a ≤ k ∧ k ≤ a + 128) ∧ 128 ≤ 128 * j + k

/-- The window's comparison at a query known by its number. -/
theorem band_at (n : ℕ) (a : Fin 128) (k : Fin 256) (h : n = a.val) :
    IntOp.andi (IntOp.cmpi .sge (IntOp.subi (IntOp.addi (BitVec.ofNat 32 n) 128#32) (BitVec.ofNat 32 k.val)) 0#32)
      (IntOp.cmpi .sle (IntOp.subi (IntOp.addi (BitVec.ofNat 32 n) 128#32) (BitVec.ofNat 32 k.val)) 128#32)
    = BitVec.ofBool (decide (a.val ≤ k.val ∧ k.val ≤ a.val + 128)) := by
  subst h; exact band_cmp a k

/-- The mask of a point's first block of queries. -/
theorem mask_first (i : grid0.Coords) (hf : Fin 2) (a : Fin 128) (k : Fin 256) :
    k0_pay3 i (ix2 (row hf a) k) = 1#1 ↔ seen (2 * (i 1).val) a.val k.val := by
  have e : k0_pay3 i (ix2 (row hf a) k) = BitVec.ofBool (decide (a.val ≤ k.val ∧ k.val ≤ a.val + 128) && decide (128 ≤ k.val ∨ 0 < (i 1).val)) := by
    pointwise [k0_pay3, k0_pay2]
    match hf with
    | ⟨0, _⟩ =>
      rw [dif_pos (by dsimp only; omega), band_at _ a k (by dsimp only; omega), edge_cmp (i 1) k, and_ofBool]
    | ⟨1, _⟩ =>
      rw [dif_neg (by dsimp only; omega), band_at _ a k (by dsimp only; omega), edge_cmp (i 1) k, and_ofBool]
  rw [e, ofBool_one, Bool.and_eq_true, decide_eq_true_iff, decide_eq_true_iff]
  refine and_congr_right fun _ => ?_
  omega

/-- The mask of a point's second block of queries. -/
theorem mask_second (n : ℕ) (hf : Fin 2) (a : Fin 128) (k : Fin 256) :
    k0_pay55 k0_pay2 (ix2 (row hf a) k) = 1#1 ↔ seen (2 * n + 1) a.val k.val := by
  have e : k0_pay55 k0_pay2 (ix2 (row hf a) k) = BitVec.ofBool (decide (a.val ≤ k.val ∧ k.val ≤ a.val + 128)) := by
    pointwise [k0_pay55, k0_pay2]
    match hf with
    | ⟨0, _⟩ =>
      rw [dif_pos (by dsimp only; omega), band_at _ a k (by dsimp only; omega)]
    | ⟨1, _⟩ =>
      rw [dif_neg (by dsimp only; omega), band_at _ a k (by dsimp only; omega)]
  rw [e, ofBool_one, decide_eq_true_iff]
  exact ⟨fun h => ⟨h, by omega⟩, fun h => h.1⟩

end Cert.Kernel19Ideal.Att
-- ==== Proof.AttMask.lean ====
module
public import proofs.«01_k».proof.Proof.Gen.Kernel19Ideal.Frame
public import proofs.«01_k».proof.Proof.AttFwd
public import Idealize.ShloMosaic.Lib.Pipeline.ValueKit
public import Idealize.ShloMosaic.Lib.Pointwise
/-! The blocks of the attention's forward call in terms of its windows. -/
@[expose] public section
noncomputable section
open Idealize.ShloMosaic Idealize.ShloMosaic.TcCoe Idealize.SL.Sem
open Idealize.ShloMosaic.Pipeline (Dat)
namespace Cert.Kernel19Ideal.Att
open Cert.Kernel19Ideal Cert.Kernel19Ideal.Gen Cert.AttMath

/-- Two positions with the same coordinates are the same. -/
theorem ix2_ext {A B : ℕ} {x : (⟨2, ![A, B]⟩ : Shape).Idx} {a : Fin A} {b : Fin B} (h0 : (x 0 : ℕ) = a.val) (h1 : (x 1 : ℕ) = b.val) : x = ix2 a b :=
  funext fun d => Fin.ext (match d with
    | ⟨0, _⟩ => h0
    | ⟨1, _⟩ => h1)

/-- A key of the two blocks in a point's windows. -/
def keys {p : FTy} (x1 : FVec Ideal S128x768 p) (x2 : FVec Ideal S256x768 p) (s : ℕ) (k : Fin 256) (c : Fin 768) : EReal :=
  if s = 0 then (if h : k.val < 128 then x1 (ix2 ⟨k.val, h⟩ c) else x2 (ix2 ⟨k.val - 128, by omega⟩ c)) else x2 (ix2 k c)

/-- Lane `e` of the head that column `c` belongs to. -/
abbrev hcol (c : Fin 768) (e : Fin 64) : Fin 768 := ⟨64 * (c.val / 64) + e.val, by omega⟩

/-- A first block's keys as loaded: the block before and the first half of the blocks at hand. -/
theorem keys_first (x1 : FVec Ideal S128x768 .bf16) (x2 : FVec Ideal S256x768 .bf16) (o : ℕ)
    (h1 : ∀ a, (![0, o] : Fin 2 → ℕ) a + S128x128.size a ≤ S128x768.size a) (h2 : ∀ a, (![0, o] : Fin 2 → ℕ) a + S128x128.size a ≤ S256x768.size a)
    (k : Fin 256) (b : Fin 128) (hb : o + b.val < 768) :
    (k0_pay5 (View.ld (Val := Elt Ideal) (e' := .bf16) x1 (Rect.unit (s := S128x768) ![0, o] S128x128.size h1)) (View.ld (Val := Elt Ideal) (e' := .bf16) x2 (Rect.unit (s := S256x768) ![0, o] S128x128.size h2)) : FVec Ideal S256x128 .bf16) (ix2 k b)
      = keys x1 x2 0 k ⟨o + b.val, hb⟩ := by
  pointwise [k0_pay5]
  rfl

/-- A second block's keys as loaded. -/
theorem keys_second (x1 : FVec Ideal S128x768 .bf16) (x2 : FVec Ideal S256x768 .bf16) (o : ℕ)
    (h2 : ∀ a, (![0, o] : Fin 2 → ℕ) a + S256x128.size a ≤ S256x768.size a)
    (k : Fin 256) (b : Fin 128) (hb : o + b.val < 768) :
    (View.ld (Val := Elt Ideal) (e' := .bf16) x2 (Rect.unit (s := S256x768) ![0, o] S256x128.size h2) : FVec Ideal S256x128 .bf16) (ix2 k b)
      = keys x1 x2 1 k ⟨o + b.val, hb⟩ := by
  unfold keys
  rw [if_neg (by omega), View.ld_apply]
  refine congrArg x2 ?_
  refine ix2_ext ?_ ?_
  · show 0 + 1 * k.val = k.val
    omega
  · show o + 1 * b.val = o + b.val
    omega

/-- A block's queries as loaded. -/
theorem query_at (x0 : FVec Ideal S256x768 .bf16) (r o : ℕ)
    (h : ∀ a, (![r, o] : Fin 2 → ℕ) a + S128x128.size a ≤ S256x768.size a)
    (a b : Fin 128) (ha : r + a.val < 256) (hb : o + b.val < 768) :
    (View.ld (Val := Elt Ideal) (e' := .bf16) x0 (Rect.unit (s := S256x768) ![r, o] S128x128.size h) : FVec Ideal S128x128 .bf16) (ix2 a b)
      = x0 (ix2 ⟨r + a.val, ha⟩ ⟨o + b.val, hb⟩) := by
  rw [View.ld_apply]
  refine congrArg x0 ?_
  refine ix2_ext ?_ ?_
  · show r + 1 * a.val = r + a.val
    omega
  · show o + 1 * b.val = o + b.val
    omega

/-- The first result of a point: each head's mean of the values. -/
def target5 (n : ℕ) (x0 : FVec Ideal S256x768 .bf16) (x1 : FVec Ideal S128x768 .bf16) (x2 : FVec Ideal S256x768 .bf16) (x3 : FVec Ideal S128x768 .bf16)
    (x4 : FVec Ideal S256x768 .bf16) (r : Fin 256) (c : Fin 768) : EReal :=
  mean' (score (fun k => seen (2 * n + r.val / 128) (r.val % 128) k.val) (fun e => x0 (ix2 r (hcol c e)))
    fun k e => keys x1 x2 (r.val / 128) k (hcol c e)) fun k => keys x3 x4 (r.val / 128) k c

/-- The second result of a point: each head's logarithm of the weights' sum, in the first twelve lanes. -/
def target6 (n : ℕ) (x0 : FVec Ideal S256x768 .bf16) (x1 : FVec Ideal S128x768 .bf16) (x2 : FVec Ideal S256x768 .bf16) (r : Fin 256) (c : Fin 128) : EReal :=
  if h : c.val < 12 then lse (score (fun k => seen (2 * n + r.val / 128) (r.val % 128) k.val) (fun e => x0 (ix2 r ⟨64 * c.val + e.val, by omega⟩))
    fun k e => keys x1 x2 (r.val / 128) k ⟨64 * c.val + e.val, by omega⟩) else 0

variable {n s o r' : ℕ} {v : IVec S256x256 1} {kb vb : FVec Ideal S256x128 .bf16} {q : FVec Ideal S128x128 .bf16}
  {x0 : FVec Ideal S256x768 .bf16} {x1 : FVec Ideal S128x768 .bf16} {x2 : FVec Ideal S256x768 .bf16} {x3 : FVec Ideal S128x768 .bf16} {x4 : FVec Ideal S256x768 .bf16}

/-- The scores of one head's row, in terms of the point's windows. -/
theorem sc_eq (p : ℕ) (hp : p < 6) (ho : o = 128 * p) (hs : s < 2) (hr : r' = 128 * s) (hv : ∀ hf a k, v (ix2 (row hf a) k) = 1#1 ↔ seen (2 * n + s) a.val k.val)
    (hk : ∀ k b hb, kb (ix2 k b) = keys x1 x2 s k ⟨o + b.val, hb⟩)
    (hq : ∀ a b ha hb, q (ix2 a b) = x0 (ix2 ⟨r' + a.val, ha⟩ ⟨o + b.val, hb⟩))
    (hf : Fin 2) (a : Fin 128) (R : Fin 256) (hR : R.val = 128 * s + a.val) (C : Fin 64 → Fin 768) (hC : ∀ e, (C e).val = 64 * (2 * p + hf.val) + e.val) :
    sc v kb q hf a = score (fun k => seen (2 * n + R.val / 128) (R.val % 128) k.val) (fun e => x0 (ix2 R (C e))) fun k e => keys x1 x2 (R.val / 128) k (C e) := by
  have d : R.val / 128 = s := by omega
  have d' : R.val % 128 = a.val := by omega
  rw [d, d']
  refine score_congr (fun k => hv hf a k) (fun e => ?_) fun k _ e => ?_
  · rw [hq a (lane hf e) (by omega) (by dsimp only; omega)]
    refine congrArg x0 (congrArg₂ ix2 (Fin.ext ?_) (Fin.ext ?_))
    · dsimp only; omega
    · rw [hC]; dsimp only; omega
  · rw [hk k (lane hf e) (by dsimp only; omega)]
    refine congrArg (keys x1 x2 s k) (Fin.ext ?_)
    rw [hC]; dsimp only; omega

/-- One head pair's store of means. -/
theorem tile5 (p : ℕ) (hp : p < 6) (ho : o = 128 * p) (hs : s < 2) (hr : r' = 128 * s) (hv : ∀ hf a k, v (ix2 (row hf a) k) = 1#1 ↔ seen (2 * n + s) a.val k.val)
    (hk : ∀ k b hb, kb (ix2 k b) = keys x1 x2 s k ⟨o + b.val, hb⟩) (hvb : ∀ k b hb, vb (ix2 k b) = keys x3 x4 s k ⟨o + b.val, hb⟩)
    (hq : ∀ a b ha hb, q (ix2 a b) = x0 (ix2 ⟨r' + a.val, ha⟩ ⟨o + b.val, hb⟩)) (y : S256x768.Idx) :
    View.TileAt (Val := Elt Ideal) (e := .f32) y ![r', o] ![128, 128] (k0_pay12 lanes v kb vb (k0_pay7 q)) (target5 n x0 x1 x2 x3 x4 (y 0) (y 1)) := by
  intro x hx
  have h0 : (y 0 : ℕ) = r' + (x 0 : ℕ) := hx 0
  have h1 : (y 1 : ℕ) = o + (x 1 : ℕ) := hx 1
  have hx0 : (x 0 : ℕ) < 128 := (x 0).isLt
  have hx1 : (x 1 : ℕ) < 128 := (x 1).isLt
  obtain ⟨a, b, rfl⟩ : ∃ a b : Fin 128, x = ix2 a b := ⟨x 0, x 1, ix2_ext rfl rfl⟩
  replace h0 : (y 0 : ℕ) = r' + a.val := h0
  replace h1 : (y 1 : ℕ) = o + b.val := h1
  refine (out_eq v kb vb q a b).trans ?_
  unfold target5
  have d : (y 0 : ℕ) / 128 = s := by omega
  rw [sc_eq p hp ho hs hr hv hk hq _ a (y 0) (by omega) (hcol (y 1)) (fun e => by dsimp only; omega)]
  refine congrArg (mean' _) (funext fun k => ?_)
  rw [hvb k b (by omega), d]
  exact congrArg (keys x3 x4 s k) (Fin.ext h1.symm)

end Cert.Kernel19Ideal.Att
-- ==== Proof.AttOut.lean ====
module
public import proofs.«01_k».proof.Proof.AttMask
/-! The two results of one point of the attention's forward call. -/
@[expose] public section
noncomputable section
open Idealize.ShloMosaic Idealize.ShloMosaic.TcCoe Idealize.SL.Sem
open Idealize.ShloMosaic.Pipeline (Dat)
namespace Cert.Kernel19Ideal.Att
open Cert.Kernel19Ideal Cert.Kernel19Ideal.Gen Cert.AttMath

/-- A head pair's columns lie in the block of the keys before. -/
theorem inb_prev (p : Fin 6) : ∀ a, (![0, 128 * p.val] : Fin 2 → ℕ) a + S128x128.size a ≤ S128x768.size a := by revert p; decide
/-- A head pair's columns, half a block from row 0 or 128, lie in the blocks at hand. -/
theorem inb_half (s : Fin 2) (p : Fin 6) : ∀ a, (![128 * s.val, 128 * p.val] : Fin 2 → ℕ) a + S128x128.size a ≤ S256x768.size a := by revert s p; decide
/-- A head pair's columns lie in the blocks at hand. -/
theorem inb_both (p : Fin 6) : ∀ a, (![0, 128 * p.val] : Fin 2 → ℕ) a + S256x128.size a ≤ S256x768.size a := by revert p; decide

/-- The keys (or values) of a first block of queries, one head pair's columns. -/
def kFirst (x1 : FVec Ideal S128x768 .bf16) (x2 : FVec Ideal S256x768 .bf16) (p : Fin 6) : FVec Ideal S256x128 .bf16 :=
  k0_pay5 (View.ld (Val := Elt Ideal) (e' := .bf16) x1 (Rect.unit (s := S128x768) ![0, 128 * p.val] S128x128.size (inb_prev p)))
    (View.ld (Val := Elt Ideal) (e' := .bf16) x2 (Rect.unit (s := S256x768) ![0, 128 * p.val] S128x128.size (inb_half 0 p)))
/-- The keys (or values) of a second block of queries, one head pair's columns. -/
def kSecond (x2 : FVec Ideal S256x768 .bf16) (p : Fin 6) : FVec Ideal S256x128 .bf16 :=
  View.ld (Val := Elt Ideal) (e' := .bf16) x2 (Rect.unit (s := S256x768) ![0, 128 * p.val] S256x128.size (inb_both p))
/-- The queries of a block, one head pair's columns. -/
def qOf (x0 : FVec Ideal S256x768 .bf16) (s : Fin 2) (p : Fin 6) : FVec Ideal S128x128 .bf16 :=
  View.ld (Val := Elt Ideal) (e' := .bf16) x0 (Rect.unit (s := S256x768) ![128 * s.val, 128 * p.val] S128x128.size (inb_half s p))

variable (i : grid0.Coords) (x0 : FVec Ideal S256x768 .bf16) (x1 : FVec Ideal S128x768 .bf16) (x2 : FVec Ideal S256x768 .bf16)
  (x3 : FVec Ideal S128x768 .bf16) (x4 : FVec Ideal S256x768 .bf16)

/-- One head pair's store of means for a first block. -/
theorem first5 (p : Fin 6) (y : S256x768.Idx) :
    View.TileAt (Val := Elt Ideal) (e := .f32) y ![0, 128 * p.val] ![128, 128] (k0_pay12 lanes (k0_pay3 i) (kFirst x1 x2 p) (kFirst x3 x4 p) (k0_pay7 (qOf x0 0 p)))
      (target5 (i 1).val x0 x1 x2 x3 x4 (y 0) (y 1)) :=
  tile5 (n := (i 1).val) (r' := 0) (s := 0) p.val p.isLt rfl (by omega) rfl (mask_first i) (keys_first x1 x2 _ _ _) (keys_first x3 x4 _ _ _) (query_at x0 _ _ _) y

/-- One head pair's store of means for a second block. -/
theorem second5 (p : Fin 6) (y : S256x768.Idx) :
    View.TileAt (Val := Elt Ideal) (e := .f32) y ![128, 128 * p.val] ![128, 128] (k0_pay12 lanes (k0_pay55 k0_pay2) (kSecond x2 p) (kSecond x4 p) (k0_pay7 (qOf x0 1 p)))
      (target5 (i 1).val x0 x1 x2 x3 x4 (y 0) (y 1)) :=
  tile5 (n := (i 1).val) (r' := 128) (s := 1) p.val p.isLt rfl (by omega) rfl (mask_second _) (keys_second x1 x2 _ _) (keys_second x3 x4 _ _) (query_at x0 _ _ _) y

/-- The first result of a point. -/
theorem out5 (y : S256x768.Idx) : (out0_5 (F := Ideal) i x0 x1 x2 x3 x4 y : EReal) = target5 (i 1).val x0 x1 x2 x3 x4 (y 0) (y 1) := by
  unfold_out out0_5
  refine View.canon_eq_of_allAt _ _ _ (by refine View.cover_of_tiledL _ ![128, 128] ?_ y; sl_kernel_rfl) ?_
  refine View.allAt_cons_unit _ _ _ _ _ (second5 i x0 x1 x2 x3 x4 5 y) ?_
  refine View.allAt_cons_unit _ _ _ _ _ (second5 i x0 x1 x2 x3 x4 4 y) ?_
  refine View.allAt_cons_unit _ _ _ _ _ (second5 i x0 x1 x2 x3 x4 3 y) ?_
  refine View.allAt_cons_unit _ _ _ _ _ (second5 i x0 x1 x2 x3 x4 2 y) ?_
  refine View.allAt_cons_unit _ _ _ _ _ (second5 i x0 x1 x2 x3 x4 1 y) ?_
  refine View.allAt_cons_unit _ _ _ _ _ (second5 i x0 x1 x2 x3 x4 0 y) ?_
  refine View.allAt_cons_unit _ _ _ _ _ (first5 i x0 x1 x2 x3 x4 5 y) ?_
  refine View.allAt_cons_unit _ _ _ _ _ (first5 i x0 x1 x2 x3 x4 4 y) ?_
  refine View.allAt_cons_unit _ _ _ _ _ (first5 i x0 x1 x2 x3 x4 3 y) ?_
  refine View.allAt_cons_unit _ _ _ _ _ (first5 i x0 x1 x2 x3 x4 2 y) ?_
  refine View.allAt_cons_unit _ _ _ _ _ (first5 i x0 x1 x2 x3 x4 1 y) ?_
  refine View.allAt_cons_unit _ _ _ _ _ (first5 i x0 x1 x2 x3 x4 0 y) ?_
  exact View.allAt_nil _ _

/-- The logarithms of six head pairs, two lanes each. -/
def lse6 (v : IVec S256x256 1) (kb : Fin 6 → FVec Ideal S256x128 .bf16) (q : Fin 6 → FVec Ideal S128x128 .bf16) : FVec Ideal S128x128 .f32 :=
  lseAdd 10#32 11#32 (lseAdd 8#32 9#32 (lseAdd 6#32 7#32 (lseAdd 4#32 5#32 (lseAdd 2#32 3#32 (lseAdd 0#32 1#32 k0_pay4
    (lseRow v (kb 0) (q 0))) (lseRow v (kb 1) (q 1))) (lseRow v (kb 2) (q 2))) (lseRow v (kb 3) (q 3))) (lseRow v (kb 4) (q 4))) (lseRow v (kb 5) (q 5))

/-- One block's store of logarithms. -/
theorem tile6 {n s r' : ℕ} {v : IVec S256x256 1} {kb : Fin 6 → FVec Ideal S256x128 .bf16} {q : Fin 6 → FVec Ideal S128x128 .bf16}
    (hs : s < 2) (hr : r' = 128 * s) (hv : ∀ hf a k, v (ix2 (row hf a) k) = 1#1 ↔ seen (2 * n + s) a.val k.val)
    (hk : ∀ p k b hb, kb p (ix2 k b) = keys x1 x2 s k ⟨128 * p.val + b.val, hb⟩)
    (hq : ∀ p a b ha hb, q p (ix2 a b) = x0 (ix2 ⟨r' + a.val, ha⟩ ⟨128 * p.val + b.val, hb⟩)) (y : S256x128.Idx) :
    View.TileAt (Val := Elt Ideal) (e := .f32) y ![r', 0] ![128, 128] (lse6 v kb q) (target6 n x0 x1 x2 (y 0) (y 1)) := by
  intro x hx
  have h0 : (y 0 : ℕ) = r' + (x 0 : ℕ) := hx 0
  have h1 : (y 1 : ℕ) = 0 + (x 1 : ℕ) := hx 1
  obtain ⟨a, b, rfl⟩ : ∃ a b : Fin 128, x = ix2 a b := ⟨x 0, x 1, ix2_ext rfl rfl⟩
  replace h0 : (y 0 : ℕ) = r' + a.val := h0
  replace h1 : (y 1 : ℕ) = 0 + b.val := h1
  let L : ℕ → Fin 128 → EReal := fun h a => if hh : h < 128 then target6 n x0 x1 x2 ⟨128 * s + a.val, by omega⟩ ⟨h, hh⟩ else 0
  have hL : ∀ (p : Fin 6) (hf : Fin 2) (a : Fin 128), lseRow v (kb p) (q p) (ix2 (row hf a) 0) = L (2 * p.val + hf.val) a := by
    intro p hf a
    rw [lseRow_eq]
    show _ = dite _ _ _
    rw [dif_pos (by omega)]
    unfold target6
    rw [dif_pos (by dsimp only; omega)]
    exact congrArg lse (sc_eq p.val p.isLt rfl hs hr hv (hk p) (hq p) hf a _ rfl _ fun e => rfl)
  have z : ∀ a b : Fin 128, (k0_pay4 : FVec Ideal S128x128 .f32) (ix2 a b) = if b.val < 2 * (0 : Fin 6).val then L b.val a else 0 := by
    intro a b
    rw [if_neg (by show ¬b.val < 0; omega)]
    pointwise [k0_pay4]
  have e := lseAdd_eq 5 _ _ L (lseAdd_eq 4 _ _ L (lseAdd_eq 3 _ _ L (lseAdd_eq 2 _ _ L (lseAdd_eq 1 _ _ L (lseAdd_eq 0 _ _ L z
    (hL 0 0) (hL 0 1)) (hL 1 0) (hL 1 1)) (hL 2 0) (hL 2 1)) (hL 3 0) (hL 3 1)) (hL 4 0) (hL 4 1)) (hL 5 0) (hL 5 1) a b
  refine Eq.trans (b := if b.val < 12 then L b.val a else 0) e ?_
  have er : (y 0 : Fin 256) = ⟨128 * s + a.val, by omega⟩ := Fin.ext (h0.trans (congrArg (· + a.val) hr))
  have ec : (y 1 : Fin 128) = b := Fin.ext (by omega)
  rw [er, ec]
  by_cases h : b.val < 12
  · rw [if_pos h]
    show dite _ _ _ = _
    rw [dif_pos b.isLt]
    rfl
  · rw [if_neg h]
    unfold target6
    rw [dif_neg h]

/-- The second result of a point. -/
theorem out6 (y : S256x128.Idx) : (out0_6 (F := Ideal) i x0 x1 x2 x3 x4 y : EReal) = target6 (i 1).val x0 x1 x2 (y 0) (y 1) := by
  unfold_out out0_6
  refine View.canon_eq_of_allAt _ _ _ (by refine View.cover_of_tiledL _ ![128, 128] ?_ y; sl_kernel_rfl) ?_
  refine View.allAt_cons_unit _ _ _ _ _ (tile6 x0 x1 x2 (n := (i 1).val) (s := 1) (r' := 128) (q := qOf x0 1) (kb := kSecond x2) (by omega) rfl (mask_second _)
    (fun p => keys_second x1 x2 _ _) (fun p => query_at x0 _ _ _) y) ?_
  refine View.allAt_cons_unit _ _ _ _ _ (tile6 x0 x1 x2 (n := (i 1).val) (s := 0) (r' := 0) (q := qOf x0 0) (kb := kFirst x1 x2) (by omega) rfl (mask_first i)
    (fun p => keys_first x1 x2 _ _ _) (fun p => query_at x0 _ _ _) y) ?_
  exact View.allAt_nil _ _
end Cert.Kernel19Ideal.Att
-- ==== Proof.AttArr.lean ====
module
public import proofs.«01_k».proof.Proof.AttOut
/-! The two arrays that the attention's forward call leaves, element by element. -/
@[expose] public section
noncomputable section
open Idealize.ShloMosaic Idealize.ShloMosaic.TcCoe Idealize.SL.Sem
open Idealize.ShloMosaic.Pipeline (Dat)
namespace Cert.Kernel19Ideal.Att
open Cert.Kernel19Ideal Cert.Kernel19Ideal.Gen Cert.AttMath

/-- A key of the two blocks that end with block `j`, in the whole array; zero before the sequence. -/
def keyAt (A : FVec Ideal S2048x3072 .bf16) (j : ℕ) (k : Fin 256) (c : Fin 3072) : EReal :=
  if h : 128 ≤ 128 * j + k.val ∧ 128 * j + k.val - 128 < 2048 then A (ix2 ⟨128 * j + k.val - 128, h.2⟩ c) else 0

/-- The scores of row `R` over its two blocks, for the head of 64 columns that starts at column `o`. -/
def scoreAt (Q K : FVec Ideal S2048x3072 .bf16) (R : Fin 2048) (h : Fin 48) : Fin 256 → EReal :=
  score (fun k => seen (R.val / 128) (R.val % 128) k.val) (fun e => Q (ix2 R ⟨64 * h.val + e.val, by omega⟩))
    fun k e => keyAt K (R.val / 128) k ⟨64 * h.val + e.val, by omega⟩

/-- The mean of the values of row `R`, in column `C`. -/
def meanAt (Q K W : FVec Ideal S2048x3072 .bf16) (R : Fin 2048) (C : Fin 3072) : EReal :=
  mean' (scoreAt Q K R ⟨C.val / 64, by omega⟩) fun k => keyAt W (R.val / 128) k C

/-- The logarithms of row `R`: twelve of each 128 columns, zero in the others. -/
def logAt (Q K : FVec Ideal S2048x3072 .bf16) (R : Fin 2048) (C : Fin 512) : EReal :=
  if h : C.val % 128 < 12 then lse (scoreAt Q K R ⟨12 * (C.val / 128) + C.val % 128, by omega⟩) else 0

variable {n r : ℕ} {Q K W : FVec Ideal S2048x3072 .bf16} {x0 : FVec Ideal S256x768 .bf16} {x1 : FVec Ideal S128x768 .bf16} {x2 : FVec Ideal S256x768 .bf16}
  {x3 : FVec Ideal S128x768 .bf16} {x4 : FVec Ideal S256x768 .bf16}

/-- A seen key of a point's windows, in the whole array. -/
theorem keys_eq (hn : n < 8) (h1 : ∀ a b ha hb, x1 (ix2 a b) = K (ix2 ⟨128 * (2 * n - 1) + a.val, ha⟩ ⟨768 * r + b.val, hb⟩))
    (h2 : ∀ a b ha hb, x2 (ix2 a b) = K (ix2 ⟨256 * n + a.val, ha⟩ ⟨768 * r + b.val, hb⟩))
    (s a : ℕ) (hs : s < 2) (k : Fin 256) (hk : seen (2 * n + s) a k.val) (c : Fin 768) (C : Fin 3072) (hC : C.val = 768 * r + c.val) :
    keys x1 x2 s k c = keyAt K (2 * n + s) k C := by
  have hk' : 128 ≤ 128 * (2 * n + s) + k.val := hk.2
  unfold keys keyAt
  rw [dif_pos (⟨hk', by omega⟩ : 128 ≤ 128 * (2 * n + s) + k.val ∧ 128 * (2 * n + s) + k.val - 128 < 2048)]
  by_cases h0 : s = 0
  · rw [if_pos h0]
    by_cases h : k.val < 128
    · rw [dif_pos h, h1 _ c (by dsimp only; omega) (by omega)]
      refine congrArg K (congrArg₂ ix2 (Fin.ext ?_) (Fin.ext hC.symm))
      dsimp only; omega
    · rw [dif_neg h, h2 _ c (by dsimp only; omega) (by omega)]
      refine congrArg K (congrArg₂ ix2 (Fin.ext ?_) (Fin.ext hC.symm))
      dsimp only; omega
  · rw [if_neg h0, h2 _ c (by omega) (by omega)]
    refine congrArg K (congrArg₂ ix2 (Fin.ext ?_) (Fin.ext hC.symm))
    dsimp only; omega

/-- The scores of a point's row, in the whole arrays. -/
theorem scores_at (hn : n < 8) (h0 : ∀ a b ha hb, x0 (ix2 a b) = Q (ix2 ⟨256 * n + a.val, ha⟩ ⟨768 * r + b.val, hb⟩))
    (h1 : ∀ a b ha hb, x1 (ix2 a b) = K (ix2 ⟨128 * (2 * n - 1) + a.val, ha⟩ ⟨768 * r + b.val, hb⟩))
    (h2 : ∀ a b ha hb, x2 (ix2 a b) = K (ix2 ⟨256 * n + a.val, ha⟩ ⟨768 * r + b.val, hb⟩))
    (a : Fin 256) (R : Fin 2048) (hR : R.val = 256 * n + a.val) (h : Fin 48) (c : Fin 64 → Fin 768) (hc : ∀ e, 768 * r + (c e).val = 64 * h.val + e.val) :
    score (fun k => seen (2 * n + a.val / 128) (a.val % 128) k.val) (fun e => x0 (ix2 a (c e))) (fun k e => keys x1 x2 (a.val / 128) k (c e))
      = scoreAt Q K R h := by
  have d : R.val / 128 = 2 * n + a.val / 128 := by omega
  have d' : R.val % 128 = a.val % 128 := by omega
  unfold scoreAt
  rw [d, d']
  refine score_congr (fun k => Iff.rfl) (fun e => ?_) fun k hk e => ?_
  · have := hc e
    rw [h0 a (c e) (by omega) (by omega)]
    exact congrArg Q (congrArg₂ ix2 (Fin.ext hR.symm) (Fin.ext (hc e)))
  · exact keys_eq hn h1 h2 _ _ (by omega) k hk _ _ (hc e).symm

/-- A point's mean, in the whole arrays. -/
theorem glue5 (hn : n < 8) (hr : r < 4) (h0 : ∀ a b ha hb, x0 (ix2 a b) = Q (ix2 ⟨256 * n + a.val, ha⟩ ⟨768 * r + b.val, hb⟩))
    (h1 : ∀ a b ha hb, x1 (ix2 a b) = K (ix2 ⟨128 * (2 * n - 1) + a.val, ha⟩ ⟨768 * r + b.val, hb⟩))
    (h2 : ∀ a b ha hb, x2 (ix2 a b) = K (ix2 ⟨256 * n + a.val, ha⟩ ⟨768 * r + b.val, hb⟩))
    (h3 : ∀ a b ha hb, x3 (ix2 a b) = W (ix2 ⟨128 * (2 * n - 1) + a.val, ha⟩ ⟨768 * r + b.val, hb⟩))
    (h4 : ∀ a b ha hb, x4 (ix2 a b) = W (ix2 ⟨256 * n + a.val, ha⟩ ⟨768 * r + b.val, hb⟩))
    (a : Fin 256) (c : Fin 768) (R : Fin 2048) (C : Fin 3072) (hR : R.val = 256 * n + a.val) (hC : C.val = 768 * r + c.val) :
    target5 n x0 x1 x2 x3 x4 a c = meanAt Q K W R C := by
  unfold target5 meanAt
  have d : R.val / 128 = 2 * n + a.val / 128 := by omega
  refine (mean'_congr fun k hk => keys_eq hn h3 h4 _ _ (by omega) k hk _ C hC).trans ?_
  rw [scores_at hn h0 h1 h2 a R hR ⟨C.val / 64, by omega⟩ (hcol c) (fun e => by dsimp only; omega), d]

/-- A point's logarithm, in the whole arrays. -/
theorem glue6 (hn : n < 8) (hr : r < 4) (h0 : ∀ a b ha hb, x0 (ix2 a b) = Q (ix2 ⟨256 * n + a.val, ha⟩ ⟨768 * r + b.val, hb⟩))
    (h1 : ∀ a b ha hb, x1 (ix2 a b) = K (ix2 ⟨128 * (2 * n - 1) + a.val, ha⟩ ⟨768 * r + b.val, hb⟩))
    (h2 : ∀ a b ha hb, x2 (ix2 a b) = K (ix2 ⟨256 * n + a.val, ha⟩ ⟨768 * r + b.val, hb⟩))
    (a : Fin 256) (c : Fin 128) (R : Fin 2048) (C : Fin 512) (hR : R.val = 256 * n + a.val) (hC : C.val = 128 * r + c.val) :
    target6 n x0 x1 x2 a c = logAt Q K R C := by
  unfold target6 logAt
  by_cases h : c.val < 12
  · rw [dif_pos h, dif_pos (by omega)]
    exact congrArg lse (scores_at hn h0 h1 h2 a R hR _ _ fun e => by dsimp only; omega)
  · rw [dif_neg h, dif_neg (by omega)]

variable (m : (ℓ : Loc nD τ sig) → Buf (Elt Ideal) ℓ)

/-- Which block each window takes at a point. -/
theorem idx : ∀ t : Fin cfg0.N, (grid0.coords t 1).val = t.val % 8 ∧ win0_0.index t = ![t.val % 8, t.val / 8] ∧ win0_1.index t = ![2 * (t.val % 8) - 1, t.val / 8]
    ∧ win0_2.index t = ![t.val % 8, t.val / 8] ∧ win0_3.index t = ![2 * (t.val % 8) - 1, t.val / 8] ∧ win0_4.index t = ![t.val % 8, t.val / 8]
    ∧ win0_5.index t = ![t.val % 8, t.val / 8] ∧ win0_6.index t = ![t.val % 8, t.val / 8] :=
  (by decide +kernel : ∀ t : Fin grid0.N, _)

/-- The queries. -/
abbrev aQ (c : Dev nD) : FVec Ideal S2048x3072 .bf16 := m ((c : Thread nD τ).loc main_arg0)
/-- The keys. -/
abbrev aK (c : Dev nD) : FVec Ideal S2048x3072 .bf16 := m ((c : Thread nD τ).loc main_arg1)
/-- The values. -/
abbrev aW (c : Dev nD) : FVec Ideal S2048x3072 .bf16 := m ((c : Thread nD τ).loc main_arg2)

/-- The block of queries holds the array's rows and columns of its place. -/
theorem blk0 (c : Dev nD) (t : Fin cfg0.N) (a : Fin 256) (b : Fin 768) (ha hb) :
    (iblk m c 0 t : FVec Ideal S256x768 .bf16) (ix2 a b) = aQ m c (ix2 ⟨256 * (t.val % 8) + a.val, ha⟩ ⟨768 * (t.val / 8) + b.val, hb⟩) := by
  blk_point [iblk, V, idx t]
/-- The first block of keys is the one before the queries' (the first again at the start). -/
theorem blk1 (c : Dev nD) (t : Fin cfg0.N) (a : Fin 128) (b : Fin 768) (ha hb) :
    (iblk m c 1 t : FVec Ideal S128x768 .bf16) (ix2 a b) = aK m c (ix2 ⟨128 * (2 * (t.val % 8) - 1) + a.val, ha⟩ ⟨768 * (t.val / 8) + b.val, hb⟩) := by
  blk_point [iblk, V, idx t]
/-- The second block of keys holds the queries' own rows. -/
theorem blk2 (c : Dev nD) (t : Fin cfg0.N) (a : Fin 256) (b : Fin 768) (ha hb) :
    (iblk m c 2 t : FVec Ideal S256x768 .bf16) (ix2 a b) = aK m c (ix2 ⟨256 * (t.val % 8) + a.val, ha⟩ ⟨768 * (t.val / 8) + b.val, hb⟩) := by
  blk_point [iblk, V, idx t]
/-- The first block of values is the one before the queries' (the first again at the start). -/
theorem blk3 (c : Dev nD) (t : Fin cfg0.N) (a : Fin 128) (b : Fin 768) (ha hb) :
    (iblk m c 3 t : FVec Ideal S128x768 .bf16) (ix2 a b) = aW m c (ix2 ⟨128 * (2 * (t.val % 8) - 1) + a.val, ha⟩ ⟨768 * (t.val / 8) + b.val, hb⟩) := by
  blk_point [iblk, V, idx t]
/-- The second block of values holds the queries' own rows. -/
theorem blk4 (c : Dev nD) (t : Fin cfg0.N) (a : Fin 256) (b : Fin 768) (ha hb) :
    (iblk m c 4 t : FVec Ideal S256x768 .bf16) (ix2 a b) = aW m c (ix2 ⟨256 * (t.val % 8) + a.val, ha⟩ ⟨768 * (t.val / 8) + b.val, hb⟩) := by
  blk_point [iblk, V, idx t]

/-- The means, element by element. -/
theorem array5 (c : Dev nD) : (dats m 0 c).arrAt 5 cfg0.N = fun i : S2048x3072.Idx =>
    meanAt (aQ m c) (aK m c) (aW m c) (i 0) (i 1) := by
  refine (dats m 0 c).arrAt_eq_of_covers 5 _ (by decide +kernel) fun t _ y => ?_
  blk_simp
  rw [after0_5]
  refine (out5 _ _ _ _ _ _ _).trans ?_
  rw [(idx t).1]
  refine (glue5 (by omega) (by have : t.val < 32 := t.isLt; omega) (blk0 m c t) (blk1 m c t) (blk2 m c t) (blk3 m c t) (blk4 m c t) _ _ _ _ ?_ ?_)
  · blk_simp [idx t]
    omega
  · blk_simp [idx t]
    omega

/-- The logarithms, element by element. -/
theorem array6 (c : Dev nD) : (dats m 0 c).arrAt 6 cfg0.N = fun i : S2048x512.Idx =>
    logAt (aQ m c) (aK m c) (i 0) (i 1) := by
  refine (dats m 0 c).arrAt_eq_of_covers 6 _ (by decide +kernel) fun t _ y => ?_
  blk_simp
  rw [after0_6]
  refine (out6 _ _ _ _ _ _ _).trans ?_
  rw [(idx t).1]
  refine (glue6 (by omega) (by have : t.val < 32 := t.isLt; omega) (blk0 m c t) (blk1 m c t) (blk2 m c t) _ _ _ _ ?_ ?_)
  · blk_simp [idx t]
    omega
  · blk_simp [idx t]
    omega
end Cert.Kernel19Ideal.Att
-- ==== Proof.AttRef.lean ====
module
public import proofs.«01_k».proof.Proof.AttArr
public import proofs.«01_k».proof.Proof.Gen.Reference19Ideal
/-! The reference of the attention's forward call, stage by stage. -/
@[expose] public section
set_option maxRecDepth 16384
noncomputable section
open Idealize.ShloMosaic Idealize.ShloMosaic.TcCoe Idealize.SL.Sem
namespace Cert.AttRef
open Cert.Reference19Ideal Cert.Reference19Ideal.Gen Cert.AttMath Cert.Kernel19Ideal.Att

/-- An array's rows by residue, block and place, its columns by head and lane. -/
def strided (x : FVec Ideal S2048x3072 .bf16) : FVec Ideal S4x16x128x12x64 .f32 :=
  transpose S4x16x128x12x64 [2, 0, 1, 3, 4] (shapeCast S16x128x4x12x64 (extf .f32 x bitsLt_bf16_f32) shapeCasts_S2048x3072_S16x128x4x12x64) transposes_S16x128x4x12x64_S4x16x128x12x64_2_0_1_3_4

/-- Each block after the block before it, zero before the first. -/
def withPrev (x : FVec Ideal S4x16x128x12x64 .f32) : FVec Ideal S4x16x256x12x64 .f32 :=
  concatenate S4x16x256x12x64 2 [⟨S4x16x128x12x64, concatenate S4x16x128x12x64 1 [⟨S4x1x128x12x64, broadcastInDim S4x1x128x12x64 ![] bcast_S_S4x1x128x12x64 (constant S_ .f32 0x00000000#32 : FVec Ideal S_ .f32)⟩,
    ⟨S4x15x128x12x64, extractStridedSlice S4x15x128x12x64 ![0, 0, 0, 0, 0] x slices_S4x16x128x12x64_S4x15x128x12x64_0_0_0_0_0⟩] concatenates_S4x1x128x12x64_S4x15x128x12x64_S4x16x128x12x64_d1⟩, ⟨S4x16x128x12x64, x⟩] concatenates_S4x16x128x12x64_S4x16x128x12x64_S4x16x256x12x64_d2

/-- How far each key lies before each query. -/
def dist : IVec S128x256 32 :=
  subi (broadcastInDim S128x256 ![0, 1] bcast_S128x1_S128x256_0_1 (addi (broadcastInDim S128x1 ![0] bcast_S128_S128x1_0 (iotaInDim S128 32 0)) (broadcastInDim S128x1 ![] bcast_S_S128x1 (constantI S_ 32 128#32))))
    (broadcastInDim S128x256 ![0, 1] bcast_S1x256_S128x256_0_1 (broadcastInDim S1x256 ![1] bcast_S256_S1x256_1 (iotaInDim S256 32 0)))

/-- Which keys are seen. -/
def valid : IVec S16x1x128x256 1 :=
  broadcastInDim S16x1x128x256 ![0, 2, 3] bcast_S16x128x256_S16x1x128x256_0_2_3 (andi
    (broadcastInDim S16x128x256 ![0, 1, 2] bcast_S1x128x256_S16x128x256_0_1_2 (broadcastInDim S1x128x256 ![1, 2] bcast_S128x256_S1x128x256_1_2 (andi
      (cmpi .sge dist (broadcastInDim S128x256 ![] bcast_S_S128x256 (constantI S_ 32 0#32))) (cmpi .sle dist (broadcastInDim S128x256 ![] bcast_S_S128x256 (constantI S_ 32 128#32))))))
    (broadcastInDim S16x128x256 ![0, 1, 2] bcast_S16x1x256_S16x128x256_0_1_2 (cmpi .sge (addi (broadcastInDim S16x1x256 ![0, 1, 2] bcast_S16x1x1_S16x1x256_0_1_2
      (muli (subi (broadcastInDim S16x1x1 ![0] bcast_S16_S16x1x1_0 (iotaInDim S16 32 0)) (broadcastInDim S16x1x1 ![] bcast_S_S16x1x1 (constantI S_ 32 1#32))) (broadcastInDim S16x1x1 ![] bcast_S_S16x1x1 (constantI S_ 32 128#32))))
      (broadcastInDim S16x1x256 ![0, 1, 2] bcast_S1x1x256_S16x1x256_0_1_2 (broadcastInDim S1x1x256 ![1, 2] bcast_S1x256_S1x1x256_1_2 (broadcastInDim S1x256 ![1] bcast_S256_S1x256_1 (iotaInDim S256 32 0)))))
      (broadcastInDim S16x1x256 ![] bcast_S_S16x1x256 (constantI S_ 32 0#32)))))

/-- The masked scores. -/
def masked (q : FVec Ideal S4x16x128x12x64 .f32) (k : FVec Ideal S4x16x256x12x64 .f32) : FVec Ideal S4x16x12x128x256 .f32 :=
  select (broadcastInDim S4x16x12x128x256 ![1, 2, 3, 4] bcast_S16x1x128x256_S4x16x12x128x256_1_2_3_4 valid)
    (Host.dotGeneral dot_S4x16x128x12x64_S4x16x256x12x64_S4x16x12x128x256_4_4_2_2_013_013 none q k)
    (broadcastInDim S4x16x12x128x256 ![] bcast_S_S4x16x12x128x256 (id (constant S_ .f32 0xFF800000#32 : FVec Ideal S_ .f32)))

/-- The greatest scores. -/
def greatest (s : FVec Ideal S4x16x12x128x256 .f32) : FVec Ideal S4x16x12x128x1 .f32 :=
  broadcastInDim S4x16x12x128x1 ![0, 1, 2, 3] bcast_S4x16x12x128_S4x16x12x128x1_0_1_2_3 (Host.reduce FloatOps.maximumf s (constant S_ .f32 0xFF800000#32 : FVec Ideal S_ .f32) reducesTo_S4x16x12x128x256_S4x16x12x128_d4 h_S_)

/-- The weights. -/
def weights (s : FVec Ideal S4x16x12x128x256 .f32) : FVec Ideal S4x16x12x128x256 .f32 :=
  Host.exp (subf s (broadcastInDim S4x16x12x128x256 ![0, 1, 2, 3, 4] bcast_S4x16x12x128x1_S4x16x12x128x256_0_1_2_3_4 (greatest s)))

/-- The weights' sums. -/
def totals (w : FVec Ideal S4x16x12x128x256 .f32) : FVec Ideal S4x16x12x128x1 .f32 :=
  broadcastInDim S4x16x12x128x1 ![0, 1, 2, 3] bcast_S4x16x12x128_S4x16x12x128x1_0_1_2_3 (Host.reduceAdd w (constant S_ .f32 0x00000000#32 : FVec Ideal S_ .f32) reducesTo_S4x16x12x128x256_S4x16x12x128_d4 h_S_)

/-- The means, laid out as the queries were. -/
def means (v : FVec Ideal S4x16x256x12x64 .f32) (w : FVec Ideal S4x16x12x128x256 .f32) : FVec Ideal S2048x3072 .f32 :=
  shapeCast S2048x3072 (transpose S16x128x4x12x64 [1, 2, 0, 3, 4] (transpose S4x16x128x12x64 [0, 1, 4, 2, 3] (Host.dotGeneral dot_S4x16x256x12x64_S4x16x12x128x256_S4x16x12x64x128_2_4_4_3_013_012 none v
    (Host.divf w (broadcastInDim S4x16x12x128x256 ![0, 1, 2, 3, 4] bcast_S4x16x12x128x1_S4x16x12x128x256_0_1_2_3_4 (totals w)))) transposes_S4x16x12x64x128_S4x16x128x12x64_0_1_4_2_3)
    transposes_S4x16x128x12x64_S16x128x4x12x64_1_2_0_3_4) shapeCasts_S16x128x4x12x64_S2048x3072

/-- The logarithms, a unit axis dropped. -/
def logsFlat (s : FVec Ideal S4x16x12x128x256 .f32) : FVec Ideal S4x16x12x128 .f32 :=
  shapeCast S4x16x12x128 (addf (greatest s) (Host.log (totals (weights s)))) shapeCasts_S4x16x12x128x1_S4x16x12x128

/-- The logarithms by row, residue and head. -/
def logsTurned (l : FVec Ideal S4x16x12x128 .f32) : FVec Ideal S16x128x4x128 .f32 :=
  concatenate S16x128x4x128 3 [⟨S16x128x4x12, transpose S16x128x4x12 [1, 3, 0, 2] l transposes_S4x16x12x128_S16x128x4x12_1_3_0_2⟩,
    ⟨S16x128x4x116, broadcastInDim S16x128x4x116 ![] bcast_S_S16x128x4x116 (constant S_ .f32 0x00000000#32 : FVec Ideal S_ .f32)⟩] concatenates_S16x128x4x12_S16x128x4x116_S16x128x4x128_d3

/-- The logarithms, twelve of each 128 columns. -/
def logs (s : FVec Ideal S4x16x12x128x256 .f32) : FVec Ideal S2048x512 .f32 :=
  shapeCast S2048x512 (logsTurned (logsFlat s)) shapeCasts_S16x128x4x128_S2048x512

end Cert.AttRef
-- ==== Proof.AttRefScores.lean ====
module
public import proofs.«01_k».proof.Proof.AttRef
/-! The reference's layout and its masked scores, element by element. -/
@[expose] public section
set_option maxRecDepth 16384
noncomputable section
open Idealize.ShloMosaic Idealize.ShloMosaic.TcCoe Idealize.SL.Sem
namespace Cert.AttRef
open Cert.Reference19Ideal Cert.Reference19Ideal.Gen Cert.AttMath Cert.Kernel19Ideal.Att

/-- An element of the laid-out array. -/
theorem strided_at (x : FVec Ideal S2048x3072 .bf16) (r : Fin 4) (n : Fin 16) (a : Fin 128) (h : Fin 12) (e : Fin 64) :
    strided x (ix5 r n a h e) = x (ix2 ⟨128 * n.val + a.val, by omega⟩ ⟨64 * (12 * r.val + h.val) + e.val, by omega⟩) := by
  pointwise [strided]
  exact congrArg x (congrArg₂ ix2 (Fin.ext (by dsimp only; omega)) (Fin.ext (by dsimp only; omega)))

/-- An element of the doubled blocks. -/
theorem withPrev_at (x : FVec Ideal S4x16x128x12x64 .f32) (r : Fin 4) (n : Fin 16) (k : Fin 256) (h : Fin 12) (e : Fin 64) :
    withPrev x (ix5 r n k h e) = if hk : k.val < 128 then (if n.val < 1 then 0 else x (ix5 r ⟨n.val - 1, by omega⟩ ⟨k.val, hk⟩ h e))
      else x (ix5 r n ⟨k.val - 128, by omega⟩ h e) := by
  pointwise [withPrev]
  by_cases hk : k.val < 128
  · rw [dif_pos hk, dif_pos hk]
    by_cases hn : n.val < 1
    · rw [dif_pos hn, if_pos hn]
    · rw [dif_neg hn, if_neg hn]
  · rw [dif_neg hk, dif_neg hk]

/-- A key (or value) of the doubled blocks, in the array. -/
theorem key_at (x : FVec Ideal S2048x3072 .bf16) (r : Fin 4) (n : Fin 16) (k : Fin 256) (h : Fin 12) (e : Fin 64) :
    withPrev (strided x) (ix5 r n k h e) = keyAt x n.val k ⟨64 * (12 * r.val + h.val) + e.val, by omega⟩ := by
  rw [withPrev_at]
  unfold keyAt
  by_cases hk : k.val < 128
  · rw [dif_pos hk]
    by_cases hn : n.val < 1
    · rw [if_pos hn, dif_neg (by omega)]
    · rw [if_neg hn, dif_pos (by omega), strided_at]
      exact congrArg x (congrArg₂ ix2 (Fin.ext (by dsimp only; omega)) rfl)
  · rw [dif_neg hk, dif_pos (by omega), strided_at]
    exact congrArg x (congrArg₂ ix2 (Fin.ext (by dsimp only; omega)) rfl)

/-- A key of block `n` or of the block before lies in the sequence. -/
theorem block_cmp : ∀ (n : Fin 16) (k : Fin 256),
    IntOp.cmpi .sge (IntOp.addi (IntOp.muli (IntOp.subi (BitVec.ofNat 32 n.val) 1#32) 128#32) (BitVec.ofNat 32 k.val)) 0#32
    = BitVec.ofBool (decide (128 ≤ 128 * n.val + k.val)) := by decide +kernel

/-- Which keys the reference sees. -/
theorem valid_at (n : Fin 16) (a : Fin 128) (k : Fin 256) :
    valid (ix4 n 0 a k) = 1#1 ↔ seen n.val a.val k.val := by
  pointwise [valid, dist]
  rw [band_cmp, block_cmp, and_ofBool, ofBool_one, Bool.and_eq_true, decide_eq_true_iff, decide_eq_true_iff]
  exact Iff.rfl

/-- A bit is one or zero. -/
theorem bit : ∀ b : BitVec 1, b = 1#1 ∨ b = 0#1 := by decide

/-- The masked scores. -/
theorem masked_at (q : FVec Ideal S4x16x128x12x64 .f32) (k : FVec Ideal S4x16x256x12x64 .f32) (r : Fin 4) (n : Fin 16) (h : Fin 12) (a : Fin 128) (j : Fin 256) :
    masked q k (ix5 r n h a j) = score (fun j => valid (ix4 n 0 a j) = 1#1) (fun e => q (ix5 r n a h e)) (fun j e => k (ix5 r n j h e)) j := by
  pointwise [masked]
  unfold score
  rcases bit (valid (ix4 n 0 a j)) with e | e
  · rw [if_pos e, e]
    rfl
  · rw [if_neg (show ¬valid (ix4 n 0 a j) = 1#1 by rw [e]; decide), e]
    exact low_eq

/-- The masked scores of the laid-out arrays. -/
theorem scores_ref (q k : FVec Ideal S2048x3072 .bf16) (r : Fin 4) (n : Fin 16) (h : Fin 12) (a : Fin 128) (R : Fin 2048) (hR : R.val = 128 * n.val + a.val)
    (H : Fin 48) (hH : H.val = 12 * r.val + h.val) :
    (fun j => masked (strided q) (withPrev (strided k)) (ix5 r n h a j)) = scoreAt q k R H := by
  have d : R.val / 128 = n.val := by omega
  have d' : R.val % 128 = a.val := by omega
  funext j
  rw [masked_at]
  unfold scoreAt
  rw [d, d']
  refine congrFun (score_congr (fun j => valid_at n a j) (fun e => ?_) fun j _ e => ?_) j
  · rw [strided_at]
    exact congrArg q (congrArg₂ ix2 (Fin.ext hR.symm) (Fin.ext (by dsimp only; rw [hH])))
  · rw [key_at]
    exact congrArg (keyAt k n.val j) (Fin.ext (by dsimp only; rw [hH]))

end Cert.AttRef
-- ==== Proof.AttRefSoftmax.lean ====
module
public import proofs.«01_k».proof.Proof.AttRef
/-! The reference's softmax and means, element by element. -/
@[expose] public section
set_option maxRecDepth 16384
noncomputable section
open Idealize.ShloMosaic Idealize.ShloMosaic.TcCoe Idealize.SL.Sem
namespace Cert.AttRef
open Cert.Reference19Ideal Cert.Reference19Ideal.Gen Cert.AttMath Cert.Kernel19Ideal.Att

/-- The greatest score of a row. -/
theorem greatest_at (s : FVec Ideal S4x16x12x128x256 .f32) (r : Fin 4) (n : Fin 16) (h : Fin 12) (a : Fin 128) (z : Fin 1) :
    greatest s (ix5 r n h a z) = top fun j => s (ix5 r n h a j) := by
  pointwise [greatest]
  rw [low_eq]
  rfl

/-- A row's weights. -/
theorem weights_at (s : FVec Ideal S4x16x12x128x256 .f32) (r : Fin 4) (n : Fin 16) (h : Fin 12) (a : Fin 128) (j : Fin 256) :
    weights s (ix5 r n h a j) = weight (fun j => s (ix5 r n h a j)) j := by
  pointwise [weights]
  rw [greatest_at]
  rfl

/-- A row's sum. -/
theorem totals_at (w : FVec Ideal S4x16x12x128x256 .f32) (r : Fin 4) (n : Fin 16) (h : Fin 12) (a : Fin 128) (z : Fin 1) :
    totals w (ix5 r n h a z) = ∑ j, w (ix5 r n h a j) := by
  pointwise [totals]

end Cert.AttRef
-- ==== Proof.AttRefMeans.lean ====
module
public import proofs.«01_k».proof.Proof.AttRef
/-! The reference's means in the arguments' layout. -/
@[expose] public section
set_option maxRecDepth 16384
noncomputable section
open Idealize.ShloMosaic Idealize.ShloMosaic.TcCoe Idealize.SL.Sem
namespace Cert.AttRef
open Cert.Reference19Ideal Cert.Reference19Ideal.Gen Cert.AttMath Cert.Kernel19Ideal.Att

/-- A mean, where the arguments' layout has it. -/
theorem means_at (v : FVec Ideal S4x16x256x12x64 .f32) (w : FVec Ideal S4x16x12x128x256 .f32) (R : Fin 2048) (C : Fin 3072) :
    means v w (ix2 R C) = ∑ j, v (ix5 ⟨C.val / 768, by omega⟩ ⟨R.val / 128, by omega⟩ j ⟨C.val / 64 % 12, by omega⟩ ⟨C.val % 64, by omega⟩) *
      Ideal.div (w (ix5 ⟨C.val / 768, by omega⟩ ⟨R.val / 128, by omega⟩ ⟨C.val / 64 % 12, by omega⟩ ⟨R.val % 128, by omega⟩ j))
        (totals w (ix5 ⟨C.val / 768, by omega⟩ ⟨R.val / 128, by omega⟩ ⟨C.val / 64 % 12, by omega⟩ ⟨R.val % 128, by omega⟩ 0)) := by
  pointwise [means]

end Cert.AttRef
-- ==== Proof.AttRefLogs.lean ====
module
public import proofs.«01_k».proof.Proof.AttRef
/-! The reference's logarithms in the layout it returns. -/
@[expose] public section
set_option maxRecDepth 16384
noncomputable section
open Idealize.ShloMosaic Idealize.ShloMosaic.TcCoe Idealize.SL.Sem
namespace Cert.AttRef
open Cert.Reference19Ideal Cert.Reference19Ideal.Gen Cert.AttMath Cert.Kernel19Ideal.Att

/-- An array with a last axis of one element, that axis dropped. -/
theorem drop_at (x : FVec Ideal S4x16x12x128x1 .f32) (r : Fin 4) (n : Fin 16) (h : Fin 12) (a : Fin 128) :
    shapeCast S4x16x12x128 x shapeCasts_S4x16x12x128x1_S4x16x12x128 (ix4 r n h a) = x (ix5 r n h a 0) := by
  refine shapeCast_apply x _ (ix4 r n h a) (ix5 r n h a 0) ?_
  rw [Shape.rowMajor_val_four, Shape.rowMajor_val_five]
  show ((((r.val * 16 + n.val) * 12 + h.val) * 128 + a.val) * 1 + 0 : ℕ) = ((r.val * 16 + n.val) * 12 + h.val) * 128 + a.val
  omega

/-- A sum with a logarithm, element by element. -/
theorem addLog_at (x y : FVec Ideal S4x16x12x128x1 .f32) (i : S4x16x12x128x1.Idx) : (addf x (Host.log y)) i = x i + Ideal.log (y i) := by
  pointwise

/-- A logarithm, the unit axis dropped. -/
theorem logsFlat_at (s : FVec Ideal S4x16x12x128x256 .f32) (r : Fin 4) (n : Fin 16) (h : Fin 12) (a : Fin 128) :
    logsFlat s (ix4 r n h a) = greatest s (ix5 r n h a 0) + Ideal.log (totals (weights s) (ix5 r n h a 0)) :=
  (drop_at (addf (greatest s) (Host.log (totals (weights s)))) r n h a).trans (addLog_at (greatest s) (totals (weights s)) (ix5 r n h a 0))

/-- A logarithm by row, residue and head; zero beyond the twelfth. -/
theorem logsTurned_at (l : FVec Ideal S4x16x12x128 .f32) (n : Fin 16) (a : Fin 128) (r : Fin 4) (c : Fin 128) :
    logsTurned l (ix4 n a r c) = if h : c.val < 12 then l (ix4 r n ⟨c.val, h⟩ a) else 0 := by
  pointwise [logsTurned]

/-- A logarithm, where the returned layout has it. -/
theorem logs_at (s : FVec Ideal S4x16x12x128x256 .f32) (R : Fin 2048) (C : Fin 512) :
    logs s (ix2 R C) = logsTurned (logsFlat s) (ix4 ⟨R.val / 128, by omega⟩ ⟨R.val % 128, by omega⟩ ⟨C.val / 128, by omega⟩ ⟨C.val % 128, by omega⟩) := by
  pointwise [logs]

end Cert.AttRef
-- ==== Proof.AttRefValue.lean ====
module
public import proofs.«01_k».proof.Proof.AttRefScores
public import proofs.«01_k».proof.Proof.AttRefSoftmax
public import proofs.«01_k».proof.Proof.AttRefMeans
public import proofs.«01_k».proof.Proof.AttRefLogs
/-! The reference's two results, element by element. -/
@[expose] public section
set_option maxRecDepth 16384
noncomputable section
open Idealize.ShloMosaic Idealize.ShloMosaic.TcCoe Idealize.SL.Sem
namespace Cert.AttRef
open Cert.Reference19Ideal Cert.Reference19Ideal.Gen Cert.AttMath Cert.ScanMath Cert.Kernel19Ideal.Att

variable (q k v : FVec Ideal S2048x3072 .bf16)

/-- The reference's masked scores. -/
abbrev sOf : FVec Ideal S4x16x12x128x256 .f32 := masked (strided q) (withPrev (strided k))

/-- The reference's logarithm is the kernel's. -/
theorem ref_log (R : Fin 2048) (C : Fin 512) : logs (sOf q k) (ix2 R C) = logAt q k R C := by
  rw [logs_at, logsTurned_at]
  unfold logAt
  by_cases h : C.val % 128 < 12
  · rw [dif_pos h, dif_pos h, logsFlat_at, greatest_at, totals_at]
    have e := scores_ref q k ⟨C.val / 128, by omega⟩ ⟨R.val / 128, by omega⟩ ⟨C.val % 128, h⟩ ⟨R.val % 128, by omega⟩ R (by dsimp only; omega)
      ⟨12 * (C.val / 128) + C.val % 128, by omega⟩ rfl
    simp only [weights_at]
    rw [e]
    rfl
  · rw [dif_neg h, dif_neg h]

/-- A key of an array of real numbers is real. -/
theorem keyAt_fin {A : FVec Ideal S2048x3072 .bf16} (hA : ∀ r c, Fin' (A (ix2 r c))) (j : ℕ) (i : Fin 256) (c : Fin 3072) : Fin' (keyAt A j i c) := by
  unfold keyAt
  split
  · exact hA _ _
  · exact ⟨0, rfl⟩

/-- The reference's mean is the kernel's, where queries and keys are real. -/
theorem ref_mean (hq : ∀ r c, Fin' (q (ix2 r c))) (hk : ∀ r c, Fin' (k (ix2 r c))) (R : Fin 2048) (C : Fin 3072) :
    means (withPrev (strided v)) (weights (sOf q k)) (ix2 R C) = meanAt q k v R C := by
  rw [means_at, totals_at]
  have e := scores_ref q k ⟨C.val / 768, by omega⟩ ⟨R.val / 128, by omega⟩ ⟨C.val / 64 % 12, by omega⟩ ⟨R.val % 128, by omega⟩ R (by dsimp only; omega)
    ⟨C.val / 64, by omega⟩ (by dsimp only; omega)
  simp only [weights_at]
  rw [e]
  unfold meanAt
  have ht : total (scoreAt q k R ⟨C.val / 64, by omega⟩) ≠ 0 :=
    total_ne_zero (fun _ => hq _ _) (fun _ _ _ => keyAt_fin hk _ _ _) (d := ⟨R.val % 128 + 128, by omega⟩) ⟨⟨by dsimp only; omega, by dsimp only; omega⟩, by dsimp only; omega⟩
  rw [← mean_eq ht]
  refine Finset.sum_congr rfl fun j _ => ?_
  rw [mul_comm, key_at]
  exact congrArg (_ * ·) (congrArg (keyAt v (R.val / 128) j) (Fin.ext (by dsimp only; omega)))

end Cert.AttRef
-- ==== Proof.AttClaim.lean ====
module
public import proofs.«01_k».proof.Defs
public import Idealize.ShloMosaic.Lib.Claim
public import Idealize.ShloMosaic.Lib.Pointwise
public import proofs.«01_k».proof.Proof.Finite
public import proofs.«01_k».proof.Proof.AttRefValue
/-! The claims on the attention's forward call. -/
@[expose] public section
set_option maxRecDepth 16384
noncomputable section
open Idealize.ShloMosaic Idealize.ShloMosaic.TcCoe Idealize.SL.Sem

namespace Cert.Pre_att_finite.Read
open Cert.Pre_att_finite Cert.ScanMath Cert.Pre_finite.Read

/-- The side conditions of the precondition's operations. -/
theorem facts : Cert.Pre_att_finite.Facts where
  concatenates_S2048x3072_S2048x3072_S4096x3072_d0 := by decide
  bitsLt_bf16_f32 := by decide
  bcast_S_S4096x3072 := by decide

variable [Cert.Pre_att_finite.Facts]
variable {q k v : FVec Ideal S2048x3072 .bf16}

/-- Every query is real. -/
theorem fin0 (h : Cert.Pre_att_finite.fn (F := Ideal) q k v = fun _ => 1#1) (r : Fin 2048) (l : Fin 3072) : Fin' (q (ix2 r l)) := by
  have h := congrFun h (ix2 ⟨0 + r.val, by omega⟩ l)
  pointwise [Cert.Pre_att_finite.fn] at h
  haveI := Cert.Pre_finite.Read.facts
  exact fin_of_cmp h

/-- Every key is real. -/
theorem fin1 (h : Cert.Pre_att_finite.fn (F := Ideal) q k v = fun _ => 1#1) (r : Fin 2048) (l : Fin 3072) : Fin' (k (ix2 r l)) := by
  have h := congrFun h (ix2 ⟨2048 + r.val, by omega⟩ l)
  pointwise [Cert.Pre_att_finite.fn] at h
  haveI := Cert.Pre_finite.Read.facts
  exact fin_of_cmp h
end Cert.Pre_att_finite.Read

namespace Cert.AttClaim
open Cert.Kernel19Ideal.Att Cert.AttRef

section
open Cert.Reference19Ideal
/-- The scores as the reference's masking reads them. -/
theorem arg_s (h1 h2 h3) (b : FVec Ideal S4x16x12x128x256 .f32) :
    (StableHlo.TRef.of (T := ⟨S4x16x12x128x256, .f32⟩) main_v19 h1 h2 h3).ofBuf (Val := Elt Ideal) b = b := rfl
/-- The mask as the reference's masking reads it. -/
theorem arg_v (h1 h2 h3) (b : IVec S16x1x128x256 1) :
    (StableHlo.TRef.of (T := ⟨S16x1x128x256, .i1⟩) main_v50 h1 h2 h3).ofBuf (Val := Elt Ideal) b = b := rfl
/-- The masked score as the reference's masking reads it. -/
theorem arg_c (h1 h2 h3) (b : FVec Ideal S_ .f32) :
    (StableHlo.TRef.of (T := ⟨S_, .f32⟩) main_cst_6 h1 h2 h3).ofBuf (Val := Elt Ideal) b = b := rfl
/-- What the reference's masking leaves. -/
theorem res_s (h1 h2 h3) (b : FVec Ideal S4x16x12x128x256 .f32) :
    (StableHlo.TRef.of (T := ⟨S4x16x12x128x256, .f32⟩) main_v51 h1 h2 h3).toBuf (Val := Elt Ideal) b = b := rfl
/-- The values inside the masking, read back. -/
theorem mid0 (h1 h2 h3) (b : FVec Ideal S_ .f32) :
    (StableHlo.TRef.of (T := ⟨S_, .f32⟩) main_call0_v0 h1 h2 h3).ofBuf (Val := Elt Ideal) ((StableHlo.TRef.of (T := ⟨S_, .f32⟩) main_call0_v0 h1 h2 h3).toBuf (Val := Elt Ideal) b) = b := rfl
/-- The same of the mask. -/
theorem mid1 (h1 h2 h3) (b : IVec S4x16x12x128x256 1) :
    (StableHlo.TRef.of (T := ⟨S4x16x12x128x256, .i1⟩) main_call0_v1 h1 h2 h3).ofBuf (Val := Elt Ideal) ((StableHlo.TRef.of (T := ⟨S4x16x12x128x256, .i1⟩) main_call0_v1 h1 h2 h3).toBuf (Val := Elt Ideal) b) = b := rfl
/-- The same of the masked score. -/
theorem mid2 (h1 h2 h3) (b : FVec Ideal S4x16x12x128x256 .f32) :
    (StableHlo.TRef.of (T := ⟨S4x16x12x128x256, .f32⟩) main_call0_v2 h1 h2 h3).ofBuf (Val := Elt Ideal) ((StableHlo.TRef.of (T := ⟨S4x16x12x128x256, .f32⟩) main_call0_v2 h1 h2 h3).toBuf (Val := Elt Ideal) b) = b := rfl
end

/-- The reference runs and keeps its arguments. -/
theorem run : Cert.quiescent_Reference19Ideal (hReference19Ideal := Cert.Reference19Ideal.Gen.facts) := by
  intro m g _
  hlo_run
  · exact fun _ => by simp only [and_self]
  · exact sem_eq_zero_of_no_sems (by decide) _

set_option maxHeartbeats 1600000 in
/-- Kernel and reference leave the same means and the same logarithms. -/
theorem same : Cert.algebraic_Kernel19Ideal_Reference19Ideal_pre_att_finite (hKernel19Ideal := Cert.Kernel19Ideal.Gen.facts)
    (hReference19Ideal := Cert.Reference19Ideal.Gen.facts) (hPre_att_finite := Cert.Pre_att_finite.Read.facts) := by
  letI := Cert.Pre_att_finite.Read.facts
  intro m g m' g' hp hagree
  repeat' (refine Exists.intro ?_ ?_)
  rotate_right
  refine And.intro ?_ ?_
  · run_from Cert.Kernel19Ideal.Gen.run_main m g
  · hlo_run
    · refine Eq.trans ?_ (array5 m c).symm
      simp only [arg_s, arg_v, arg_c, res_s, mid0, mid1, mid2]
      refine Eq.trans (congrArg₂ means (?_ : _ = withPrev (strided (aW m c))) (?_ : _ = weights (sOf (aQ m c) (aK m c)))) ?_
      · exact congrArg (fun x => withPrev (strided x)) (hagree c).2.2
      · refine congrArg weights (?_ : _ = masked (strided (aQ m c)) (withPrev (strided (aK m c))))
        exact congrArg₂ masked (congrArg strided rfl) (congrArg (fun x => withPrev (strided x)) (hagree c).2.1)
      · funext i
        have e : i = ix2 (i 0) (i 1) := ix2_ext rfl rfl
        exact Eq.trans (congrArg _ e) (ref_mean (aQ m c) (aK m c) (aW m c) (fun r l => Cert.Pre_att_finite.Read.fin0 (hp c) r l) (fun r l => Cert.Pre_att_finite.Read.fin1 (hp c) r l) (i 0) (i 1))
    · refine Eq.trans ?_ (array6 m c).symm
      simp only [arg_s, arg_v, arg_c, res_s, mid0, mid1, mid2]
      refine Eq.trans (congrArg logs (?_ : _ = masked (strided (aQ m c)) (withPrev (strided (aK m c))))) ?_
      · exact congrArg₂ masked (congrArg strided rfl) (congrArg (fun x => withPrev (strided x)) rfl)
      · funext i
        have e : i = ix2 (i 0) (i 1) := ix2_ext rfl rfl
        exact Eq.trans (congrArg _ e) (ref_log (aQ m c) (aK m c) (i 0) (i 1))
end Cert.AttClaim
end
-- ==== Proof.lean ====
/- The proof of the certificate's claims: the frames, and that the kernel and the reference leave the same arrays. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.KernelIdeal.Value
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Reference3Ideal
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Reference4Ideal
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Reference5Ideal
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Reference6Ideal
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7.Frame
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Reference7Ideal
public import proofs.«01_k».proof.Proof.Gen.Kernel8
public import proofs.«01_k».proof.Proof.Gen.Kernel8.Skeleton
public import proofs.«01_k».proof.Proof.Gen.Kernel8.Launch
public import proofs.«01_k».proof.Proof.Gen.Kernel8.Points
public import proofs.«01_k».proof.Proof.Gen.Kernel8.Frame
public import proofs.«01_k».proof.Proof.Gen.Kernel8Ideal
public import proofs.«01_k».proof.Proof.Gen.Kernel8Ideal.Skeleton
public import proofs.«01_k».proof.Proof.Gen.Kernel8Ideal.Launch
public import proofs.«01_k».proof.Proof.Gen.Kernel8Ideal.Points
public import proofs.«01_k».proof.Proof.Gen.Kernel8Ideal.Frame
public import proofs.«01_k».proof.Proof.Gen.Reference8Ideal
public import proofs.«01_k».proof.Proof.Gen.Kernel9
public import proofs.«01_k».proof.Proof.Gen.Kernel9.Skeleton
public import proofs.«01_k».proof.Proof.Gen.Kernel9.Launch
public import proofs.«01_k».proof.Proof.Gen.Kernel9.Points
public import proofs.«01_k».proof.Proof.Gen.Kernel9.Frame
public import proofs.«01_k».proof.Proof.Gen.Kernel9Ideal
public import proofs.«01_k».proof.Proof.Gen.Kernel9Ideal.Skeleton
public import proofs.«01_k».proof.Proof.Gen.Kernel9Ideal.Launch
public import proofs.«01_k».proof.Proof.Gen.Kernel9Ideal.Points
public import proofs.«01_k».proof.Proof.Gen.Kernel9Ideal.Frame
public import proofs.«01_k».proof.Proof.Gen.Reference9Ideal
public import proofs.«01_k».proof.Proof.Gen.Kernel10
public import proofs.«01_k».proof.Proof.Gen.Kernel10.Skeleton
public import proofs.«01_k».proof.Proof.Gen.Kernel10.Launch
public import proofs.«01_k».proof.Proof.Gen.Kernel10.Points
public import proofs.«01_k».proof.Proof.Gen.Kernel10.Frame
public import proofs.«01_k».proof.Proof.Gen.Kernel10Ideal
public import proofs.«01_k».proof.Proof.Gen.Kernel10Ideal.Skeleton
public import proofs.«01_k».proof.Proof.Gen.Kernel10Ideal.Launch
public import proofs.«01_k».proof.Proof.Gen.Kernel10Ideal.Points
public import proofs.«01_k».proof.Proof.Gen.Kernel10Ideal.Frame
public import proofs.«01_k».proof.Proof.Gen.Reference10Ideal
public import proofs.«01_k».proof.Proof.Gen.Kernel11
public import proofs.«01_k».proof.Proof.Gen.Kernel11.Skeleton
public import proofs.«01_k».proof.Proof.Gen.Kernel11.Launch
public import proofs.«01_k».proof.Proof.Gen.Kernel11.Points
public import proofs.«01_k».proof.Proof.Gen.Kernel11.Frame
public import proofs.«01_k».proof.Proof.Gen.Kernel11Ideal
public import proofs.«01_k».proof.Proof.Gen.Kernel11Ideal.Skeleton
public import proofs.«01_k».proof.Proof.Gen.Kernel11Ideal.Launch
public import proofs.«01_k».proof.Proof.Gen.Kernel11Ideal.Points
public import proofs.«01_k».proof.Proof.Gen.Kernel11Ideal.Frame
public import proofs.«01_k».proof.Proof.Gen.Reference11Ideal
public import proofs.«01_k».proof.Proof.Gen.Kernel12
public import proofs.«01_k».proof.Proof.Gen.Kernel12.Skeleton
public import proofs.«01_k».proof.Proof.Gen.Kernel12.Launch
public import proofs.«01_k».proof.Proof.Gen.Kernel12.Points
public import proofs.«01_k».proof.Proof.Gen.Kernel12.Frame
public import proofs.«01_k».proof.Proof.Gen.Kernel12Ideal
public import proofs.«01_k».proof.Proof.Gen.Kernel12Ideal.Skeleton
public import proofs.«01_k».proof.Proof.Gen.Kernel12Ideal.Launch
public import proofs.«01_k».proof.Proof.Gen.Kernel12Ideal.Points
public import proofs.«01_k».proof.Proof.Gen.Kernel12Ideal.Frame
public import proofs.«01_k».proof.Proof.Gen.Reference12Ideal
public import proofs.«01_k».proof.Proof.Gen.Kernel13
public import proofs.«01_k».proof.Proof.Gen.Kernel13.Skeleton
public import proofs.«01_k».proof.Proof.Gen.Kernel13.Launch
public import proofs.«01_k».proof.Proof.Gen.Kernel13.Points
public import proofs.«01_k».proof.Proof.Gen.Kernel13.Frame
public import proofs.«01_k».proof.Proof.Gen.Kernel13Ideal
public import proofs.«01_k».proof.Proof.Gen.Kernel13Ideal.Skeleton
public import proofs.«01_k».proof.Proof.Gen.Kernel13Ideal.Launch
public import proofs.«01_k».proof.Proof.Gen.Kernel13Ideal.Points
public import proofs.«01_k».proof.Proof.Gen.Kernel13Ideal.Frame
public import proofs.«01_k».proof.Proof.Gen.Reference13Ideal
public import proofs.«01_k».proof.Proof.Gen.Kernel15
public import proofs.«01_k».proof.Proof.Gen.Kernel15.Skeleton
public import proofs.«01_k».proof.Proof.Gen.Kernel15.Launch
public import proofs.«01_k».proof.Proof.Gen.Kernel15.Points
public import proofs.«01_k».proof.Proof.Gen.Kernel15.Frame
public import proofs.«01_k».proof.Proof.Gen.Kernel15Ideal
public import proofs.«01_k».proof.Proof.Gen.Kernel15Ideal.Skeleton
public import proofs.«01_k».proof.Proof.Gen.Kernel15Ideal.Launch
public import proofs.«01_k».proof.Proof.Gen.Kernel15Ideal.Points
public import proofs.«01_k».proof.Proof.Gen.Kernel15Ideal.Frame
public import proofs.«01_k».proof.Proof.Gen.Reference15Ideal
public import proofs.«01_k».proof.Proof.Gen.Kernel16
public import proofs.«01_k».proof.Proof.Gen.Kernel16.Skeleton
public import proofs.«01_k».proof.Proof.Gen.Kernel16.Launch
public import proofs.«01_k».proof.Proof.Gen.Kernel16.Points
public import proofs.«01_k».proof.Proof.Gen.Kernel16.Frame
public import proofs.«01_k».proof.Proof.Gen.Kernel16Ideal
public import proofs.«01_k».proof.Proof.Gen.Kernel16Ideal.Skeleton
public import proofs.«01_k».proof.Proof.Gen.Kernel16Ideal.Launch
public import proofs.«01_k».proof.Proof.Gen.Kernel16Ideal.Points
public import proofs.«01_k».proof.Proof.Gen.Kernel16Ideal.Frame
public import proofs.«01_k».proof.Proof.Gen.Reference16Ideal
public import proofs.«01_k».proof.Proof.Gen.Kernel17
public import proofs.«01_k».proof.Proof.Gen.Kernel17.Skeleton
public import proofs.«01_k».proof.Proof.Gen.Kernel17.Launch
public import proofs.«01_k».proof.Proof.Gen.Kernel17.Points
public import proofs.«01_k».proof.Proof.Gen.Kernel17.Frame
public import proofs.«01_k».proof.Proof.Gen.Kernel17Ideal
public import proofs.«01_k».proof.Proof.Gen.Kernel17Ideal.Skeleton
public import proofs.«01_k».proof.Proof.Gen.Kernel17Ideal.Launch
public import proofs.«01_k».proof.Proof.Gen.Kernel17Ideal.Points
public import proofs.«01_k».proof.Proof.Gen.Kernel17Ideal.Frame
public import proofs.«01_k».proof.Proof.Gen.Reference17Ideal
public import proofs.«01_k».proof.Proof.Gen.Kernel19
public import proofs.«01_k».proof.Proof.Gen.Kernel19.Skeleton
public import proofs.«01_k».proof.Proof.Gen.Kernel19.Launch
public import proofs.«01_k».proof.Proof.Gen.Kernel19.Points
public import proofs.«01_k».proof.Proof.Gen.Kernel19.Frame
public import proofs.«01_k».proof.Proof.Gen.Kernel19Ideal
public import proofs.«01_k».proof.Proof.Gen.Kernel19Ideal.Skeleton
public import proofs.«01_k».proof.Proof.Gen.Kernel19Ideal.Launch
public import proofs.«01_k».proof.Proof.Gen.Kernel19Ideal.Points
public import proofs.«01_k».proof.Proof.Gen.Kernel19Ideal.Frame
public import proofs.«01_k».proof.Proof.Gen.Kernel19Ideal.Value
public import proofs.«01_k».proof.Proof.Gen.Reference19Ideal
public import proofs.«01_k».proof.Proof.KernelValue
public import proofs.«01_k».proof.Proof.RefValue
public import proofs.«01_k».proof.Proof.Finite
public import proofs.«01_k».proof.Proof.Products
public import proofs.«01_k».proof.Proof.RmsClaim
public import proofs.«01_k».proof.Proof.LnClaim
public import proofs.«01_k».proof.Proof.LossClaim
public import proofs.«01_k».proof.Proof.Updates
public import proofs.«01_k».proof.Proof.AttClaim
public import Idealize.ShloMosaic.Lib.Quiescent
public import Idealize.ShloMosaic.Adequacy
public import Idealize.ShloMosaic.Init

@[expose] public section

noncomputable section

namespace Cert.Proof

open Idealize.ShloMosaic Idealize.ShloMosaic.TcCoe Idealize.SL.Sem

/-- The reference runs, keeps its arguments and ends with every counter at zero: it has no counter. -/
theorem ref_frame : Cert.quiescent_ReferenceIdeal (hReferenceIdeal := Cert.ReferenceIdeal.Gen.facts) := fun m ρ _ =>
  (θ_run Cert.ReferenceIdeal.defs _ _).mono (fun r h => ⟨fun c => (h c).2.2, sem_eq_zero_of_no_sems (by decide) r.2⟩)
    (Cert.ReferenceIdeal.Value.run m ρ)

section
variable (m : (ℓ : Loc Cert.KernelIdeal.nD Cert.KernelIdeal.τ Cert.KernelIdeal.sig) → Buf (Elt Ideal) ℓ)

/-- Under the precondition every argument is real. -/
theorem all_fin (hp : Cert.Pre_KernelIdeal_finite (hPre_finite := Cert.Pre_finite.Read.facts) m) (c : Dev Cert.KernelIdeal.nD) :
    Cert.ScanMath.AllFin (Cert.KernelIdeal.Scan.aDO m c) (Cert.KernelIdeal.Scan.aWK m c) (Cert.KernelIdeal.Scan.aQD m c)
      (Cert.KernelIdeal.Scan.aKD m c) (Cert.KernelIdeal.Scan.aP m c) (Cert.KernelIdeal.Scan.aG m c) :=
  letI := Cert.Pre_finite.Read.facts
  ⟨Cert.Pre_finite.Read.fin0 (hp c), Cert.Pre_finite.Read.fin1 (hp c), Cert.Pre_finite.Read.fin2 (hp c), Cert.Pre_finite.Read.fin3 (hp c),
    Cert.Pre_finite.Read.fin4 (hp c), Cert.Pre_finite.Read.fin5 (hp c)⟩
end

/-- The kernel and the reference leave the same two arrays. -/
theorem same_results : Cert.algebraic_KernelIdeal_ReferenceIdeal_pre_finite (hKernelIdeal := Cert.KernelIdeal.Gen.facts)
    (hReferenceIdeal := Cert.ReferenceIdeal.Gen.facts) (hPre_finite := Cert.Pre_finite.Read.facts) := by
  intro m g m' g' hp ha
  refine ⟨fun c => (Cert.KernelIdeal.Gen.dats m 0 c).arrAt 6 Cert.KernelIdeal.cfg0.N, fun c => (Cert.KernelIdeal.Gen.dats m 0 c).arrAt 7 Cert.KernelIdeal.cfg0.N,
    Cert.KernelIdeal.Value.run_blocks m g, (θ_run Cert.ReferenceIdeal.defs _ _).mono (fun r h c => ?_) (Cert.ReferenceIdeal.Value.run m' g')⟩
  have e0 : Cert.ReferenceIdeal.Scan.aDO m' c = Cert.KernelIdeal.Scan.aDO m c := by
    funext a b; exact congrFun (ha c).1 (ix2 a b)
  have e1 : Cert.ReferenceIdeal.Scan.aWK m' c = Cert.KernelIdeal.Scan.aWK m c := by
    funext a b; exact congrFun (ha c).2.1 (ix2 a b)
  have e2 : Cert.ReferenceIdeal.Scan.aQD m' c = Cert.KernelIdeal.Scan.aQD m c := by
    funext a b; exact congrFun (ha c).2.2.1 (ix2 a b)
  have e3 : Cert.ReferenceIdeal.Scan.aKD m' c = Cert.KernelIdeal.Scan.aKD m c := by
    funext a b; exact congrFun (ha c).2.2.2.1 (ix2 a b)
  have e4 : Cert.ReferenceIdeal.Scan.aP m' c = Cert.KernelIdeal.Scan.aP m c := by
    funext a b d; exact congrFun (ha c).2.2.2.2.1 (ix3 a b d)
  have e5 : Cert.ReferenceIdeal.Scan.aG m' c = Cert.KernelIdeal.Scan.aG m c := by
    funext a b; exact congrFun (ha c).2.2.2.2.2 (ix2 a b)
  have A := all_fin m hp c
  rw [← e0, ← e1, ← e2, ← e3, ← e4, ← e5] at A
  have es : Cert.ReferenceIdeal.Scan.st m' c = Cert.KernelIdeal.Scan.st m c := by
    funext j
    unfold Cert.ReferenceIdeal.Scan.st Cert.KernelIdeal.Scan.st
    rw [e0, e1, e2, e3, e4, e5]
  refine ⟨(h c).1.trans ?_, (h c).2.1.trans ?_, (h c).2.2⟩
  · refine Eq.trans (funext fun i => ?_) (Cert.KernelIdeal.Scan.dv_array m c).symm
    refine (Cert.ReferenceIdeal.Scan.dv_result m' c A i).trans ?_
    rw [es, e0, e3, e4]
    rfl
  · refine Eq.trans (funext fun i => ?_) (Cert.KernelIdeal.Scan.ds_array m c).symm
    refine (Cert.ReferenceIdeal.Scan.ds_result m' c A i).trans ?_
    rw [es]

/-- The certificate's claims: those of the backward scan, of the products, of the norms' gradients and the loss, of the optimiser's
updates, and of the attention's forward call. -/
theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts, Cert.Kernel3.Gen.facts, Cert.Kernel3Ideal.Gen.facts, Cert.Reference3Ideal.Gen.facts, Cert.Kernel4.Gen.facts, Cert.Kernel4Ideal.Gen.facts, Cert.Reference4Ideal.Gen.facts, Cert.Kernel5.Gen.facts, Cert.Kernel5Ideal.Gen.facts, Cert.Reference5Ideal.Gen.facts, Cert.Kernel6.Gen.facts, Cert.Kernel6Ideal.Gen.facts, Cert.Reference6Ideal.Gen.facts, Cert.Kernel7.Gen.facts, Cert.Kernel7Ideal.Gen.facts, Cert.Reference7Ideal.Gen.facts, Cert.Kernel8.Gen.facts, Cert.Kernel8Ideal.Gen.facts, Cert.Reference8Ideal.Gen.facts, Cert.Kernel9.Gen.facts, Cert.Kernel9Ideal.Gen.facts, Cert.Reference9Ideal.Gen.facts, Cert.Kernel10.Gen.facts, Cert.Kernel10Ideal.Gen.facts, Cert.Reference10Ideal.Gen.facts,
  Cert.Kernel11.Gen.facts, Cert.Kernel11Ideal.Gen.facts, Cert.Reference11Ideal.Gen.facts, Cert.Kernel12.Gen.facts, Cert.Kernel12Ideal.Gen.facts, Cert.Reference12Ideal.Gen.facts, Cert.Kernel13.Gen.facts, Cert.Kernel13Ideal.Gen.facts, Cert.Reference13Ideal.Gen.facts, Cert.Kernel15.Gen.facts, Cert.Kernel15Ideal.Gen.facts, Cert.Reference15Ideal.Gen.facts, Cert.Kernel16.Gen.facts, Cert.Kernel16Ideal.Gen.facts, Cert.Reference16Ideal.Gen.facts, Cert.Kernel17.Gen.facts, Cert.Kernel17Ideal.Gen.facts, Cert.Reference17Ideal.Gen.facts,
  Cert.Kernel19.Gen.facts, Cert.Kernel19Ideal.Gen.facts, Cert.Reference19Ideal.Gen.facts,
  Cert.Pre_finite.Read.facts, Cert.Pre_rms_finite.Read.facts, Cert.Pre_ln_finite.Read.facts, Cert.Pre_loss_finite.Read.facts, Cert.Pre_att_finite.Read.facts,
  fun m ρ _ => Cert.Kernel.Gen.frame m ρ, fun m ρ _ => Cert.KernelIdeal.Gen.frame m ρ, fun m ρ _ => Cert.KernelIdeal.Gen.frame m ρ,
  ref_frame, fun m ρ _ => ref_frame m ρ trivial,
  fun m ρ _ => Cert.Kernel2.Gen.frame m ρ, fun m ρ _ => Cert.Kernel2Ideal.Gen.frame m ρ, Cert.Products.run2,
  fun m ρ _ => Cert.Kernel3.Gen.frame m ρ, fun m ρ _ => Cert.Kernel3Ideal.Gen.frame m ρ, Cert.Products.run3,
  fun m ρ _ => Cert.Kernel4.Gen.frame m ρ, fun m ρ _ => Cert.Kernel4Ideal.Gen.frame m ρ, Cert.Products.run4,
  fun m ρ _ => Cert.Kernel5.Gen.frame m ρ, fun m ρ _ => Cert.Kernel5Ideal.Gen.frame m ρ, Cert.Products.run5,
  fun m ρ _ => Cert.Kernel6.Gen.frame m ρ, fun m ρ _ => Cert.Kernel6Ideal.Gen.frame m ρ, Cert.Products.run6,
  fun m ρ _ => Cert.Kernel7.Gen.frame m ρ, fun m ρ _ => Cert.Kernel7Ideal.Gen.frame m ρ, Cert.Products.run7,
  fun m ρ _ => Cert.Kernel8.Gen.frame m ρ, fun m ρ _ => Cert.Kernel8Ideal.Gen.frame m ρ, Cert.Products.run8,
  fun m ρ _ => Cert.Kernel9.Gen.frame m ρ, fun m ρ _ => Cert.Kernel9Ideal.Gen.frame m ρ, Cert.Products.run9,
  fun m ρ _ => Cert.Kernel10.Gen.frame m ρ, fun m ρ _ => Cert.Kernel10Ideal.Gen.frame m ρ, Cert.Products.run10,
  fun m ρ _ => Cert.Kernel11.Gen.frame m ρ, fun m ρ _ => Cert.Kernel11Ideal.Gen.frame m ρ, fun m ρ _ => Cert.Kernel11Ideal.Gen.frame m ρ,
  Cert.RmsClaim.run, fun m ρ _ => Cert.RmsClaim.run m ρ trivial,
  fun m ρ _ => Cert.Kernel12.Gen.frame m ρ, fun m ρ _ => Cert.Kernel12Ideal.Gen.frame m ρ, fun m ρ _ => Cert.Kernel12Ideal.Gen.frame m ρ,
  Cert.LnClaim.run, fun m ρ _ => Cert.LnClaim.run m ρ trivial,
  fun m ρ _ => Cert.Kernel13.Gen.frame m ρ, fun m ρ _ => Cert.Kernel13Ideal.Gen.frame m ρ, fun m ρ _ => Cert.Kernel13Ideal.Gen.frame m ρ,
  Cert.LossClaim.run, fun m ρ _ => Cert.LossClaim.run m ρ trivial,
  fun m ρ _ => Cert.Kernel15.Gen.frame m ρ, fun m ρ _ => Cert.Kernel15Ideal.Gen.frame m ρ, Cert.Updates.run15,
  fun m ρ _ => Cert.Kernel16.Gen.frame m ρ, fun m ρ _ => Cert.Kernel16Ideal.Gen.frame m ρ, Cert.Updates.run16,
  fun m ρ _ => Cert.Kernel17.Gen.frame m ρ, fun m ρ _ => Cert.Kernel17Ideal.Gen.frame m ρ, Cert.Updates.run17,
  fun m ρ _ => Cert.Kernel19.Gen.frame m ρ, fun m ρ _ => Cert.Kernel19Ideal.Gen.frame m ρ, fun m ρ _ => Cert.Kernel19Ideal.Gen.frame m ρ,
  Cert.AttClaim.run, fun m ρ _ => Cert.AttClaim.run m ρ trivial,
  trivial, same_results,
  trivial, Cert.Products.same2, trivial, Cert.Products.same3, trivial, Cert.Products.same4, trivial, Cert.Products.same5, trivial, Cert.Products.same6, trivial, Cert.Products.same7, trivial, Cert.Products.same8, trivial, Cert.Products.same9, trivial, Cert.Products.same10,
  trivial, Cert.RmsClaim.same, trivial, Cert.LnClaim.same, trivial, Cert.LossClaim.same,
  Cert.Updates.names15, Cert.Updates.same15, Cert.Updates.names16, Cert.Updates.same16, Cert.Updates.names17, Cert.Updates.same17,
  IdealRules.named_const.statement Cert.Kernel19Ideal.κ "mask" .f32 0xF149F2CA#32 ⊥ rfl, Cert.AttClaim.same⟩

end Cert.Proof

end
